-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "keep" .f32 0x7149F2CA#32 ⊤

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v56_0)) (v1 : (c : Dev Cert.Kernel2Ideal.nD) → Buf (Elt Ideal) ((c.tc : Thread Cert.Kernel2Ideal.nD Cert.Kernel2Ideal.τ).loc Cert.Kernel2Ideal.main_v56_1)) (v2 : (c : Dev Cert.Kernel2Ideal.nD) → Buf (Elt Ideal) ((c.tc : Thread Cert.Kernel2Ideal.nD Cert.Kernel2Ideal.τ).loc Cert.Kernel2Ideal.main_v56_2)) (v3 : (c : Dev Cert.Kernel2Ideal.nD) → Buf (Elt Ideal) ((c.tc : Thread Cert.Kernel2Ideal.nD Cert.Kernel2Ideal.τ).loc Cert.Kernel2Ideal.main_v56_3)) (v4 : (c : Dev Cert.Kernel2Ideal.nD) → Buf (Elt Ideal) ((c.tc : Thread Cert.Kernel2Ideal.nD Cert.Kernel2Ideal.τ).loc Cert.Kernel2Ideal.main_v56_4)) (v5 : (c : Dev Cert.Kernel2Ideal.nD) → Buf (Elt Ideal) ((c.tc : Thread Cert.Kernel2Ideal.nD Cert.Kernel2Ideal.τ).loc Cert.Kernel2Ideal.main_v56_5)) (v6 : (c : Dev Cert.Kernel2Ideal.nD) → Buf (Elt Ideal) ((c.tc : Thread Cert.Kernel2Ideal.nD Cert.Kernel2Ideal.τ).loc Cert.Kernel2Ideal.main_v56_6)) (v7 : (c : Dev Cert.Kernel2Ideal.nD) → Buf (Elt Ideal) ((c.tc : Thread Cert.Kernel2Ideal.nD Cert.Kernel2Ideal.τ).loc Cert.Kernel2Ideal.main_v56_7)) (v8 : (c : Dev Cert.Kernel2Ideal.nD) → Buf (Elt Ideal) ((c.tc : Thread Cert.Kernel2Ideal.nD Cert.Kernel2Ideal.τ).loc Cert.Kernel2Ideal.main_v56_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v56_0) = v0 c
          ∧ r.2.mem ((c.tc : Thread Cert.Kernel2Ideal.nD Cert.Kernel2Ideal.τ).loc Cert.Kernel2Ideal.main_v56_1) = v1 c
          ∧ r.2.mem ((c.tc : Thread Cert.Kernel2Ideal.nD Cert.Kernel2Ideal.τ).loc Cert.Kernel2Ideal.main_v56_2) = v2 c
          ∧ r.2.mem ((c.tc : Thread Cert.Kernel2Ideal.nD Cert.Kernel2Ideal.τ).loc Cert.Kernel2Ideal.main_v56_3) = v3 c
          ∧ r.2.mem ((c.tc : Thread Cert.Kernel2Ideal.nD Cert.Kernel2Ideal.τ).loc Cert.Kernel2Ideal.main_v56_4) = v4 c
          ∧ r.2.mem ((c.tc : Thread Cert.Kernel2Ideal.nD Cert.Kernel2Ideal.τ).loc Cert.Kernel2Ideal.main_v56_5) = v5 c
          ∧ r.2.mem ((c.tc : Thread Cert.Kernel2Ideal.nD Cert.Kernel2Ideal.τ).loc Cert.Kernel2Ideal.main_v56_6) = v6 c
          ∧ r.2.mem ((c.tc : Thread Cert.Kernel2Ideal.nD Cert.Kernel2Ideal.τ).loc Cert.Kernel2Ideal.main_v56_7) = v7 c
          ∧ r.2.mem ((c.tc : Thread Cert.Kernel2Ideal.nD Cert.Kernel2Ideal.τ).loc Cert.Kernel2Ideal.main_v56_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v160) = v0 c
          ∧ r.2.mem ((c.tc : Thread Cert.Reference2Ideal.nD Cert.Reference2Ideal.τ).loc Cert.Reference2Ideal.main_v162) = v1 c
          ∧ r.2.mem ((c.tc : Thread Cert.Reference2Ideal.nD Cert.Reference2Ideal.τ).loc Cert.Reference2Ideal.main_v166) = v2 c
          ∧ r.2.mem ((c.tc : Thread Cert.Reference2Ideal.nD Cert.Reference2Ideal.τ).loc Cert.Reference2Ideal.main_v168) = v3 c
          ∧ r.2.mem ((c.tc : Thread Cert.Reference2Ideal.nD Cert.Reference2Ideal.τ).loc Cert.Reference2Ideal.main_v170) = v4 c
          ∧ r.2.mem ((c.tc : Thread Cert.Reference2Ideal.nD Cert.Reference2Ideal.τ).loc Cert.Reference2Ideal.main_v172) = v5 c
          ∧ r.2.mem ((c.tc : Thread Cert.Reference2Ideal.nD Cert.Reference2Ideal.τ).loc Cert.Reference2Ideal.main_v176) = v6 c
          ∧ r.2.mem ((c.tc : Thread Cert.Reference2Ideal.nD Cert.Reference2Ideal.τ).loc Cert.Reference2Ideal.main_v178) = v7 c
          ∧ r.2.mem ((c.tc : Thread Cert.Reference2Ideal.nD Cert.Reference2Ideal.τ).loc Cert.Reference2Ideal.main_v180) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v18)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v60_0)) (v1 : (c : Dev Cert.Kernel5Ideal.nD) → Buf (Elt Ideal) ((c.tc : Thread Cert.Kernel5Ideal.nD Cert.Kernel5Ideal.τ).loc Cert.Kernel5Ideal.main_v60_1)) (v2 : (c : Dev Cert.Kernel5Ideal.nD) → Buf (Elt Ideal) ((c.tc : Thread Cert.Kernel5Ideal.nD Cert.Kernel5Ideal.τ).loc Cert.Kernel5Ideal.main_v60_2)) (v3 : (c : Dev Cert.Kernel5Ideal.nD) → Buf (Elt Ideal) ((c.tc : Thread Cert.Kernel5Ideal.nD Cert.Kernel5Ideal.τ).loc Cert.Kernel5Ideal.main_v60_3)) (v4 : (c : Dev Cert.Kernel5Ideal.nD) → Buf (Elt Ideal) ((c.tc : Thread Cert.Kernel5Ideal.nD Cert.Kernel5Ideal.τ).loc Cert.Kernel5Ideal.main_v60_4)) (v5 : (c : Dev Cert.Kernel5Ideal.nD) → Buf (Elt Ideal) ((c.tc : Thread Cert.Kernel5Ideal.nD Cert.Kernel5Ideal.τ).loc Cert.Kernel5Ideal.main_v60_5)) (v6 : (c : Dev Cert.Kernel5Ideal.nD) → Buf (Elt Ideal) ((c.tc : Thread Cert.Kernel5Ideal.nD Cert.Kernel5Ideal.τ).loc Cert.Kernel5Ideal.main_v60_6)) (v7 : (c : Dev Cert.Kernel5Ideal.nD) → Buf (Elt Ideal) ((c.tc : Thread Cert.Kernel5Ideal.nD Cert.Kernel5Ideal.τ).loc Cert.Kernel5Ideal.main_v60_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v60_0) = v0 c
          ∧ r.2.mem ((c.tc : Thread Cert.Kernel5Ideal.nD Cert.Kernel5Ideal.τ).loc Cert.Kernel5Ideal.main_v60_1) = v1 c
          ∧ r.2.mem ((c.tc : Thread Cert.Kernel5Ideal.nD Cert.Kernel5Ideal.τ).loc Cert.Kernel5Ideal.main_v60_2) = v2 c
          ∧ r.2.mem ((c.tc : Thread Cert.Kernel5Ideal.nD Cert.Kernel5Ideal.τ).loc Cert.Kernel5Ideal.main_v60_3) = v3 c
          ∧ r.2.mem ((c.tc : Thread Cert.Kernel5Ideal.nD Cert.Kernel5Ideal.τ).loc Cert.Kernel5Ideal.main_v60_4) = v4 c
          ∧ r.2.mem ((c.tc : Thread Cert.Kernel5Ideal.nD Cert.Kernel5Ideal.τ).loc Cert.Kernel5Ideal.main_v60_5) = v5 c
          ∧ r.2.mem ((c.tc : Thread Cert.Kernel5Ideal.nD Cert.Kernel5Ideal.τ).loc Cert.Kernel5Ideal.main_v60_6) = v6 c
          ∧ r.2.mem ((c.tc : Thread Cert.Kernel5Ideal.nD Cert.Kernel5Ideal.τ).loc Cert.Kernel5Ideal.main_v60_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v162) = v0 c
          ∧ r.2.mem ((c.tc : Thread Cert.Reference5Ideal.nD Cert.Reference5Ideal.τ).loc Cert.Reference5Ideal.main_v164) = v1 c
          ∧ r.2.mem ((c.tc : Thread Cert.Reference5Ideal.nD Cert.Reference5Ideal.τ).loc Cert.Reference5Ideal.main_v168) = v2 c
          ∧ r.2.mem ((c.tc : Thread Cert.Reference5Ideal.nD Cert.Reference5Ideal.τ).loc Cert.Reference5Ideal.main_v169) = v3 c
          ∧ r.2.mem ((c.tc : Thread Cert.Reference5Ideal.nD Cert.Reference5Ideal.τ).loc Cert.Reference5Ideal.main_v170) = v4 c
          ∧ r.2.mem ((c.tc : Thread Cert.Reference5Ideal.nD Cert.Reference5Ideal.τ).loc Cert.Reference5Ideal.main_v174) = v5 c
          ∧ r.2.mem ((c.tc : Thread Cert.Reference5Ideal.nD Cert.Reference5Ideal.τ).loc Cert.Reference5Ideal.main_v176) = v6 c
          ∧ r.2.mem ((c.tc : Thread Cert.Reference5Ideal.nD Cert.Reference5Ideal.τ).loc Cert.Reference5Ideal.main_v178) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16384x512 : Shape := ⟨2, ![16384, 512]⟩
abbrev S8x512x2048 : Shape := ⟨3, ![8, 512, 2048]⟩
abbrev S8x256x2048 : Shape := ⟨3, ![8, 256, 2048]⟩
abbrev S8x128x256 : Shape := ⟨3, ![8, 128, 256]⟩
abbrev S16384x128 : Shape := ⟨2, ![16384, 128]⟩
abbrev S2048x1 : Shape := ⟨2, ![2048, 1]⟩
abbrev S_ : Shape := ⟨0, ![]⟩
abbrev S1x256 : Shape := ⟨2, ![1, 256]⟩
abbrev S2048x256 : Shape := ⟨2, ![2048, 256]⟩
abbrev S1x2048x256 : Shape := ⟨3, ![1, 2048, 256]⟩
abbrev S1x768 : Shape := ⟨2, ![1, 768]⟩
abbrev S2048x768 : Shape := ⟨2, ![2048, 768]⟩
abbrev S128x2048 : Shape := ⟨2, ![128, 2048]⟩
abbrev S256x512 : Shape := ⟨2, ![256, 512]⟩
abbrev S1x256x2048 : Shape := ⟨3, ![1, 256, 2048]⟩
abbrev S1x128x256 : Shape := ⟨3, ![1, 128, 256]⟩
abbrev S256x128 : Shape := ⟨2, ![256, 128]⟩
abbrev S256x2048 : Shape := ⟨2, ![256, 2048]⟩
abbrev S256x2560 : Shape := ⟨2, ![256, 2560]⟩
abbrev S128x2560 : Shape := ⟨2, ![128, 2560]⟩
abbrev S2048x2048 : Shape := ⟨2, ![2048, 2048]⟩
abbrev S2048x128 : Shape := ⟨2, ![2048, 128]⟩
abbrev S2x256x128 : Shape := ⟨3, ![2, 256, 128]⟩
abbrev S1x128x2048 : Shape := ⟨3, ![1, 128, 2048]⟩
abbrev S16x512 : Shape := ⟨2, ![16, 512]⟩
abbrev S128x512 : Shape := ⟨2, ![128, 512]⟩
abbrev S128x256 : Shape := ⟨2, ![128, 256]⟩
abbrev S128x128 : Shape := ⟨2, ![128, 128]⟩
abbrev S1x128 : Shape := ⟨2, ![1, 128]⟩
abbrev S2048 : Shape := ⟨1, ![2048]⟩
abbrev S32x256 : Shape := ⟨2, ![32, 256]⟩
abbrev S96x256 : Shape := ⟨2, ![96, 256]⟩
abbrev S1x256x128 : Shape := ⟨3, ![1, 256, 128]⟩
abbrev S2048x512 : Shape := ⟨2, ![2048, 512]⟩
abbrev S256x256 : Shape := ⟨2, ![256, 256]⟩
abbrev S256x768 : Shape := ⟨2, ![256, 768]⟩
abbrev S128x768 : Shape := ⟨2, ![128, 768]⟩
abbrev S256x1 : Shape := ⟨2, ![256, 1]⟩

abbrev nBuf : Space → Nat
  | .hbm => 80
  | .vmem => 24
  | .smem => 0
  | _ => 0

abbrev bufTy : (tb : Table) → Fin (tcTables nBuf tb) → BufTy
  | .hbm, ⟨0, _⟩ => ⟨S16384x512, .bf16⟩
  | .hbm, ⟨1, _⟩ => ⟨S8x512x2048, .f32⟩
  | .hbm, ⟨2, _⟩ => ⟨S8x256x2048, .f32⟩
  | .hbm, ⟨3, _⟩ => ⟨S8x128x256, .f32⟩
  | .hbm, ⟨4, _⟩ => ⟨S16384x128, .f32⟩
  | .hbm, ⟨5, _⟩ => ⟨S2048x1, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S2048x1, .i32⟩
  | .hbm, ⟨13, _⟩ => ⟨S2048x1, .i32⟩
  | .hbm, ⟨14, _⟩ => ⟨S_, .i32⟩
  | .hbm, ⟨15, _⟩ => ⟨S2048x1, .i32⟩
  | .hbm, ⟨16, _⟩ => ⟨S2048x1, .i1⟩
  | .hbm, ⟨17, _⟩ => ⟨S_, .i32⟩
  | .hbm, ⟨18, _⟩ => ⟨S2048x1, .i32⟩
  | .hbm, ⟨19, _⟩ => ⟨S2048x1, .i1⟩
  | .hbm, ⟨20, _⟩ => ⟨S_, .i32⟩
  | .hbm, ⟨21, _⟩ => ⟨S_, .i1⟩
  | .hbm, ⟨22, _⟩ => ⟨S2048x1, .i1⟩
  | .hbm, ⟨23, _⟩ => ⟨S2048x1, .i1⟩
  | .hbm, ⟨24, _⟩ => ⟨S2048x1, .i1⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S1x256, .i32⟩
  | .hbm, ⟨29, _⟩ => ⟨S2048x256, .i32⟩
  | .hbm, ⟨30, _⟩ => ⟨S2048x256, .i32⟩
  | .hbm, ⟨31, _⟩ => ⟨S2048x256, .i1⟩
  | .hbm, ⟨32, _⟩ => ⟨S_, .f32⟩
  | .hbm, ⟨33, _⟩ => ⟨S_, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S1x2048x256, .f32⟩
  | .hbm, ⟨38, _⟩ => ⟨S1x2048x256, .f32⟩
  | .hbm, ⟨39, _⟩ => ⟨S1x768, .i32⟩
  | .hbm, ⟨40, _⟩ => ⟨S_, .i32⟩
  | .hbm, ⟨41, _⟩ => ⟨S1x768, .i32⟩
  | .hbm, ⟨42, _⟩ => ⟨S1x768, .i32⟩
  | .hbm, ⟨43, _⟩ => ⟨S2048x768, .i32⟩
  | .hbm, ⟨44, _⟩ => ⟨S2048x768, .i32⟩
  | .hbm, ⟨45, _⟩ => ⟨S2048x768, .i1⟩
  | .hbm, ⟨46, _⟩ => ⟨S2048x768, .i32⟩
  | .hbm, ⟨47, _⟩ => ⟨S2048x768, .i32⟩
  | .hbm, ⟨48, _⟩ => ⟨S2048x768, .i1⟩
  | .hbm, ⟨49, _⟩ => ⟨S2048x768, .i1⟩
  | .hbm, ⟨50, _⟩ => ⟨S_, .f32⟩
  | .hbm, ⟨51, _⟩ => ⟨S_, .f32⟩
  | .hbm, ⟨52, _⟩ => ⟨S2048x768, .f32⟩
  | .hbm, ⟨53, _⟩ => ⟨S2048x768, .f32⟩
  | .hbm, ⟨54, _⟩ => ⟨S2048x768, .f32⟩
  | .hbm, ⟨55, _⟩ => ⟨S2048x768, .f32⟩
  | .hbm, ⟨56, _⟩ => ⟨S128x2048, .i32⟩
  | .hbm, ⟨57, _⟩ => ⟨S_, .i32⟩
  | .hbm, ⟨58, _⟩ => ⟨S_, .i32⟩
  | .hbm, ⟨59, _⟩ => ⟨S128x2048, .i32⟩
  | .hbm, ⟨60, _⟩ => ⟨S128x2048, .i32⟩
  | .hbm, ⟨61, _⟩ => ⟨S128x2048, .i32⟩
  | .hbm, ⟨62, _⟩ => ⟨S_, .i32⟩
  | .hbm, ⟨63, _⟩ => ⟨S128x2048, .i32⟩
  | .hbm, ⟨64, _⟩ => ⟨S128x2048, .i1⟩
  | .hbm, ⟨65, _⟩ => ⟨S128x2048, .i32⟩
  | .hbm, ⟨66, _⟩ => ⟨S128x2048, .i32⟩
  | .hbm, ⟨67, _⟩ => ⟨S_, .i32⟩
  | .hbm, ⟨68, _⟩ => ⟨S128x2048, .i32⟩
  | .hbm, ⟨69, _⟩ => ⟨S128x2048, .i1⟩
  | .hbm, ⟨70, _⟩ => ⟨S128x2048, .i1⟩
  | .hbm, ⟨71, _⟩ => ⟨S_, .i32⟩
  | .hbm, ⟨72, _⟩ => ⟨S128x2048, .i32⟩
  | .hbm, ⟨73, _⟩ => ⟨S128x2048, .i32⟩
  | .hbm, ⟨74, _⟩ => ⟨S128x2048, .i32⟩
  | .hbm, ⟨75, _⟩ => ⟨S128x2048, .i32⟩
  | .hbm, ⟨76, _⟩ => ⟨S128x2048, .i1⟩
  | .hbm, ⟨77, _⟩ => ⟨S128x2048, .f32⟩
  | .hbm, ⟨78, _⟩ => ⟨S128x2048, .bf16⟩
  | .hbm, ⟨79, _⟩ => ⟨S16384x512, .f32⟩
  | .local _ .vmem, ⟨0, _⟩ => ⟨S256x512, .bf16⟩
  | .local _ .vmem, ⟨1, _⟩ => ⟨S256x512, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x128x256, .f32⟩
  | .local _ .vmem, ⟨7, _⟩ => ⟨S1x128x256, .f32⟩
  | .local _ .vmem, ⟨8, _⟩ => ⟨S256x128, .f32⟩
  | .local _ .vmem, ⟨9, _⟩ => ⟨S256x128, .f32⟩
  | .local _ .vmem, ⟨10, _⟩ => ⟨S128x2048, .bf16⟩
  | .local _ .vmem, ⟨11, _⟩ => ⟨S1x2048x256, .f32⟩
  | .local _ .vmem, ⟨12, _⟩ => ⟨S2048x768, .f32⟩
  | .local _ .vmem, ⟨13, _⟩ => ⟨S256x512, .f32⟩
  | .local _ .vmem, ⟨14, _⟩ => ⟨S256x512, .f32⟩
  | .local _ .vmem, ⟨15, _⟩ => ⟨S256x2048, .bf16⟩
  | .local _ .vmem, ⟨16, _⟩ => ⟨S128x2048, .bf16⟩
  | .local _ .vmem, ⟨17, _⟩ => ⟨S256x2560, .bf16⟩
  | .local _ .vmem, ⟨18, _⟩ => ⟨S128x2560, .bf16⟩
  | .local _ .vmem, ⟨19, _⟩ => ⟨S2048x2048, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2x256x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_c_1 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_cst_3 : Ref sig .tc := ⟨.hbm, 51, rfl⟩
abbrev main_call2_v0 : Ref sig .tc := ⟨.hbm, 52, rfl⟩
abbrev main_call2_v1 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_c_4 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_c : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_0 : Ref sig .tc := ⟨.hbm, 71, rfl⟩
abbrev main_call3_v12 : Ref sig .tc := ⟨.hbm, 72, rfl⟩
abbrev main_call3_v13 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
@[reducible] def k0_t1_loop (i : grid0.Coords) : Scf.Loop 32 :=
  let c0_i32_76 : BitVec 32 := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c0_i32_69 : BitVec 32 := 0#32
  let v192 : BitVec 1 := Scalar.cmpi .sgt v159 c0_i32_69
  let v193 : BitVec 32 := Scalar.extui v192
  let c0_i32_70 : BitVec 32 := 0#32
  let v194 : BitVec 1 := Scalar.cmpi .slt v159 c0_i32_70
  let v195 : BitVec 32 := Scalar.extui v194
  let v196 : BitVec 32 := Scalar.subi v193 v195
  let c2_i32 : BitVec 32 := 2#32
  let c0_i32_71 : BitVec 32 := 0#32
  let v197 : BitVec 1 := Scalar.cmpi .sgt c2_i32 c0_i32_71
  let v198 : BitVec 32 := Scalar.extui v197
  let c0_i32_72 : BitVec 32 := 0#32
  let v199 : BitVec 1 := Scalar.cmpi .slt c2_i32 c0_i32_72
  let v200 : BitVec 32 := Scalar.extui v199
  let v201 : BitVec 32 := Scalar.subi v198 v200
  let v202 : BitVec 1 := Scalar.cmpi .ne v196 v201
  let v203 : BitVec 32 := Scalar.remsi v159 c2_i32
  let c0_i32_73 : BitVec 32 := 0#32
  let v204 : BitVec 1 := Scalar.cmpi .ne v203 c0_i32_73
  let v205 : BitVec 1 := Scalar.andi v202 v204
  let v191 : BitVec 32 := Scalar.divsi v159 c2_i32
  let c1_i32_74 : BitVec 32 := 1#32
  let v206 : BitVec 32 := Scalar.subi v191 c1_i32_74
  let v207 : BitVec 32 := Scalar.select v205 v206 v191
  let v208 : BitVec 32 := Scalar.subi v207 c0_i32_76
  let c1_i32_77 : BitVec 32 := 1#32
  let v210 : BitVec 32 := Scalar.divsi v208 c1_i32_77
  let v211 : BitVec 32 := Scalar.muli v210 c1_i32_77
  let v212 : BitVec 32 := Scalar.addi c0_i32_76 v211
  let c1_i32_78 : BitVec 32 := 1#32
  ⟨c0_i32_76, v212, c1_i32_78⟩
def k0_mult2 (i : grid0.Coords) (k0_t1 : Fin (k0_t1_loop i).trips) : BitVec 32 :=
  let c0_i32_76 : BitVec 32 := 0#32
  let c1_i32_78 : BitVec 32 := 1#32
  let arg20 : BitVec 32 := Scf.iv c0_i32_76 c1_i32_78 k0_t1
  let c2_i32_152 : BitVec 32 := 2#32
  let v452 : BitVec 32 := Scalar.muli arg20 c2_i32_152
  let c256_i32_153 : BitVec 32 := 256#32
  let v453 : BitVec 32 := Scalar.muli v452 c256_i32_153
  v453
def k0_off1 (i : grid0.Coords) (k0_t1 : Fin (k0_t1_loop i).trips) : Fin 2 → Nat :=
  let c0_154 : Index := 0#32
  let c0_i32_76 : BitVec 32 := 0#32
  let c1_i32_78 : BitVec 32 := 1#32
  let arg20 : BitVec 32 := Scf.iv c0_i32_76 c1_i32_78 k0_t1
  let c2_i32_152 : BitVec 32 := 2#32
  let v452 : BitVec 32 := Scalar.muli arg20 c2_i32_152
  let c256_i32_153 : BitVec 32 := 256#32
  let v453 : BitVec 32 := Scalar.muli v452 c256_i32_153
  let v454 : BitVec 32 := v453
  let v455 : Index := Scalar.indexCast v454
  ![0, v455.toNat]
def k0_off2 (i : grid0.Coords) (k0_t1 : Fin (k0_t1_loop i).trips) : Fin 2 → Nat :=
  let c0_156 : Index := 0#32
  let c0_i32_76 : BitVec 32 := 0#32
  let c1_i32_78 : BitVec 32 := 1#32
  let arg20 : BitVec 32 := Scf.iv c0_i32_76 c1_i32_78 k0_t1
  let c2_i32_152 : BitVec 32 := 2#32
  let v452 : BitVec 32 := Scalar.muli arg20 c2_i32_152
  let c256_i32_153 : BitVec 32 := 256#32
  let v453 : BitVec 32 := Scalar.muli v452 c256_i32_153
  let v454 : BitVec 32 := v453
  let v458 : Index := Scalar.indexCast v454
  ![0, v458.toNat]
@[reducible] def k0_t2_loop (i : grid0.Coords) : Scf.Loop 32 :=
  let c0_i32_76 : BitVec 32 := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c0_i32_69 : BitVec 32 := 0#32
  let v192 : BitVec 1 := Scalar.cmpi .sgt v159 c0_i32_69
  let v193 : BitVec 32 := Scalar.extui v192
  let c0_i32_70 : BitVec 32 := 0#32
  let v194 : BitVec 1 := Scalar.cmpi .slt v159 c0_i32_70
  let v195 : BitVec 32 := Scalar.extui v194
  let v196 : BitVec 32 := Scalar.subi v193 v195
  let c2_i32 : BitVec 32 := 2#32
  let c0_i32_71 : BitVec 32 := 0#32
  let v197 : BitVec 1 := Scalar.cmpi .sgt c2_i32 c0_i32_71
  let v198 : BitVec 32 := Scalar.extui v197
  let c0_i32_72 : BitVec 32 := 0#32
  let v199 : BitVec 1 := Scalar.cmpi .slt c2_i32 c0_i32_72
  let v200 : BitVec 32 := Scalar.extui v199
  let v201 : BitVec 32 := Scalar.subi v198 v200
  let v202 : BitVec 1 := Scalar.cmpi .ne v196 v201
  let v203 : BitVec 32 := Scalar.remsi v159 c2_i32
  let c0_i32_73 : BitVec 32 := 0#32
  let v204 : BitVec 1 := Scalar.cmpi .ne v203 c0_i32_73
  let v205 : BitVec 1 := Scalar.andi v202 v204
  let v191 : BitVec 32 := Scalar.divsi v159 c2_i32
  let c1_i32_74 : BitVec 32 := 1#32
  let v206 : BitVec 32 := Scalar.subi v191 c1_i32_74
  let v207 : BitVec 32 := Scalar.select v205 v206 v191
  let v208 : BitVec 32 := Scalar.subi v207 c0_i32_76
  let c1_i32_77 : BitVec 32 := 1#32
  let v210 : BitVec 32 := Scalar.divsi v208 c1_i32_77
  let v211 : BitVec 32 := Scalar.muli v210 c1_i32_77
  let v212 : BitVec 32 := Scalar.addi c0_i32_76 v211
  let v209 : BitVec 32 := Scalar.addi c0_i32_76 v208
  let c1_i32_79 : BitVec 32 := 1#32
  ⟨v212, v209, c1_i32_79⟩
def k0_mult3 (i : grid0.Coords) (k0_t2 : Fin (k0_t2_loop i).trips) : BitVec 32 :=
  let c0_i32_76 : BitVec 32 := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c0_i32_69 : BitVec 32 := 0#32
  let v192 : BitVec 1 := Scalar.cmpi .sgt v159 c0_i32_69
  let v193 : BitVec 32 := Scalar.extui v192
  let c0_i32_70 : BitVec 32 := 0#32
  let v194 : BitVec 1 := Scalar.cmpi .slt v159 c0_i32_70
  let v195 : BitVec 32 := Scalar.extui v194
  let v196 : BitVec 32 := Scalar.subi v193 v195
  let c2_i32 : BitVec 32 := 2#32
  let c0_i32_71 : BitVec 32 := 0#32
  let v197 : BitVec 1 := Scalar.cmpi .sgt c2_i32 c0_i32_71
  let v198 : BitVec 32 := Scalar.extui v197
  let c0_i32_72 : BitVec 32 := 0#32
  let v199 : BitVec 1 := Scalar.cmpi .slt c2_i32 c0_i32_72
  let v200 : BitVec 32 := Scalar.extui v199
  let v201 : BitVec 32 := Scalar.subi v198 v200
  let v202 : BitVec 1 := Scalar.cmpi .ne v196 v201
  let v203 : BitVec 32 := Scalar.remsi v159 c2_i32
  let c0_i32_73 : BitVec 32 := 0#32
  let v204 : BitVec 1 := Scalar.cmpi .ne v203 c0_i32_73
  let v205 : BitVec 1 := Scalar.andi v202 v204
  let v191 : BitVec 32 := Scalar.divsi v159 c2_i32
  let c1_i32_74 : BitVec 32 := 1#32
  let v206 : BitVec 32 := Scalar.subi v191 c1_i32_74
  let v207 : BitVec 32 := Scalar.select v205 v206 v191
  let v208 : BitVec 32 := Scalar.subi v207 c0_i32_76
  let c1_i32_77 : BitVec 32 := 1#32
  let v210 : BitVec 32 := Scalar.divsi v208 c1_i32_77
  let v211 : BitVec 32 := Scalar.muli v210 c1_i32_77
  let v212 : BitVec 32 := Scalar.addi c0_i32_76 v211
  let c1_i32_79 : BitVec 32 := 1#32
  let arg20 : BitVec 32 := Scf.iv v212 c1_i32_79 k0_t2
  let c2_i32_152 : BitVec 32 := 2#32
  let v452 : BitVec 32 := Scalar.muli arg20 c2_i32_152
  let c256_i32_153 : BitVec 32 := 256#32
  let v453 : BitVec 32 := Scalar.muli v452 c256_i32_153
  v453
def k0_off3 (i : grid0.Coords) (k0_t2 : Fin (k0_t2_loop i).trips) : Fin 2 → Nat :=
  let c0_154 : Index := 0#32
  let c0_i32_76 : BitVec 32 := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c0_i32_69 : BitVec 32 := 0#32
  let v192 : BitVec 1 := Scalar.cmpi .sgt v159 c0_i32_69
  let v193 : BitVec 32 := Scalar.extui v192
  let c0_i32_70 : BitVec 32 := 0#32
  let v194 : BitVec 1 := Scalar.cmpi .slt v159 c0_i32_70
  let v195 : BitVec 32 := Scalar.extui v194
  let v196 : BitVec 32 := Scalar.subi v193 v195
  let c2_i32 : BitVec 32 := 2#32
  let c0_i32_71 : BitVec 32 := 0#32
  let v197 : BitVec 1 := Scalar.cmpi .sgt c2_i32 c0_i32_71
  let v198 : BitVec 32 := Scalar.extui v197
  let c0_i32_72 : BitVec 32 := 0#32
  let v199 : BitVec 1 := Scalar.cmpi .slt c2_i32 c0_i32_72
  let v200 : BitVec 32 := Scalar.extui v199
  let v201 : BitVec 32 := Scalar.subi v198 v200
  let v202 : BitVec 1 := Scalar.cmpi .ne v196 v201
  let v203 : BitVec 32 := Scalar.remsi v159 c2_i32
  let c0_i32_73 : BitVec 32 := 0#32
  let v204 : BitVec 1 := Scalar.cmpi .ne v203 c0_i32_73
  let v205 : BitVec 1 := Scalar.andi v202 v204
  let v191 : BitVec 32 := Scalar.divsi v159 c2_i32
  let c1_i32_74 : BitVec 32 := 1#32
  let v206 : BitVec 32 := Scalar.subi v191 c1_i32_74
  let v207 : BitVec 32 := Scalar.select v205 v206 v191
  let v208 : BitVec 32 := Scalar.subi v207 c0_i32_76
  let c1_i32_77 : BitVec 32 := 1#32
  let v210 : BitVec 32 := Scalar.divsi v208 c1_i32_77
  let v211 : BitVec 32 := Scalar.muli v210 c1_i32_77
  let v212 : BitVec 32 := Scalar.addi c0_i32_76 v211
  let c1_i32_79 : BitVec 32 := 1#32
  let arg20 : BitVec 32 := Scf.iv v212 c1_i32_79 k0_t2
  let c2_i32_152 : BitVec 32 := 2#32
  let v452 : BitVec 32 := Scalar.muli arg20 c2_i32_152
  let c256_i32_153 : BitVec 32 := 256#32
  let v453 : BitVec 32 := Scalar.muli v452 c256_i32_153
  let v454 : BitVec 32 := v453
  let v455 : Index := Scalar.indexCast v454
  ![0, v455.toNat]
def k0_off4 (i : grid0.Coords) (k0_t2 : Fin (k0_t2_loop i).trips) : Fin 2 → Nat :=
  let c0_156 : Index := 0#32
  let c0_i32_76 : BitVec 32 := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c0_i32_69 : BitVec 32 := 0#32
  let v192 : BitVec 1 := Scalar.cmpi .sgt v159 c0_i32_69
  let v193 : BitVec 32 := Scalar.extui v192
  let c0_i32_70 : BitVec 32 := 0#32
  let v194 : BitVec 1 := Scalar.cmpi .slt v159 c0_i32_70
  let v195 : BitVec 32 := Scalar.extui v194
  let v196 : BitVec 32 := Scalar.subi v193 v195
  let c2_i32 : BitVec 32 := 2#32
  let c0_i32_71 : BitVec 32 := 0#32
  let v197 : BitVec 1 := Scalar.cmpi .sgt c2_i32 c0_i32_71
  let v198 : BitVec 32 := Scalar.extui v197
  let c0_i32_72 : BitVec 32 := 0#32
  let v199 : BitVec 1 := Scalar.cmpi .slt c2_i32 c0_i32_72
  let v200 : BitVec 32 := Scalar.extui v199
  let v201 : BitVec 32 := Scalar.subi v198 v200
  let v202 : BitVec 1 := Scalar.cmpi .ne v196 v201
  let v203 : BitVec 32 := Scalar.remsi v159 c2_i32
  let c0_i32_73 : BitVec 32 := 0#32
  let v204 : BitVec 1 := Scalar.cmpi .ne v203 c0_i32_73
  let v205 : BitVec 1 := Scalar.andi v202 v204
  let v191 : BitVec 32 := Scalar.divsi v159 c2_i32
  let c1_i32_74 : BitVec 32 := 1#32
  let v206 : BitVec 32 := Scalar.subi v191 c1_i32_74
  let v207 : BitVec 32 := Scalar.select v205 v206 v191
  let v208 : BitVec 32 := Scalar.subi v207 c0_i32_76
  let c1_i32_77 : BitVec 32 := 1#32
  let v210 : BitVec 32 := Scalar.divsi v208 c1_i32_77
  let v211 : BitVec 32 := Scalar.muli v210 c1_i32_77
  let v212 : BitVec 32 := Scalar.addi c0_i32_76 v211
  let c1_i32_79 : BitVec 32 := 1#32
  let arg20 : BitVec 32 := Scf.iv v212 c1_i32_79 k0_t2
  let c2_i32_152 : BitVec 32 := 2#32
  let v452 : BitVec 32 := Scalar.muli arg20 c2_i32_152
  let c256_i32_153 : BitVec 32 := 256#32
  let v453 : BitVec 32 := Scalar.muli v452 c256_i32_153
  let v454 : BitVec 32 := v453
  let v458 : Index := Scalar.indexCast v454
  ![0, v458.toNat]
def k0_cond3 (i : grid0.Coords) : BitVec 1 :=
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c2_i32_80 : BitVec 32 := 2#32
  let c0_i32_81 : BitVec 32 := 0#32
  let v213 : BitVec 1 := Scalar.cmpi .eq c2_i32_80 c0_i32_81
  let c1_i32_82 : BitVec 32 := 1#32
  let v214 : BitVec 32 := Scalar.select v213 c1_i32_82 c2_i32_80
  let v215 : BitVec 32 := Scalar.remsi v159 v214
  let c0_i32_84 : BitVec 32 := 0#32
  let v217 : BitVec 1 := Scalar.cmpi .slt v215 c0_i32_84
  let c0_i32_85 : BitVec 32 := 0#32
  let v218 : BitVec 1 := Scalar.cmpi .slt v214 c0_i32_85
  let v219 : BitVec 1 := Scalar.xori v217 v218
  let c0_i32_83 : BitVec 32 := 0#32
  let v216 : BitVec 1 := Scalar.cmpi .ne v215 c0_i32_83
  let v220 : BitVec 1 := Scalar.andi v219 v216
  let v221 : BitVec 32 := Scalar.addi v215 v214
  let v222 : BitVec 32 := Scalar.select v220 v221 v215
  let c1_i32_86 : BitVec 32 := 1#32
  let v223 : BitVec 1 := Scalar.cmpi .eq v222 c1_i32_86
  let v224 : BitVec 32 := Scalar.extui v223
  let c0_i32_87 : BitVec 32 := 0#32
  let v225 : BitVec 1 := Scalar.cmpi .ne v224 c0_i32_87
  v225

def k0_mult4 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c1_i32_152 : BitVec 32 := 1#32
  let v452 : BitVec 32 := Scalar.subi v159 c1_i32_152
  let c256_i32_153 : BitVec 32 := 256#32
  let v453 : BitVec 32 := Scalar.muli v452 c256_i32_153
  v453
def k0_off5 (i : grid0.Coords) : Fin 2 → Nat :=
  let c0_154 : Index := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c1_i32_152 : BitVec 32 := 1#32
  let v452 : BitVec 32 := Scalar.subi v159 c1_i32_152
  let c256_i32_153 : BitVec 32 := 256#32
  let v453 : BitVec 32 := Scalar.muli v452 c256_i32_153
  let v454 : BitVec 32 := v453
  let v455 : Index := Scalar.indexCast v454
  ![0, v455.toNat]
def k0_off6 (i : grid0.Coords) : Fin 2 → Nat :=
  let c0_156 : Index := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c1_i32_152 : BitVec 32 := 1#32
  let v452 : BitVec 32 := Scalar.subi v159 c1_i32_152
  let c256_i32_153 : BitVec 32 := 256#32
  let v453 : BitVec 32 := Scalar.muli v452 c256_i32_153
  let v454 : BitVec 32 := v453
  let v458 : Index := Scalar.indexCast v454
  ![0, v458.toNat]
def k0_mult5 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c256_i32_88 : BitVec 32 := 256#32
  let v226 : BitVec 32 := Scalar.muli v159 c256_i32_88
  v226
def k0_off7 (i : grid0.Coords) : Fin 3 → Nat :=
  let arg1 : BitVec 32 := BitVec.ofNat 32 (i 1).val
  let c256_i32 : BitVec 32 := 256#32
  let v0 : BitVec 32 := Scalar.muli arg1 c256_i32
  let v1 : BitVec 32 := v0
  let c256_i32_53 : BitVec 32 := 256#32
  let c0_i32_54 : BitVec 32 := 0#32
  let v160 : BitVec 1 := Scalar.cmpi .eq c256_i32_53 c0_i32_54
  let c1_i32_55 : BitVec 32 := 1#32
  let v161 : BitVec 32 := Scalar.select v160 c1_i32_55 c256_i32_53
  let v162 : BitVec 32 := Scalar.remsi v1 v161
  let c0_i32_57 : BitVec 32 := 0#32
  let v164 : BitVec 1 := Scalar.cmpi .slt v162 c0_i32_57
  let c0_i32_58 : BitVec 32 := 0#32
  let v165 : BitVec 1 := Scalar.cmpi .slt v161 c0_i32_58
  let v166 : BitVec 1 := Scalar.xori v164 v165
  let c0_i32_56 : BitVec 32 := 0#32
  let v163 : BitVec 1 := Scalar.cmpi .ne v162 c0_i32_56
  let v167 : BitVec 1 := Scalar.andi v166 v163
  let v168 : BitVec 32 := Scalar.addi v162 v161
  let v169 : BitVec 32 := Scalar.select v167 v168 v162
  let c0_i32_60 : BitVec 32 := 0#32
  let v171 : BitVec 1 := Scalar.cmpi .sgt v169 c0_i32_60
  let v172 : BitVec 32 := Scalar.extui v171
  let c0_i32_61 : BitVec 32 := 0#32
  let v173 : BitVec 1 := Scalar.cmpi .slt v169 c0_i32_61
  let v174 : BitVec 32 := Scalar.extui v173
  let v175 : BitVec 32 := Scalar.subi v172 v174
  let c256_i32_59 : BitVec 32 := 256#32
  let c0_i32_62 : BitVec 32 := 0#32
  let v176 : BitVec 1 := Scalar.cmpi .sgt c256_i32_59 c0_i32_62
  let v177 : BitVec 32 := Scalar.extui v176
  let c0_i32_63 : BitVec 32 := 0#32
  let v178 : BitVec 1 := Scalar.cmpi .slt c256_i32_59 c0_i32_63
  let v179 : BitVec 32 := Scalar.extui v178
  let v180 : BitVec 32 := Scalar.subi v177 v179
  let v181 : BitVec 1 := Scalar.cmpi .ne v175 v180
  let v182 : BitVec 32 := Scalar.remsi v169 c256_i32_59
  let c0_i32_64 : BitVec 32 := 0#32
  let v183 : BitVec 1 := Scalar.cmpi .ne v182 c0_i32_64
  let v184 : BitVec 1 := Scalar.andi v181 v183
  let v170 : BitVec 32 := Scalar.divsi v169 c256_i32_59
  let c1_i32_65 : BitVec 32 := 1#32
  let v185 : BitVec 32 := Scalar.subi v170 c1_i32_65
  let v186 : BitVec 32 := Scalar.select v184 v185 v170
  let v228 : Index := Scalar.indexCast v186
  let c0_89 : Index := 0#32
  let c0_90 : Index := 0#32
  ![v228.toNat, 0, 0]
def k0_off8 (i : grid0.Coords) : Fin 2 → Nat :=
  let c0_91 : Index := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c256_i32_88 : BitVec 32 := 256#32
  let v226 : BitVec 32 := Scalar.muli v159 c256_i32_88
  let v227 : BitVec 32 := v226
  let v231 : Index := Scalar.indexCast v227
  ![0, v231.toNat]
def k0_off9 (i : grid0.Coords) : Fin 2 → Nat :=
  let c0_93 : Index := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c256_i32_88 : BitVec 32 := 256#32
  let v226 : BitVec 32 := Scalar.muli v159 c256_i32_88
  let v227 : BitVec 32 := v226
  let v235 : Index := Scalar.indexCast v227
  ![0, v235.toNat]
@[reducible] def k0_t3_loop (i : grid0.Coords) : Scf.Loop 32 :=
  let c0_i32_116 : BitVec 32 := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c1_i32_107 : BitVec 32 := 1#32
  let v260 : BitVec 32 := Scalar.addi v159 c1_i32_107
  let c0_i32_109 : BitVec 32 := 0#32
  let v262 : BitVec 1 := Scalar.cmpi .sgt v260 c0_i32_109
  let v263 : BitVec 32 := Scalar.extui v262
  let c0_i32_110 : BitVec 32 := 0#32
  let v264 : BitVec 1 := Scalar.cmpi .slt v260 c0_i32_110
  let v265 : BitVec 32 := Scalar.extui v264
  let v266 : BitVec 32 := Scalar.subi v263 v265
  let c2_i32_108 : BitVec 32 := 2#32
  let c0_i32_111 : BitVec 32 := 0#32
  let v267 : BitVec 1 := Scalar.cmpi .sgt c2_i32_108 c0_i32_111
  let v268 : BitVec 32 := Scalar.extui v267
  let c0_i32_112 : BitVec 32 := 0#32
  let v269 : BitVec 1 := Scalar.cmpi .slt c2_i32_108 c0_i32_112
  let v270 : BitVec 32 := Scalar.extui v269
  let v271 : BitVec 32 := Scalar.subi v268 v270
  let v272 : BitVec 1 := Scalar.cmpi .ne v266 v271
  let v273 : BitVec 32 := Scalar.remsi v260 c2_i32_108
  let c0_i32_113 : BitVec 32 := 0#32
  let v274 : BitVec 1 := Scalar.cmpi .ne v273 c0_i32_113
  let v275 : BitVec 1 := Scalar.andi v272 v274
  let v261 : BitVec 32 := Scalar.divsi v260 c2_i32_108
  let c1_i32_114 : BitVec 32 := 1#32
  let v276 : BitVec 32 := Scalar.subi v261 c1_i32_114
  let v277 : BitVec 32 := Scalar.select v275 v276 v261
  let v278 : BitVec 32 := Scalar.subi v277 c0_i32_116
  let c1_i32_117 : BitVec 32 := 1#32
  let v280 : BitVec 32 := Scalar.divsi v278 c1_i32_117
  let v281 : BitVec 32 := Scalar.muli v280 c1_i32_117
  let v282 : BitVec 32 := Scalar.addi c0_i32_116 v281
  let c1_i32_118 : BitVec 32 := 1#32
  ⟨c0_i32_116, v282, c1_i32_118⟩
def k0_mult6 (i : grid0.Coords) (k0_t3 : Fin (k0_t3_loop i).trips) : BitVec 32 :=
  let c0_i32_116 : BitVec 32 := 0#32
  let c1_i32_118 : BitVec 32 := 1#32
  let arg20 : BitVec 32 := Scf.iv c0_i32_116 c1_i32_118 k0_t3
  let c2_i32_152 : BitVec 32 := 2#32
  let v452 : BitVec 32 := Scalar.muli arg20 c2_i32_152
  let c256_i32_153 : BitVec 32 := 256#32
  let v453 : BitVec 32 := Scalar.muli v452 c256_i32_153
  v453
def k0_off10 (i : grid0.Coords) (k0_t3 : Fin (k0_t3_loop i).trips) : Fin 2 → Nat :=
  let c0_154 : Index := 0#32
  let c0_i32_116 : BitVec 32 := 0#32
  let c1_i32_118 : BitVec 32 := 1#32
  let arg20 : BitVec 32 := Scf.iv c0_i32_116 c1_i32_118 k0_t3
  let c2_i32_152 : BitVec 32 := 2#32
  let v452 : BitVec 32 := Scalar.muli arg20 c2_i32_152
  let c256_i32_153 : BitVec 32 := 256#32
  let v453 : BitVec 32 := Scalar.muli v452 c256_i32_153
  let v454 : BitVec 32 := v453
  let v455 : Index := Scalar.indexCast v454
  ![0, v455.toNat]
def k0_off11 (i : grid0.Coords) (k0_t3 : Fin (k0_t3_loop i).trips) : Fin 2 → Nat :=
  let c0_161 : Index := 0#32
  let c0_i32_116 : BitVec 32 := 0#32
  let c1_i32_118 : BitVec 32 := 1#32
  let arg20 : BitVec 32 := Scf.iv c0_i32_116 c1_i32_118 k0_t3
  let c2_i32_152 : BitVec 32 := 2#32
  let v452 : BitVec 32 := Scalar.muli arg20 c2_i32_152
  let c256_i32_153 : BitVec 32 := 256#32
  let v453 : BitVec 32 := Scalar.muli v452 c256_i32_153
  let v454 : BitVec 32 := v453
  let v480 : Index := Scalar.indexCast v454
  ![0, v480.toNat]
@[reducible] def k0_t4_loop (i : grid0.Coords) : Scf.Loop 32 :=
  let c0_i32_116 : BitVec 32 := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c1_i32_107 : BitVec 32 := 1#32
  let v260 : BitVec 32 := Scalar.addi v159 c1_i32_107
  let c0_i32_109 : BitVec 32 := 0#32
  let v262 : BitVec 1 := Scalar.cmpi .sgt v260 c0_i32_109
  let v263 : BitVec 32 := Scalar.extui v262
  let c0_i32_110 : BitVec 32 := 0#32
  let v264 : BitVec 1 := Scalar.cmpi .slt v260 c0_i32_110
  let v265 : BitVec 32 := Scalar.extui v264
  let v266 : BitVec 32 := Scalar.subi v263 v265
  let c2_i32_108 : BitVec 32 := 2#32
  let c0_i32_111 : BitVec 32 := 0#32
  let v267 : BitVec 1 := Scalar.cmpi .sgt c2_i32_108 c0_i32_111
  let v268 : BitVec 32 := Scalar.extui v267
  let c0_i32_112 : BitVec 32 := 0#32
  let v269 : BitVec 1 := Scalar.cmpi .slt c2_i32_108 c0_i32_112
  let v270 : BitVec 32 := Scalar.extui v269
  let v271 : BitVec 32 := Scalar.subi v268 v270
  let v272 : BitVec 1 := Scalar.cmpi .ne v266 v271
  let v273 : BitVec 32 := Scalar.remsi v260 c2_i32_108
  let c0_i32_113 : BitVec 32 := 0#32
  let v274 : BitVec 1 := Scalar.cmpi .ne v273 c0_i32_113
  let v275 : BitVec 1 := Scalar.andi v272 v274
  let v261 : BitVec 32 := Scalar.divsi v260 c2_i32_108
  let c1_i32_114 : BitVec 32 := 1#32
  let v276 : BitVec 32 := Scalar.subi v261 c1_i32_114
  let v277 : BitVec 32 := Scalar.select v275 v276 v261
  let v278 : BitVec 32 := Scalar.subi v277 c0_i32_116
  let c1_i32_117 : BitVec 32 := 1#32
  let v280 : BitVec 32 := Scalar.divsi v278 c1_i32_117
  let v281 : BitVec 32 := Scalar.muli v280 c1_i32_117
  let v282 : BitVec 32 := Scalar.addi c0_i32_116 v281
  let v279 : BitVec 32 := Scalar.addi c0_i32_116 v278
  let c1_i32_119 : BitVec 32 := 1#32
  ⟨v282, v279, c1_i32_119⟩
def k0_mult7 (i : grid0.Coords) (k0_t4 : Fin (k0_t4_loop i).trips) : BitVec 32 :=
  let c0_i32_116 : BitVec 32 := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c1_i32_107 : BitVec 32 := 1#32
  let v260 : BitVec 32 := Scalar.addi v159 c1_i32_107
  let c0_i32_109 : BitVec 32 := 0#32
  let v262 : BitVec 1 := Scalar.cmpi .sgt v260 c0_i32_109
  let v263 : BitVec 32 := Scalar.extui v262
  let c0_i32_110 : BitVec 32 := 0#32
  let v264 : BitVec 1 := Scalar.cmpi .slt v260 c0_i32_110
  let v265 : BitVec 32 := Scalar.extui v264
  let v266 : BitVec 32 := Scalar.subi v263 v265
  let c2_i32_108 : BitVec 32 := 2#32
  let c0_i32_111 : BitVec 32 := 0#32
  let v267 : BitVec 1 := Scalar.cmpi .sgt c2_i32_108 c0_i32_111
  let v268 : BitVec 32 := Scalar.extui v267
  let c0_i32_112 : BitVec 32 := 0#32
  let v269 : BitVec 1 := Scalar.cmpi .slt c2_i32_108 c0_i32_112
  let v270 : BitVec 32 := Scalar.extui v269
  let v271 : BitVec 32 := Scalar.subi v268 v270
  let v272 : BitVec 1 := Scalar.cmpi .ne v266 v271
  let v273 : BitVec 32 := Scalar.remsi v260 c2_i32_108
  let c0_i32_113 : BitVec 32 := 0#32
  let v274 : BitVec 1 := Scalar.cmpi .ne v273 c0_i32_113
  let v275 : BitVec 1 := Scalar.andi v272 v274
  let v261 : BitVec 32 := Scalar.divsi v260 c2_i32_108
  let c1_i32_114 : BitVec 32 := 1#32
  let v276 : BitVec 32 := Scalar.subi v261 c1_i32_114
  let v277 : BitVec 32 := Scalar.select v275 v276 v261
  let v278 : BitVec 32 := Scalar.subi v277 c0_i32_116
  let c1_i32_117 : BitVec 32 := 1#32
  let v280 : BitVec 32 := Scalar.divsi v278 c1_i32_117
  let v281 : BitVec 32 := Scalar.muli v280 c1_i32_117
  let v282 : BitVec 32 := Scalar.addi c0_i32_116 v281
  let c1_i32_119 : BitVec 32 := 1#32
  let arg20 : BitVec 32 := Scf.iv v282 c1_i32_119 k0_t4
  let c2_i32_152 : BitVec 32 := 2#32
  let v452 : BitVec 32 := Scalar.muli arg20 c2_i32_152
  let c256_i32_153 : BitVec 32 := 256#32
  let v453 : BitVec 32 := Scalar.muli v452 c256_i32_153
  v453
def k0_off12 (i : grid0.Coords) (k0_t4 : Fin (k0_t4_loop i).trips) : Fin 2 → Nat :=
  let c0_154 : Index := 0#32
  let c0_i32_116 : BitVec 32 := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c1_i32_107 : BitVec 32 := 1#32
  let v260 : BitVec 32 := Scalar.addi v159 c1_i32_107
  let c0_i32_109 : BitVec 32 := 0#32
  let v262 : BitVec 1 := Scalar.cmpi .sgt v260 c0_i32_109
  let v263 : BitVec 32 := Scalar.extui v262
  let c0_i32_110 : BitVec 32 := 0#32
  let v264 : BitVec 1 := Scalar.cmpi .slt v260 c0_i32_110
  let v265 : BitVec 32 := Scalar.extui v264
  let v266 : BitVec 32 := Scalar.subi v263 v265
  let c2_i32_108 : BitVec 32 := 2#32
  let c0_i32_111 : BitVec 32 := 0#32
  let v267 : BitVec 1 := Scalar.cmpi .sgt c2_i32_108 c0_i32_111
  let v268 : BitVec 32 := Scalar.extui v267
  let c0_i32_112 : BitVec 32 := 0#32
  let v269 : BitVec 1 := Scalar.cmpi .slt c2_i32_108 c0_i32_112
  let v270 : BitVec 32 := Scalar.extui v269
  let v271 : BitVec 32 := Scalar.subi v268 v270
  let v272 : BitVec 1 := Scalar.cmpi .ne v266 v271
  let v273 : BitVec 32 := Scalar.remsi v260 c2_i32_108
  let c0_i32_113 : BitVec 32 := 0#32
  let v274 : BitVec 1 := Scalar.cmpi .ne v273 c0_i32_113
  let v275 : BitVec 1 := Scalar.andi v272 v274
  let v261 : BitVec 32 := Scalar.divsi v260 c2_i32_108
  let c1_i32_114 : BitVec 32 := 1#32
  let v276 : BitVec 32 := Scalar.subi v261 c1_i32_114
  let v277 : BitVec 32 := Scalar.select v275 v276 v261
  let v278 : BitVec 32 := Scalar.subi v277 c0_i32_116
  let c1_i32_117 : BitVec 32 := 1#32
  let v280 : BitVec 32 := Scalar.divsi v278 c1_i32_117
  let v281 : BitVec 32 := Scalar.muli v280 c1_i32_117
  let v282 : BitVec 32 := Scalar.addi c0_i32_116 v281
  let c1_i32_119 : BitVec 32 := 1#32
  let arg20 : BitVec 32 := Scf.iv v282 c1_i32_119 k0_t4
  let c2_i32_152 : BitVec 32 := 2#32
  let v452 : BitVec 32 := Scalar.muli arg20 c2_i32_152
  let c256_i32_153 : BitVec 32 := 256#32
  let v453 : BitVec 32 := Scalar.muli v452 c256_i32_153
  let v454 : BitVec 32 := v453
  let v455 : Index := Scalar.indexCast v454
  ![0, v455.toNat]
def k0_off13 (i : grid0.Coords) (k0_t4 : Fin (k0_t4_loop i).trips) : Fin 2 → Nat :=
  let c0_161 : Index := 0#32
  let c0_i32_116 : BitVec 32 := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c1_i32_107 : BitVec 32 := 1#32
  let v260 : BitVec 32 := Scalar.addi v159 c1_i32_107
  let c0_i32_109 : BitVec 32 := 0#32
  let v262 : BitVec 1 := Scalar.cmpi .sgt v260 c0_i32_109
  let v263 : BitVec 32 := Scalar.extui v262
  let c0_i32_110 : BitVec 32 := 0#32
  let v264 : BitVec 1 := Scalar.cmpi .slt v260 c0_i32_110
  let v265 : BitVec 32 := Scalar.extui v264
  let v266 : BitVec 32 := Scalar.subi v263 v265
  let c2_i32_108 : BitVec 32 := 2#32
  let c0_i32_111 : BitVec 32 := 0#32
  let v267 : BitVec 1 := Scalar.cmpi .sgt c2_i32_108 c0_i32_111
  let v268 : BitVec 32 := Scalar.extui v267
  let c0_i32_112 : BitVec 32 := 0#32
  let v269 : BitVec 1 := Scalar.cmpi .slt c2_i32_108 c0_i32_112
  let v270 : BitVec 32 := Scalar.extui v269
  let v271 : BitVec 32 := Scalar.subi v268 v270
  let v272 : BitVec 1 := Scalar.cmpi .ne v266 v271
  let v273 : BitVec 32 := Scalar.remsi v260 c2_i32_108
  let c0_i32_113 : BitVec 32 := 0#32
  let v274 : BitVec 1 := Scalar.cmpi .ne v273 c0_i32_113
  let v275 : BitVec 1 := Scalar.andi v272 v274
  let v261 : BitVec 32 := Scalar.divsi v260 c2_i32_108
  let c1_i32_114 : BitVec 32 := 1#32
  let v276 : BitVec 32 := Scalar.subi v261 c1_i32_114
  let v277 : BitVec 32 := Scalar.select v275 v276 v261
  let v278 : BitVec 32 := Scalar.subi v277 c0_i32_116
  let c1_i32_117 : BitVec 32 := 1#32
  let v280 : BitVec 32 := Scalar.divsi v278 c1_i32_117
  let v281 : BitVec 32 := Scalar.muli v280 c1_i32_117
  let v282 : BitVec 32 := Scalar.addi c0_i32_116 v281
  let c1_i32_119 : BitVec 32 := 1#32
  let arg20 : BitVec 32 := Scf.iv v282 c1_i32_119 k0_t4
  let c2_i32_152 : BitVec 32 := 2#32
  let v452 : BitVec 32 := Scalar.muli arg20 c2_i32_152
  let c256_i32_153 : BitVec 32 := 256#32
  let v453 : BitVec 32 := Scalar.muli v452 c256_i32_153
  let v454 : BitVec 32 := v453
  let v480 : Index := Scalar.indexCast v454
  ![0, v480.toNat]
def k0_cond4 (i : grid0.Coords) : BitVec 1 :=
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c2_i32_120 : BitVec 32 := 2#32
  let c0_i32_121 : BitVec 32 := 0#32
  let v283 : BitVec 1 := Scalar.cmpi .eq c2_i32_120 c0_i32_121
  let c1_i32_122 : BitVec 32 := 1#32
  let v284 : BitVec 32 := Scalar.select v283 c1_i32_122 c2_i32_120
  let v285 : BitVec 32 := Scalar.remsi v159 v284
  let c0_i32_124 : BitVec 32 := 0#32
  let v287 : BitVec 1 := Scalar.cmpi .slt v285 c0_i32_124
  let c0_i32_125 : BitVec 32 := 0#32
  let v288 : BitVec 1 := Scalar.cmpi .slt v284 c0_i32_125
  let v289 : BitVec 1 := Scalar.xori v287 v288
  let c0_i32_123 : BitVec 32 := 0#32
  let v286 : BitVec 1 := Scalar.cmpi .ne v285 c0_i32_123
  let v290 : BitVec 1 := Scalar.andi v289 v286
  let v291 : BitVec 32 := Scalar.addi v285 v284
  let v292 : BitVec 32 := Scalar.select v290 v291 v285
  let c0_i32_126 : BitVec 32 := 0#32
  let v293 : BitVec 1 := Scalar.cmpi .eq v292 c0_i32_126
  let v294 : BitVec 32 := Scalar.extui v293
  let c0_i32_127 : BitVec 32 := 0#32
  let v295 : BitVec 1 := Scalar.cmpi .ne v294 c0_i32_127
  v295

def k0_mult8 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c256_i32_152 : BitVec 32 := 256#32
  let v452 : BitVec 32 := Scalar.muli v159 c256_i32_152
  v452
def k0_off14 (i : grid0.Coords) : Fin 2 → Nat :=
  let c0_153 : Index := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c256_i32_152 : BitVec 32 := 256#32
  let v452 : BitVec 32 := Scalar.muli v159 c256_i32_152
  let v453 : BitVec 32 := v452
  let v454 : Index := Scalar.indexCast v453
  ![0, v454.toNat]
def k0_off15 (i : grid0.Coords) : Fin 2 → Nat :=
  let c0_160 : Index := 0#32
  let arg1 : BitVec 32 := BitVec.ofNat 32 (i 1).val
  let c256_i32 : BitVec 32 := 256#32
  let v0 : BitVec 32 := Scalar.muli arg1 c256_i32
  let v1 : BitVec 32 := v0
  let c0_i32_47 : BitVec 32 := 0#32
  let v144 : BitVec 1 := Scalar.cmpi .sgt v1 c0_i32_47
  let v145 : BitVec 32 := Scalar.extui v144
  let c0_i32_48 : BitVec 32 := 0#32
  let v146 : BitVec 1 := Scalar.cmpi .slt v1 c0_i32_48
  let v147 : BitVec 32 := Scalar.extui v146
  let v148 : BitVec 32 := Scalar.subi v145 v147
  let c256_i32_46 : BitVec 32 := 256#32
  let c0_i32_49 : BitVec 32 := 0#32
  let v149 : BitVec 1 := Scalar.cmpi .sgt c256_i32_46 c0_i32_49
  let v150 : BitVec 32 := Scalar.extui v149
  let c0_i32_50 : BitVec 32 := 0#32
  let v151 : BitVec 1 := Scalar.cmpi .slt c256_i32_46 c0_i32_50
  let v152 : BitVec 32 := Scalar.extui v151
  let v153 : BitVec 32 := Scalar.subi v150 v152
  let v154 : BitVec 1 := Scalar.cmpi .ne v148 v153
  let v155 : BitVec 32 := Scalar.remsi v1 c256_i32_46
  let c0_i32_51 : BitVec 32 := 0#32
  let v156 : BitVec 1 := Scalar.cmpi .ne v155 c0_i32_51
  let v157 : BitVec 1 := Scalar.andi v154 v156
  let v143 : BitVec 32 := Scalar.divsi v1 c256_i32_46
  let c1_i32_52 : BitVec 32 := 1#32
  let v158 : BitVec 32 := Scalar.subi v143 c1_i32_52
  let v159 : BitVec 32 := Scalar.select v157 v158 v143
  let c256_i32_152 : BitVec 32 := 256#32
  let v452 : BitVec 32 := Scalar.muli v159 c256_i32_152
  let v453 : BitVec 32 := v452
  let v471 : Index := Scalar.indexCast v453
  ![0, v471.toNat]
def k0_off16 (i : grid0.Coords) : Fin 2 → Nat :=
  let c0_133 : Index := 0#32
  let arg1 : BitVec 32 := BitVec.ofNat 32 (i 1).val
  let c256_i32 : BitVec 32 := 256#32
  let v0 : BitVec 32 := Scalar.muli arg1 c256_i32
  let v1 : BitVec 32 := v0
  let v302 : Index := Scalar.indexCast v1
  ![0, v302.toNat]
def k0_off17 (i : grid0.Coords) : Fin 2 → Nat :=
  let c0_138 : Index := 0#32
  let arg1 : BitVec 32 := BitVec.ofNat 32 (i 1).val
  let c256_i32 : BitVec 32 := 256#32
  let v0 : BitVec 32 := Scalar.muli arg1 c256_i32
  let v1 : BitVec 32 := v0
  let v314 : Index := Scalar.indexCast v1
  ![0, v314.toNat]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "keep" => some ⊤
  | "mask" => some ⊥
  | _ => none
-- ==== Kernel2.lean ====
abbrev S16384x1024 : Shape := ⟨2, ![16384, 1024]⟩
abbrev S8x1x1024 : Shape := ⟨3, ![8, 1, 1024]⟩
abbrev S1x1024 : Shape := ⟨2, ![1, 1024]⟩
abbrev S1024x4888 : Shape := ⟨2, ![1024, 4888]⟩
abbrev S512 : Shape := ⟨1, ![512]⟩
abbrev S1024x24 : Shape := ⟨2, ![1024, 24]⟩
abbrev S_ : Shape := ⟨0, ![]⟩
abbrev S1024x128 : Shape := ⟨2, ![1024, 128]⟩
abbrev S1024x1024 : Shape := ⟨2, ![1024, 1024]⟩
abbrev S1024x512 : Shape := ⟨2, ![1024, 512]⟩
abbrev S512x1 : Shape := ⟨2, ![512, 1]⟩
abbrev S1024x768 : Shape := ⟨2, ![1024, 768]⟩
abbrev S1024x2048 : Shape := ⟨2, ![1024, 2048]⟩
abbrev S1024x4992 : Shape := ⟨2, ![1024, 4992]⟩
abbrev S768x1024 : Shape := ⟨2, ![768, 1024]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S128x2048 : Shape := ⟨2, ![128, 2048]⟩
abbrev S4x16384x128 : Shape := ⟨3, ![4, 16384, 128]⟩
abbrev S16384x512 : Shape := ⟨2, ![16384, 512]⟩
abbrev S8x512x2048 : Shape := ⟨3, ![8, 512, 2048]⟩
abbrev S8x256x2048 : Shape := ⟨3, ![8, 256, 2048]⟩
abbrev S16384x256 : Shape := ⟨2, ![16384, 256]⟩
abbrev S16384x2048 : Shape := ⟨2, ![16384, 2048]⟩
abbrev S16384x128 : Shape := ⟨2, ![16384, 128]⟩
abbrev S512x1024 : Shape := ⟨2, ![512, 1024]⟩
abbrev S1x1x1024 : Shape := ⟨3, ![1, 1, 1024]⟩
abbrev S512x128 : Shape := ⟨2, ![512, 128]⟩
abbrev S128x512 : Shape := ⟨2, ![128, 512]⟩
abbrev S4x512x128 : Shape := ⟨3, ![4, 512, 128]⟩
abbrev S512x512 : Shape := ⟨2, ![512, 512]⟩
abbrev S1x512x512 : Shape := ⟨3, ![1, 512, 512]⟩
abbrev S1x256x512 : Shape := ⟨3, ![1, 256, 512]⟩
abbrev S512x256 : Shape := ⟨2, ![512, 256]⟩
abbrev S512x2048 : Shape := ⟨2, ![512, 2048]⟩
abbrev S1024x256 : Shape := ⟨2, ![1024, 256]⟩
abbrev S1x512x128 : Shape := ⟨3, ![1, 512, 128]⟩
abbrev S768x512 : Shape := ⟨2, ![768, 512]⟩
abbrev S1x128x512 : Shape := ⟨3, ![1, 128, 512]⟩

abbrev nBuf : Space → Nat
  | .hbm => 82
  | .vmem => 39
  | .smem => 0
  | _ => 0

abbrev bufTy : (tb : Table) → Fin (tcTables nBuf tb) → BufTy
  | .hbm, ⟨0, _⟩ => ⟨S16384x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1024x4888, .f32⟩
  | .hbm, ⟨5, _⟩ => ⟨S512, .i32⟩
  | .hbm, ⟨6, _⟩ => ⟨S512, .i1⟩
  | .hbm, ⟨7, _⟩ => ⟨S512, .i1⟩
  | .hbm, ⟨8, _⟩ => ⟨S1024x24, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x1024, .f32⟩
  | .hbm, ⟨13, _⟩ => ⟨S1024x512, .f32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S512x1, .i32⟩
  | .hbm, ⟨19, _⟩ => ⟨S1024x512, .f32⟩
  | .hbm, ⟨20, _⟩ => ⟨S1024x768, .f32⟩
  | .hbm, ⟨21, _⟩ => ⟨S1024x512, .f32⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S1024x512, .f32⟩
  | .hbm, ⟨28, _⟩ => ⟨S1024x2048, .f32⟩
  | .hbm, ⟨29, _⟩ => ⟨S1024x4992, .f32⟩
  | .hbm, ⟨30, _⟩ => ⟨S1024x4992, .bf16⟩
  | .hbm, ⟨31, _⟩ => ⟨S1024x768, .f32⟩
  | .hbm, ⟨32, _⟩ => ⟨S768x1024, .f32⟩
  | .hbm, ⟨33, _⟩ => ⟨S768x1024, .bf16⟩
  | .hbm, ⟨34, _⟩ => ⟨S2048, .i32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S2048, .f32⟩
  | .hbm, ⟨44, _⟩ => ⟨S2048x1, .f32⟩
  | .hbm, ⟨45, _⟩ => ⟨S1x8, .f32⟩
  | .hbm, ⟨46, _⟩ => ⟨S2048x8, .f32⟩
  | .hbm, ⟨47, _⟩ => ⟨S2048x8, .f32⟩
  | .hbm, ⟨48, _⟩ => ⟨S2048x8, .f32⟩
  | .hbm, ⟨49, _⟩ => ⟨S2048x8, .f32⟩
  | .hbm, ⟨50, _⟩ => ⟨S2048x8, .f32⟩
  | .hbm, ⟨51, _⟩ => ⟨S_, .f32⟩
  | .hbm, ⟨52, _⟩ => ⟨S2048x48, .f32⟩
  | .hbm, ⟨53, _⟩ => ⟨S_, .f32⟩
  | .hbm, ⟨54, _⟩ => ⟨S2048x8, .f32⟩
  | .hbm, ⟨55, _⟩ => ⟨S_, .f32⟩
  | .hbm, ⟨56, _⟩ => ⟨S2048x48, .f32⟩
  | .hbm, ⟨57, _⟩ => ⟨S2048x64, .f32⟩
  | .hbm, ⟨58, _⟩ => ⟨S2048x8, .f32⟩
  | .hbm, ⟨59, _⟩ => ⟨S2048x64, .f32⟩
  | .hbm, ⟨60, _⟩ => ⟨S2048x64, .f32⟩
  | .hbm, ⟨61, _⟩ => ⟨S1x2048x1x64, .f32⟩
  | .hbm, ⟨62, _⟩ => ⟨S1x2048x2x64, .f32⟩
  | .hbm, ⟨63, _⟩ => ⟨S2048x128, .f32⟩
  | .hbm, ⟨64, _⟩ => ⟨S1x2048x1x64, .f32⟩
  | .hbm, ⟨65, _⟩ => ⟨S1x2048x2x64, .f32⟩
  | .hbm, ⟨66, _⟩ => ⟨S2048x128, .f32⟩
  | .hbm, ⟨67, _⟩ => ⟨S1x2048x1x64, .f32⟩
  | .hbm, ⟨68, _⟩ => ⟨S1x2048x2x64, .f32⟩
  | .hbm, ⟨69, _⟩ => ⟨S2048x128, .f32⟩
  | .hbm, ⟨70, _⟩ => ⟨S128x2048, .f32⟩
  | .hbm, ⟨71, _⟩ => ⟨S128x2048, .f32⟩
  | .hbm, ⟨72, _⟩ => ⟨S128x2048, .f32⟩
  | .hbm, ⟨73, _⟩ => ⟨S4x16384x128, .f32⟩
  | .hbm, ⟨74, _⟩ => ⟨S16384x512, .bf16⟩
  | .hbm, ⟨75, _⟩ => ⟨S16384x512, .bf16⟩
  | .hbm, ⟨76, _⟩ => ⟨S8x512x2048, .f32⟩
  | .hbm, ⟨77, _⟩ => ⟨S8x256x2048, .f32⟩
  | .hbm, ⟨78, _⟩ => ⟨S16384x256, .f32⟩
  | .hbm, ⟨79, _⟩ => ⟨S16384x512, .bf16⟩
  | .hbm, ⟨80, _⟩ => ⟨S16384x2048, .bf16⟩
  | .hbm, ⟨81, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x4992, .bf16⟩
  | .local _ .vmem, ⟨8, _⟩ => ⟨S768x1024, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S4x512x128, .f32⟩
  | .local _ .vmem, ⟨22, _⟩ => ⟨S4x512x128, .f32⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S1x512x512, .f32⟩
  | .local _ .vmem, ⟨28, _⟩ => ⟨S1x512x512, .f32⟩
  | .local _ .vmem, ⟨29, _⟩ => ⟨S1x256x512, .f32⟩
  | .local _ .vmem, ⟨30, _⟩ => ⟨S1x256x512, .f32⟩
  | .local _ .vmem, ⟨31, _⟩ => ⟨S512x256, .f32⟩
  | .local _ .vmem, ⟨32, _⟩ => ⟨S512x256, .f32⟩
  | .local _ .vmem, ⟨33, _⟩ => ⟨S512x512, .bf16⟩
  | .local _ .vmem, ⟨34, _⟩ => ⟨S512x512, .bf16⟩
  | .local _ .vmem, ⟨35, _⟩ => ⟨S512x2048, .bf16⟩
  | .local _ .vmem, ⟨36, _⟩ => ⟨S512x2048, .bf16⟩
  | .local _ .vmem, ⟨37, _⟩ => ⟨S512x128, .f32⟩
  | .local _ .vmem, ⟨38, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_c_2 : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56_0 : Ref sig .tc := ⟨.hbm, 73, rfl⟩
abbrev main_v56_1 : Ref sig .tc := ⟨.hbm, 74, rfl⟩
abbrev main_v56_2 : Ref sig .tc := ⟨.hbm, 75, rfl⟩
abbrev main_v56_3 : Ref sig .tc := ⟨.hbm, 76, rfl⟩
abbrev main_v56_4 : Ref sig .tc := ⟨.hbm, 77, rfl⟩
abbrev main_v56_5 : Ref sig .tc := ⟨.hbm, 78, rfl⟩
abbrev main_v56_6 : Ref sig .tc := ⟨.hbm, 79, rfl⟩
abbrev main_v56_7 : Ref sig .tc := ⟨.hbm, 80, rfl⟩
abbrev main_v56_8 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4992 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference2Ideal.lean ====
abbrev S16384x1024 : Shape := ⟨2, ![16384, 1024]⟩
abbrev S8x1x1024 : Shape := ⟨3, ![8, 1, 1024]⟩
abbrev S1x1024 : Shape := ⟨2, ![1, 1024]⟩
abbrev S1024x4888 : Shape := ⟨2, ![1024, 4888]⟩
abbrev S2048 : Shape := ⟨1, ![2048]⟩
abbrev S8x2048x1024 : Shape := ⟨3, ![8, 2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4888 : Shape := ⟨3, ![8, 2048, 4888]⟩
abbrev S8x2048x512 : Shape := ⟨3, ![8, 2048, 512]⟩
abbrev S8x2048x768 : Shape := ⟨3, ![8, 2048, 768]⟩
abbrev S8x2048x24 : Shape := ⟨3, ![8, 2048, 24]⟩
abbrev S8x2048x2048 : Shape := ⟨3, ![8, 2048, 2048]⟩
abbrev S8x2048x8x64 : Shape := ⟨4, ![8, 2048, 8, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x8x8 : Shape := ⟨4, ![8, 2048, 8, 8]⟩
abbrev S1x2048x1x8 : Shape := ⟨4, ![1, 2048, 1, 8]⟩
abbrev S8x2048x8x16 : Shape := ⟨4, ![8, 2048, 8, 16]⟩
abbrev S8x2048x8x48 : Shape := ⟨4, ![8, 2048, 8, 48]⟩
abbrev S8x2048x6x2x64 : Shape := ⟨5, ![8, 2048, 6, 2, 64]⟩
abbrev S8x2048x1x2x64 : Shape := ⟨5, ![8, 2048, 1, 2, 64]⟩
abbrev S8x2048x2x64 : Shape := ⟨4, ![8, 2048, 2, 64]⟩
abbrev S8x2048x2x8 : Shape := ⟨4, ![8, 2048, 2, 8]⟩
abbrev S8x2048x2x16 : Shape := ⟨4, ![8, 2048, 2, 16]⟩
abbrev S8x2048x2x48 : Shape := ⟨4, ![8, 2048, 2, 48]⟩
abbrev S8x2048x4x2x64 : Shape := ⟨5, ![8, 2048, 4, 2, 64]⟩
abbrev S8x2048x2x2x64 : Shape := ⟨5, ![8, 2048, 2, 2, 64]⟩
abbrev S16384x4x128 : Shape := ⟨3, ![16384, 4, 128]⟩
abbrev S4x16384x128 : Shape := ⟨3, ![4, 16384, 128]⟩
abbrev S16384x512 : Shape := ⟨2, ![16384, 512]⟩
abbrev S16384x2x4x64 : Shape := ⟨4, ![16384, 2, 4, 64]⟩
abbrev S16384x4x2x64 : Shape := ⟨4, ![16384, 4, 2, 64]⟩
abbrev S8x4x2x64x2048 : Shape := ⟨5, ![8, 4, 2, 64, 2048]⟩
abbrev S8x512x2048 : Shape := ⟨3, ![8, 512, 2048]⟩
abbrev S8x2x2x64x2048 : Shape := ⟨5, ![8, 2, 2, 64, 2048]⟩
abbrev S8x256x2048 : Shape := ⟨3, ![8, 256, 2048]⟩
abbrev S16384x256 : Shape := ⟨2, ![16384, 256]⟩
abbrev S16384x2048 : Shape := ⟨2, ![16384, 2048]⟩
abbrev S16384x24 : Shape := ⟨2, ![16384, 24]⟩
abbrev S16384x128 : Shape := ⟨2, ![16384, 128]⟩

abbrev nBuf : Space → Nat
  | .hbm => 199
  | .vmem => 0
  | .smem => 0
  | _ => 0

abbrev hbmTy0_0 (i : Nat) : BufTy := match i % 128 with
  | 0 => ⟨S16384x1024, .f32⟩
  | 1 => ⟨S8x1x1024, .f32⟩
  | 2 => ⟨S8x1x1024, .f32⟩
  | 3 => ⟨S1x1024, .f32⟩
  | 4 => ⟨S1024x4888, .f32⟩
  | 5 => ⟨S2048, .i32⟩
  | 6 => ⟨S8x2048x1024, .f32⟩
  | 7 => ⟨S1024, .f32⟩
  | 8 => ⟨S8x2048x1024, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x1024, .f32⟩
  | 20 => ⟨S8x2048x1024, .f32⟩
  | 21 => ⟨S1x1x1024, .f32⟩
  | 22 => ⟨S8x2048x1024, .f32⟩
  | 23 => ⟨S8x2048x1024, .f32⟩
  | 24 => ⟨S_, .f32⟩
  | 25 => ⟨S8x1x1024, .f32⟩
  | 26 => ⟨S8x1x1024, .f32⟩
  | 27 => ⟨S8x2048x1024, .f32⟩
  | 28 => ⟨S8x2048x1024, .f32⟩
  | 29 => ⟨S8x2048x1024, .f32⟩
  | 30 => ⟨S8x2048x1024, .f32⟩
  | 31 => ⟨S8x2048x4888, .f32⟩
  | 32 => ⟨S8x2048x512, .f32⟩
  | 33 => ⟨S8x2048x512, .f32⟩
  | 34 => ⟨S8x2048x512, .f32⟩
  | 35 => ⟨S8x2048x768, .f32⟩
  | 36 => ⟨S8x2048x24, .f32⟩
  | 37 => ⟨S8x2048x512, .f32⟩
  | 38 => ⟨S8x2048x2048, .f32⟩
  | 39 => ⟨S8x2048x8x64, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S2048, .f32⟩
  | 49 => ⟨S2048x1, .f32⟩
  | 50 => ⟨S1x8, .f32⟩
  | 51 => ⟨S2048x8, .f32⟩
  | 52 => ⟨S2048x8, .f32⟩
  | 53 => ⟨S2048x8, .f32⟩
  | 54 => ⟨S2048x8, .f32⟩
  | 55 => ⟨S2048x1x8, .f32⟩
  | 56 => ⟨S2048x8, .f32⟩
  | 57 => ⟨S2048x1x8, .f32⟩
  | 58 => ⟨S8x2048x8x8, .f32⟩
  | 59 => ⟨S8x2048x8x8, .f32⟩
  | 60 => ⟨S1x2048x1x8, .f32⟩
  | 61 => ⟨S8x2048x8x8, .f32⟩
  | 62 => ⟨S8x2048x8x8, .f32⟩
  | 63 => ⟨S1x2048x1x8, .f32⟩
  | 64 => ⟨S8x2048x8x8, .f32⟩
  | 65 => ⟨S8x2048x8x8, .f32⟩
  | 66 => ⟨S8x2048x8x8, .f32⟩
  | 67 => ⟨S1x2048x1x8, .f32⟩
  | 68 => ⟨S8x2048x8x8, .f32⟩
  | 69 => ⟨S8x2048x8x8, .f32⟩
  | 70 => ⟨S1x2048x1x8, .f32⟩
  | 71 => ⟨S8x2048x8x8, .f32⟩
  | 72 => ⟨S8x2048x8x8, .f32⟩
  | 73 => ⟨S8x2048x8x8, .f32⟩
  | 74 => ⟨S8x2048x8x16, .f32⟩
  | 75 => ⟨S8x2048x8x48, .f32⟩
  | 76 => ⟨S8x2048x8x64, .f32⟩
  | 77 => ⟨S_, .f32⟩
  | 78 => ⟨S8x2048x8x64, .f32⟩
  | 79 => ⟨S8x2048x8x64, .f32⟩
  | 80 => ⟨S8x2048x6x2x64, .f32⟩
  | 81 => ⟨S8x2048x1x2x64, .f32⟩
  | 82 => ⟨S8x2048x2x64, .f32⟩
  | 83 => ⟨S8, .f32⟩
  | 84 => ⟨S8, .f32⟩
  | 85 => ⟨S_, .f32⟩
  | 86 => ⟨S8, .f32⟩
  | 87 => ⟨S8, .f32⟩
  | 88 => ⟨S_, .f32⟩
  | 89 => ⟨S8, .f32⟩
  | 90 => ⟨S8, .f32⟩
  | 91 => ⟨S2048, .f32⟩
  | 92 => ⟨S2048x1, .f32⟩
  | 93 => ⟨S1x8, .f32⟩
  | 94 => ⟨S2048x8, .f32⟩
  | 95 => ⟨S2048x8, .f32⟩
  | 96 => ⟨S2048x8, .f32⟩
  | 97 => ⟨S2048x8, .f32⟩
  | 98 => ⟨S2048x1x8, .f32⟩
  | 99 => ⟨S2048x8, .f32⟩
  | 100 => ⟨S2048x1x8, .f32⟩
  | 101 => ⟨S8x2048x2x8, .f32⟩
  | 102 => ⟨S8x2048x2x8, .f32⟩
  | 103 => ⟨S1x2048x1x8, .f32⟩
  | 104 => ⟨S8x2048x2x8, .f32⟩
  | 105 => ⟨S8x2048x2x8, .f32⟩
  | 106 => ⟨S1x2048x1x8, .f32⟩
  | 107 => ⟨S8x2048x2x8, .f32⟩
  | 108 => ⟨S8x2048x2x8, .f32⟩
  | 109 => ⟨S8x2048x2x8, .f32⟩
  | 110 => ⟨S1x2048x1x8, .f32⟩
  | 111 => ⟨S8x2048x2x8, .f32⟩
  | 112 => ⟨S8x2048x2x8, .f32⟩
  | 113 => ⟨S1x2048x1x8, .f32⟩
  | 114 => ⟨S8x2048x2x8, .f32⟩
  | 115 => ⟨S8x2048x2x8, .f32⟩
  | 116 => ⟨S8x2048x2x8, .f32⟩
  | 117 => ⟨S8x2048x2x16, .f32⟩
  | 118 => ⟨S8x2048x2x48, .f32⟩
  | 119 => ⟨S8x2048x2x64, .f32⟩
  | 120 => ⟨S8x2048x1x2x64, .f32⟩
  | 121 => ⟨S8x2048x2x64, .f32⟩
  | 122 => ⟨S8, .f32⟩
  | 123 => ⟨S8, .f32⟩
  | 124 => ⟨S_, .f32⟩
  | 125 => ⟨S8, .f32⟩
  | 126 => ⟨S8, .f32⟩
  | 127 => ⟨S_, .f32⟩
  | _ => ⟨S16384x1024, .f32⟩

abbrev hbmTy0_1 (i : Nat) : BufTy := match i % 128 with
  | 0 => ⟨S8, .f32⟩
  | 1 => ⟨S8, .f32⟩
  | 2 => ⟨S2048, .f32⟩
  | 3 => ⟨S2048x1, .f32⟩
  | 4 => ⟨S1x8, .f32⟩
  | 5 => ⟨S2048x8, .f32⟩
  | 6 => ⟨S2048x8, .f32⟩
  | 7 => ⟨S2048x8, .f32⟩
  | 8 => ⟨S2048x8, .f32⟩
  | 9 => ⟨S2048x1x8, .f32⟩
  | 10 => ⟨S2048x8, .f32⟩
  | 11 => ⟨S2048x1x8, .f32⟩
  | 12 => ⟨S8x2048x2x8, .f32⟩
  | 13 => ⟨S8x2048x2x8, .f32⟩
  | 14 => ⟨S1x2048x1x8, .f32⟩
  | 15 => ⟨S8x2048x2x8, .f32⟩
  | 16 => ⟨S8x2048x2x8, .f32⟩
  | 17 => ⟨S1x2048x1x8, .f32⟩
  | 18 => ⟨S8x2048x2x8, .f32⟩
  | 19 => ⟨S8x2048x2x8, .f32⟩
  | 20 => ⟨S8x2048x2x8, .f32⟩
  | 21 => ⟨S1x2048x1x8, .f32⟩
  | 22 => ⟨S8x2048x2x8, .f32⟩
  | 23 => ⟨S8x2048x2x8, .f32⟩
  | 24 => ⟨S1x2048x1x8, .f32⟩
  | 25 => ⟨S8x2048x2x8, .f32⟩
  | 26 => ⟨S8x2048x2x8, .f32⟩
  | 27 => ⟨S8x2048x2x8, .f32⟩
  | 28 => ⟨S8x2048x2x16, .f32⟩
  | 29 => ⟨S8x2048x2x48, .f32⟩
  | 30 => ⟨S8x2048x2x64, .f32⟩
  | 31 => ⟨S8x2048x1x2x64, .f32⟩
  | 32 => ⟨S8x2048x2x64, .f32⟩
  | 33 => ⟨S8x2048x1x2x64, .f32⟩
  | 34 => ⟨S8x2048x2x64, .f32⟩
  | 35 => ⟨S8x2048x1x2x64, .f32⟩
  | 36 => ⟨S8x2048x2x64, .f32⟩
  | 37 => ⟨S8x2048x1x2x64, .f32⟩
  | 38 => ⟨S8x2048x1x2x64, .f32⟩
  | 39 => ⟨S8x2048x1x2x64, .f32⟩
  | 40 => ⟨S8x2048x1x2x64, .f32⟩
  | 41 => ⟨S8x2048x4x2x64, .f32⟩
  | 42 => ⟨S8x2048x1x2x64, .f32⟩
  | 43 => ⟨S8x2048x2x64, .f32⟩
  | 44 => ⟨S8x2048x1x2x64, .f32⟩
  | 45 => ⟨S8x2048x1x2x64, .f32⟩
  | 46 => ⟨S8x2048x2x2x64, .f32⟩
  | 47 => ⟨S16384x4x128, .f32⟩
  | 48 => ⟨S4x16384x128, .f32⟩
  | 49 => ⟨S16384x512, .f32⟩
  | 50 => ⟨S16384x512, .bf16⟩
  | 51 => ⟨S16384x2x4x64, .f32⟩
  | 52 => ⟨S16384x4x2x64, .f32⟩
  | 53 => ⟨S16384x512, .f32⟩
  | 54 => ⟨S16384x512, .bf16⟩
  | 55 => ⟨S8x4x2x64x2048, .f32⟩
  | 56 => ⟨S8x512x2048, .f32⟩
  | 57 => ⟨S8x2x2x64x2048, .f32⟩
  | 58 => ⟨S8x256x2048, .f32⟩
  | 59 => ⟨S8x2048x2x2x64, .f32⟩
  | 60 => ⟨S16384x256, .f32⟩
  | 61 => ⟨S16384x2x4x64, .f32⟩
  | 62 => ⟨S16384x4x2x64, .f32⟩
  | 63 => ⟨S16384x512, .f32⟩
  | 64 => ⟨S16384x512, .bf16⟩
  | 65 => ⟨S16384x2048, .f32⟩
  | 66 => ⟨S16384x2048, .bf16⟩
  | 67 => ⟨S16384x24, .f32⟩
  | 68 => ⟨S_, .i32⟩
  | 69 => ⟨S_, .f32⟩
  | 70 => ⟨S16384x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_5 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_6 : Ref sig .tc := ⟨.hbm, 85, rfl⟩
abbrev main_v73 : Ref sig .tc := ⟨.hbm, 86, rfl⟩
abbrev main_v74 : Ref sig .tc := ⟨.hbm, 87, rfl⟩
abbrev main_cst_7 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_cst_8 : Ref sig .tc := ⟨.hbm, 124, rfl⟩
abbrev main_v110 : Ref sig .tc := ⟨.hbm, 125, rfl⟩
abbrev main_v111 : Ref sig .tc := ⟨.hbm, 126, rfl⟩
abbrev main_cst_9 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_c : Ref sig .tc := ⟨.hbm, 196, rfl⟩
abbrev main_call0_v0 : Ref sig .tc := ⟨.hbm, 197, rfl⟩
abbrev main_v180 : Ref sig .tc := ⟨.hbm, 198, rfl⟩

abbrev nD : Nat := 1
abbrev τ : Topo := Topo.v7x

variable {F : FTy → Type} [FloatOps F]
-- ==== Kernel3.lean ====
abbrev S16384x1024 : Shape := ⟨2, ![16384, 1024]⟩
abbrev S8x1x1024 : Shape := ⟨3, ![8, 1, 1024]⟩
abbrev S4x16384x128 : Shape := ⟨3, ![4, 16384, 128]⟩
abbrev S16384x512 : Shape := ⟨2, ![16384, 512]⟩
abbrev S16384x2048 : Shape := ⟨2, ![16384, 2048]⟩
abbrev S4x1x128 : Shape := ⟨3, ![4, 1, 128]⟩
abbrev S512x512 : Shape := ⟨2, ![512, 512]⟩
abbrev S1x512 : Shape := ⟨2, ![1, 512]⟩
abbrev S512x1024 : Shape := ⟨2, ![512, 1024]⟩
abbrev S1024x1024 : Shape := ⟨2, ![1024, 1024]⟩
abbrev S1x1024 : Shape := ⟨2, ![1, 1024]⟩
abbrev S512 : Shape := ⟨1, ![512]⟩
abbrev S_ : Shape := ⟨0, ![]⟩
abbrev S512x1 : Shape := ⟨2, ![512, 1]⟩
abbrev S1x1x1024 : Shape := ⟨3, ![1, 1, 1024]⟩
abbrev S4x512x128 : Shape := ⟨3, ![4, 512, 128]⟩
abbrev S512x2048 : Shape := ⟨2, ![512, 2048]⟩
abbrev S1x512x128 : Shape := ⟨3, ![1, 512, 128]⟩
abbrev S512x128 : Shape := ⟨2, ![512, 128]⟩
abbrev S1x1x128 : Shape := ⟨3, ![1, 1, 128]⟩
abbrev S1x128 : Shape := ⟨2, ![1, 128]⟩

abbrev nBuf : Space → Nat
  | .hbm => 28
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S8x1x1024, .f32⟩
  | .hbm, ⟨2, _⟩ => ⟨S4x16384x128, .f32⟩
  | .hbm, ⟨3, _⟩ => ⟨S4x16384x128, .f32⟩
  | .hbm, ⟨4, _⟩ => ⟨S16384x512, .bf16⟩
  | .hbm, ⟨5, _⟩ => ⟨S16384x512, .f32⟩
  | .hbm, ⟨6, _⟩ => ⟨S16384x512, .bf16⟩
  | .hbm, ⟨7, _⟩ => ⟨S16384x2048, .bf16⟩
  | .hbm, ⟨8, _⟩ => ⟨S4x1x128, .f32⟩
  | .hbm, ⟨9, _⟩ => ⟨S512x512, .f32⟩
  | .hbm, ⟨10, _⟩ => ⟨S1x512, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S1x1024, .f32⟩
  | .hbm, ⟨15, _⟩ => ⟨S512, .i32⟩
  | .hbm, ⟨16, _⟩ => ⟨S512, .i1⟩
  | .hbm, ⟨17, _⟩ => ⟨S512x512, .bf16⟩
  | .hbm, ⟨18, _⟩ => ⟨S512x1024, .bf16⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S512x1, .i32⟩
  | .hbm, ⟨24, _⟩ => ⟨S512x1024, .f32⟩
  | .hbm, ⟨25, _⟩ => ⟨S512x1024, .bf16⟩
  | .hbm, ⟨26, _⟩ => ⟨S1024x1024, .bf16⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S4x512x128, .f32⟩
  | .local _ .vmem, ⟨5, _⟩ => ⟨S4x512x128, .f32⟩
  | .local _ .vmem, ⟨6, _⟩ => ⟨S4x512x128, .f32⟩
  | .local _ .vmem, ⟨7, _⟩ => ⟨S4x512x128, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x2048, .bf16⟩
  | .local _ .vmem, ⟨15, _⟩ => ⟨S512x2048, .bf16⟩
  | .local _ .vmem, ⟨16, _⟩ => ⟨S4x1x128, .f32⟩
  | .local _ .vmem, ⟨17, _⟩ => ⟨S512x512, .bf16⟩
  | .local _ .vmem, ⟨18, _⟩ => ⟨S1x512, .f32⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_v0 : Ref sig .tc := ⟨.hbm, 17, rfl⟩
abbrev main_v1 : Ref sig .tc := ⟨.hbm, 18, rfl⟩
abbrev main_c_1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S16384x1024 : Shape := ⟨2, ![16384, 1024]⟩
abbrev S8x1x1024 : Shape := ⟨3, ![8, 1, 1024]⟩
abbrev S4x16384x128 : Shape := ⟨3, ![4, 16384, 128]⟩
abbrev S16384x512 : Shape := ⟨2, ![16384, 512]⟩
abbrev S16384x2048 : Shape := ⟨2, ![16384, 2048]⟩
abbrev S4x1x128 : Shape := ⟨3, ![4, 1, 128]⟩
abbrev S512x512 : Shape := ⟨2, ![512, 512]⟩
abbrev S1x512 : Shape := ⟨2, ![1, 512]⟩
abbrev S512x1024 : Shape := ⟨2, ![512, 1024]⟩
abbrev S1024x1024 : Shape := ⟨2, ![1024, 1024]⟩
abbrev S1x1024 : Shape := ⟨2, ![1, 1024]⟩
abbrev S16384x4x128 : Shape := ⟨3, ![16384, 4, 128]⟩
abbrev S_ : Shape := ⟨0, ![]⟩
abbrev S16384x4x2x64 : Shape := ⟨4, ![16384, 4, 2, 64]⟩
abbrev S16384x2x4x64 : Shape := ⟨4, ![16384, 2, 4, 64]⟩
abbrev S8x2048x1024 : Shape := ⟨3, ![8, 2048, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 117
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1x1024, .f32⟩
  | .hbm, ⟨2, _⟩ => ⟨S4x16384x128, .f32⟩
  | .hbm, ⟨3, _⟩ => ⟨S4x16384x128, .f32⟩
  | .hbm, ⟨4, _⟩ => ⟨S16384x512, .bf16⟩
  | .hbm, ⟨5, _⟩ => ⟨S16384x512, .f32⟩
  | .hbm, ⟨6, _⟩ => ⟨S16384x512, .bf16⟩
  | .hbm, ⟨7, _⟩ => ⟨S16384x2048, .bf16⟩
  | .hbm, ⟨8, _⟩ => ⟨S4x1x128, .f32⟩
  | .hbm, ⟨9, _⟩ => ⟨S512x512, .f32⟩
  | .hbm, ⟨10, _⟩ => ⟨S1x512, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S1x1024, .f32⟩
  | .hbm, ⟨15, _⟩ => ⟨S4x16384x128, .f32⟩
  | .hbm, ⟨16, _⟩ => ⟨S4x16384x128, .f32⟩
  | .hbm, ⟨17, _⟩ => ⟨S4x16384x128, .f32⟩
  | .hbm, ⟨18, _⟩ => ⟨S16384x4x128, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S_, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S16384x1024, .f32⟩
  | .hbm, ⟨61, _⟩ => ⟨S16384x4x2x64, .f32⟩
  | .hbm, ⟨62, _⟩ => ⟨S16384x2x4x64, .f32⟩
  | .hbm, ⟨63, _⟩ => ⟨S16384x512, .f32⟩
  | .hbm, ⟨64, _⟩ => ⟨S16384x4x2x64, .bf16⟩
  | .hbm, ⟨65, _⟩ => ⟨S16384x2x4x64, .bf16⟩
  | .hbm, ⟨66, _⟩ => ⟨S16384x512, .bf16⟩
  | .hbm, ⟨67, _⟩ => ⟨S16384x512, .f32⟩
  | .hbm, ⟨68, _⟩ => ⟨S16384x512, .f32⟩
  | .hbm, ⟨69, _⟩ => ⟨S16384x512, .f32⟩
  | .hbm, ⟨70, _⟩ => ⟨S_, .f32⟩
  | .hbm, ⟨71, _⟩ => ⟨S16384x512, .f32⟩
  | .hbm, ⟨72, _⟩ => ⟨S16384x512, .f32⟩
  | .hbm, ⟨73, _⟩ => ⟨S_, .f32⟩
  | .hbm, ⟨74, _⟩ => ⟨S16384x512, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S16384x1024, .f32⟩
  | .hbm, ⟨79, _⟩ => ⟨S16384x2048, .f32⟩
  | .hbm, ⟨80, _⟩ => ⟨S16384x2048, .f32⟩
  | .hbm, ⟨81, _⟩ => ⟨S16384x2048, .f32⟩
  | .hbm, ⟨82, _⟩ => ⟨S_, .f32⟩
  | .hbm, ⟨83, _⟩ => ⟨S16384x2048, .f32⟩
  | .hbm, ⟨84, _⟩ => ⟨S16384x2048, .f32⟩
  | .hbm, ⟨85, _⟩ => ⟨S_, .f32⟩
  | .hbm, ⟨86, _⟩ => ⟨S16384x2048, .f32⟩
  | .hbm, ⟨87, _⟩ => ⟨S16384x2048, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S8x2048x1024, .f32⟩
  | .hbm, ⟨95, _⟩ => ⟨S8x2048x1024, .f32⟩
  | .hbm, ⟨96, _⟩ => ⟨S8x2048x1024, .f32⟩
  | .hbm, ⟨97, _⟩ => ⟨S8x2048x1024, .f32⟩
  | .hbm, ⟨98, _⟩ => ⟨S8x2048x1024, .f32⟩
  | .hbm, ⟨99, _⟩ => ⟨S1024, .f32⟩
  | .hbm, ⟨100, _⟩ => ⟨S8x2048x1024, .f32⟩
  | .hbm, ⟨101, _⟩ => ⟨S_, .f32⟩
  | .hbm, ⟨102, _⟩ => ⟨S8x2048, .f32⟩
  | .hbm, ⟨103, _⟩ => ⟨S8x2048x1, .f32⟩
  | .hbm, ⟨104, _⟩ => ⟨S_, .f32⟩
  | .hbm, ⟨105, _⟩ => ⟨S8x2048x1, .f32⟩
  | .hbm, ⟨106, _⟩ => ⟨S8x2048x1, .f32⟩
  | .hbm, ⟨107, _⟩ => ⟨S_, .f32⟩
  | .hbm, ⟨108, _⟩ => ⟨S8x2048x1, .f32⟩
  | .hbm, ⟨109, _⟩ => ⟨S8x2048x1, .f32⟩
  | .hbm, ⟨110, _⟩ => ⟨S8x2048x1, .f32⟩
  | .hbm, ⟨111, _⟩ => ⟨S8x2048x1024, .f32⟩
  | .hbm, ⟨112, _⟩ => ⟨S8x2048x1024, .f32⟩
  | .hbm, ⟨113, _⟩ => ⟨S1x1x1024, .f32⟩
  | .hbm, ⟨114, _⟩ => ⟨S8x2048x1024, .f32⟩
  | .hbm, ⟨115, _⟩ => ⟨S8x2048x1024, .f32⟩
  | .hbm, ⟨116, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_5 : Ref sig .tc := ⟨.hbm, 82, rfl⟩
abbrev main_v45 : Ref sig .tc := ⟨.hbm, 83, rfl⟩
abbrev main_v46 : Ref sig .tc := ⟨.hbm, 84, rfl⟩
abbrev main_cst_6 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_7 : Ref sig .tc := ⟨.hbm, 101, rfl⟩
abbrev main_v62 : Ref sig .tc := ⟨.hbm, 102, rfl⟩
abbrev main_v63 : Ref sig .tc := ⟨.hbm, 103, rfl⟩
abbrev main_cst_8 : Ref sig .tc := ⟨.hbm, 104, rfl⟩
abbrev main_v64 : Ref sig .tc := ⟨.hbm, 105, rfl⟩
abbrev main_v65 : Ref sig .tc := ⟨.hbm, 106, rfl⟩
abbrev main_cst_9 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩

abbrev nD : Nat := 1
abbrev τ : Topo := Topo.v7x

variable {F : FTy → Type} [FloatOps F]
-- ==== Kernel4.lean ====
abbrev S128x1024 : Shape := ⟨2, ![128, 1024]⟩
abbrev S32x1024 : Shape := ⟨2, ![32, 1024]⟩
abbrev S128x512 : Shape := ⟨2, ![128, 512]⟩
abbrev S128x2048 : Shape := ⟨2, ![128, 2048]⟩
abbrev S512 : Shape := ⟨1, ![512]⟩
abbrev S512x512 : Shape := ⟨2, ![512, 512]⟩
abbrev S512x1024 : Shape := ⟨2, ![512, 1024]⟩
abbrev S1024x1024 : Shape := ⟨2, ![1024, 1024]⟩
abbrev S1024 : Shape := ⟨1, ![1024]⟩
abbrev S32x4x1024 : Shape := ⟨3, ![32, 4, 1024]⟩
abbrev S128x4x128 : Shape := ⟨3, ![128, 4, 128]⟩
abbrev S4x128x128 : Shape := ⟨3, ![4, 128, 128]⟩
abbrev S4x1x128 : Shape := ⟨3, ![4, 1, 128]⟩
abbrev S1x512 : Shape := ⟨2, ![1, 512]⟩
abbrev S_ : Shape := ⟨0, ![]⟩
abbrev S512x1 : Shape := ⟨2, ![512, 1]⟩
abbrev S1x1024 : Shape := ⟨2, ![1, 1024]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩

abbrev nBuf : Space → Nat
  | .hbm => 37
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S32x1024, .f32⟩
  | .hbm, ⟨2, _⟩ => ⟨S128x512, .f32⟩
  | .hbm, ⟨3, _⟩ => ⟨S128x512, .f32⟩
  | .hbm, ⟨4, _⟩ => ⟨S128x512, .bf16⟩
  | .hbm, ⟨5, _⟩ => ⟨S128x512, .f32⟩
  | .hbm, ⟨6, _⟩ => ⟨S128x512, .bf16⟩
  | .hbm, ⟨7, _⟩ => ⟨S128x2048, .bf16⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S1024, .f32⟩
  | .hbm, ⟨15, _⟩ => ⟨S512, .i32⟩
  | .hbm, ⟨16, _⟩ => ⟨S512, .i1⟩
  | .hbm, ⟨17, _⟩ => ⟨S32x4x1024, .f32⟩
  | .hbm, ⟨18, _⟩ => ⟨S128x1024, .f32⟩
  | .hbm, ⟨19, _⟩ => ⟨S128x4x128, .f32⟩
  | .hbm, ⟨20, _⟩ => ⟨S4x128x128, .f32⟩
  | .hbm, ⟨21, _⟩ => ⟨S128x4x128, .f32⟩
  | .hbm, ⟨22, _⟩ => ⟨S4x128x128, .f32⟩
  | .hbm, ⟨23, _⟩ => ⟨S4x1x128, .f32⟩
  | .hbm, ⟨24, _⟩ => ⟨S512x512, .bf16⟩
  | .hbm, ⟨25, _⟩ => ⟨S1x512, .f32⟩
  | .hbm, ⟨26, _⟩ => ⟨S512x1024, .bf16⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512x1024, .f32⟩
  | .hbm, ⟨33, _⟩ => ⟨S512x1024, .bf16⟩
  | .hbm, ⟨34, _⟩ => ⟨S1024x1024, .bf16⟩
  | .hbm, ⟨35, _⟩ => ⟨S1x1024, .f32⟩
  | .hbm, ⟨36, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S4x128x128, .f32⟩
  | .local _ .vmem, ⟨3, _⟩ => ⟨S4x128x128, .f32⟩
  | .local _ .vmem, ⟨4, _⟩ => ⟨S128x512, .bf16⟩
  | .local _ .vmem, ⟨5, _⟩ => ⟨S128x512, .f32⟩
  | .local _ .vmem, ⟨6, _⟩ => ⟨S128x512, .bf16⟩
  | .local _ .vmem, ⟨7, _⟩ => ⟨S128x2048, .bf16⟩
  | .local _ .vmem, ⟨8, _⟩ => ⟨S4x1x128, .f32⟩
  | .local _ .vmem, ⟨9, _⟩ => ⟨S512x512, .bf16⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Reference4Ideal.lean ====
abbrev S128x1024 : Shape := ⟨2, ![128, 1024]⟩
abbrev S32x1024 : Shape := ⟨2, ![32, 1024]⟩
abbrev S128x512 : Shape := ⟨2, ![128, 512]⟩
abbrev S128x2048 : Shape := ⟨2, ![128, 2048]⟩
abbrev S512 : Shape := ⟨1, ![512]⟩
abbrev S512x512 : Shape := ⟨2, ![512, 512]⟩
abbrev S512x1024 : Shape := ⟨2, ![512, 1024]⟩
abbrev S1024x1024 : Shape := ⟨2, ![1024, 1024]⟩
abbrev S1024 : Shape := ⟨1, ![1024]⟩
abbrev S1x512 : Shape := ⟨2, ![1, 512]⟩
abbrev S_ : Shape := ⟨0, ![]⟩
abbrev S128x4x2x64 : Shape := ⟨4, ![128, 4, 2, 64]⟩
abbrev S128x2x4x64 : Shape := ⟨4, ![128, 2, 4, 64]⟩
abbrev S32x4x1024 : Shape := ⟨3, ![32, 4, 1024]⟩
abbrev S32x1x1024 : Shape := ⟨3, ![32, 1, 1024]⟩
abbrev S32x4 : Shape := ⟨2, ![32, 4]⟩
abbrev S32x4x1 : Shape := ⟨3, ![32, 4, 1]⟩
abbrev S1x1x1024 : Shape := ⟨3, ![1, 1, 1024]⟩

abbrev nBuf : Space → Nat
  | .hbm => 117
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S32x1024, .f32⟩
  | .hbm, ⟨2, _⟩ => ⟨S128x512, .f32⟩
  | .hbm, ⟨3, _⟩ => ⟨S128x512, .f32⟩
  | .hbm, ⟨4, _⟩ => ⟨S128x512, .bf16⟩
  | .hbm, ⟨5, _⟩ => ⟨S128x512, .f32⟩
  | .hbm, ⟨6, _⟩ => ⟨S128x512, .bf16⟩
  | .hbm, ⟨7, _⟩ => ⟨S128x2048, .bf16⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S1024, .f32⟩
  | .hbm, ⟨15, _⟩ => ⟨S1x512, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S128x512, .f32⟩
  | .hbm, ⟨20, _⟩ => ⟨S128x512, .f32⟩
  | .hbm, ⟨21, _⟩ => ⟨S_, .f32⟩
  | .hbm, ⟨22, _⟩ => ⟨S128x512, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S_, .f32⟩
  | .hbm, ⟨30, _⟩ => ⟨S128x512, .f32⟩
  | .hbm, ⟨31, _⟩ => ⟨S128x512, .f32⟩
  | .hbm, ⟨32, _⟩ => ⟨S_, .f32⟩
  | .hbm, ⟨33, _⟩ => ⟨S128x512, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S1x512, .f32⟩
  | .hbm, ⟨38, _⟩ => ⟨S128x512, .f32⟩
  | .hbm, ⟨39, _⟩ => ⟨S128x512, .f32⟩
  | .hbm, ⟨40, _⟩ => ⟨S128x512, .f32⟩
  | .hbm, ⟨41, _⟩ => ⟨S128x512, .f32⟩
  | .hbm, ⟨42, _⟩ => ⟨S_, .f32⟩
  | .hbm, ⟨43, _⟩ => ⟨S128x512, .f32⟩
  | .hbm, ⟨44, _⟩ => ⟨S128x512, .f32⟩
  | .hbm, ⟨45, _⟩ => ⟨S_, .f32⟩
  | .hbm, ⟨46, _⟩ => ⟨S128x512, .f32⟩
  | .hbm, ⟨47, _⟩ => ⟨S128x512, .f32⟩
  | .hbm, ⟨48, _⟩ => ⟨S128x512, .f32⟩
  | .hbm, ⟨49, _⟩ => ⟨S128x512, .f32⟩
  | .hbm, ⟨50, _⟩ => ⟨S128x512, .f32⟩
  | .hbm, ⟨51, _⟩ => ⟨S128x512, .f32⟩
  | .hbm, ⟨52, _⟩ => ⟨S_, .f32⟩
  | .hbm, ⟨53, _⟩ => ⟨S128x512, .f32⟩
  | .hbm, ⟨54, _⟩ => ⟨S128x512, .f32⟩
  | .hbm, ⟨55, _⟩ => ⟨S_, .f32⟩
  | .hbm, ⟨56, _⟩ => ⟨S128x512, .f32⟩
  | .hbm, ⟨57, _⟩ => ⟨S128x512, .f32⟩
  | .hbm, ⟨58, _⟩ => ⟨S128x512, .f32⟩
  | .hbm, ⟨59, _⟩ => ⟨S128x512, .f32⟩
  | .hbm, ⟨60, _⟩ => ⟨S128x1024, .f32⟩
  | .hbm, ⟨61, _⟩ => ⟨S128x4x2x64, .f32⟩
  | .hbm, ⟨62, _⟩ => ⟨S128x2x4x64, .f32⟩
  | .hbm, ⟨63, _⟩ => ⟨S128x512, .f32⟩
  | .hbm, ⟨64, _⟩ => ⟨S128x4x2x64, .bf16⟩
  | .hbm, ⟨65, _⟩ => ⟨S128x2x4x64, .bf16⟩
  | .hbm, ⟨66, _⟩ => ⟨S128x512, .bf16⟩
  | .hbm, ⟨67, _⟩ => ⟨S128x512, .f32⟩
  | .hbm, ⟨68, _⟩ => ⟨S128x512, .f32⟩
  | .hbm, ⟨69, _⟩ => ⟨S128x512, .f32⟩
  | .hbm, ⟨70, _⟩ => ⟨S_, .f32⟩
  | .hbm, ⟨71, _⟩ => ⟨S128x512, .f32⟩
  | .hbm, ⟨72, _⟩ => ⟨S128x512, .f32⟩
  | .hbm, ⟨73, _⟩ => ⟨S_, .f32⟩
  | .hbm, ⟨74, _⟩ => ⟨S128x512, .f32⟩
  | .hbm, ⟨75, _⟩ => ⟨S128x512, .f32⟩
  | .hbm, ⟨76, _⟩ => ⟨S128x512, .f32⟩
  | .hbm, ⟨77, _⟩ => ⟨S128x512, .f32⟩
  | .hbm, ⟨78, _⟩ => ⟨S128x1024, .f32⟩
  | .hbm, ⟨79, _⟩ => ⟨S128x2048, .f32⟩
  | .hbm, ⟨80, _⟩ => ⟨S128x2048, .f32⟩
  | .hbm, ⟨81, _⟩ => ⟨S128x2048, .f32⟩
  | .hbm, ⟨82, _⟩ => ⟨S_, .f32⟩
  | .hbm, ⟨83, _⟩ => ⟨S128x2048, .f32⟩
  | .hbm, ⟨84, _⟩ => ⟨S128x2048, .f32⟩
  | .hbm, ⟨85, _⟩ => ⟨S_, .f32⟩
  | .hbm, ⟨86, _⟩ => ⟨S128x2048, .f32⟩
  | .hbm, ⟨87, _⟩ => ⟨S128x2048, .f32⟩
  | .hbm, ⟨88, _⟩ => ⟨S128x1024, .f32⟩
  | .hbm, ⟨89, _⟩ => ⟨S128x1024, .f32⟩
  | .hbm, ⟨90, _⟩ => ⟨S128x1024, .f32⟩
  | .hbm, ⟨91, _⟩ => ⟨S128x1024, .f32⟩
  | .hbm, ⟨92, _⟩ => ⟨S128x1024, .f32⟩
  | .hbm, ⟨93, _⟩ => ⟨S128x1024, .f32⟩
  | .hbm, ⟨94, _⟩ => ⟨S32x4x1024, .f32⟩
  | .hbm, ⟨95, _⟩ => ⟨S32x1x1024, .f32⟩
  | .hbm, ⟨96, _⟩ => ⟨S32x4x1024, .f32⟩
  | .hbm, ⟨97, _⟩ => ⟨S32x4x1024, .f32⟩
  | .hbm, ⟨98, _⟩ => ⟨S32x4x1024, .f32⟩
  | .hbm, ⟨99, _⟩ => ⟨S32x4x1024, .f32⟩
  | .hbm, ⟨100, _⟩ => ⟨S32x4x1024, .f32⟩
  | .hbm, ⟨101, _⟩ => ⟨S_, .f32⟩
  | .hbm, ⟨102, _⟩ => ⟨S32x4, .f32⟩
  | .hbm, ⟨103, _⟩ => ⟨S32x4x1, .f32⟩
  | .hbm, ⟨104, _⟩ => ⟨S_, .f32⟩
  | .hbm, ⟨105, _⟩ => ⟨S32x4x1, .f32⟩
  | .hbm, ⟨106, _⟩ => ⟨S32x4x1, .f32⟩
  | .hbm, ⟨107, _⟩ => ⟨S_, .f32⟩
  | .hbm, ⟨108, _⟩ => ⟨S32x4x1, .f32⟩
  | .hbm, ⟨109, _⟩ => ⟨S32x4x1, .f32⟩
  | .hbm, ⟨110, _⟩ => ⟨S32x4x1, .f32⟩
  | .hbm, ⟨111, _⟩ => ⟨S32x4x1024, .f32⟩
  | .hbm, ⟨112, _⟩ => ⟨S32x4x1024, .f32⟩
  | .hbm, ⟨113, _⟩ => ⟨S1x1x1024, .f32⟩
  | .hbm, ⟨114, _⟩ => ⟨S32x4x1024, .f32⟩
  | .hbm, ⟨115, _⟩ => ⟨S32x4x1024, .f32⟩
  | .hbm, ⟨116, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_5 : Ref sig .tc := ⟨.hbm, 82, rfl⟩
abbrev main_v45 : Ref sig .tc := ⟨.hbm, 83, rfl⟩
abbrev main_v46 : Ref sig .tc := ⟨.hbm, 84, rfl⟩
abbrev main_cst_6 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_7 : Ref sig .tc := ⟨.hbm, 101, rfl⟩
abbrev main_v62 : Ref sig .tc := ⟨.hbm, 102, rfl⟩
abbrev main_v63 : Ref sig .tc := ⟨.hbm, 103, rfl⟩
abbrev main_cst_8 : Ref sig .tc := ⟨.hbm, 104, rfl⟩
abbrev main_v64 : Ref sig .tc := ⟨.hbm, 105, rfl⟩
abbrev main_v65 : Ref sig .tc := ⟨.hbm, 106, rfl⟩
abbrev main_cst_9 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩

abbrev nD : Nat := 1
abbrev τ : Topo := Topo.v7x

variable {F : FTy → Type} [FloatOps F]
-- ==== Kernel5.lean ====
abbrev S128x1024 : Shape := ⟨2, ![128, 1024]⟩
abbrev S32x1024 : Shape := ⟨2, ![32, 1024]⟩
abbrev S1024 : Shape := ⟨1, ![1024]⟩
abbrev S1024x4888 : Shape := ⟨2, ![1024, 4888]⟩
abbrev S512 : Shape := ⟨1, ![512]⟩
abbrev S1024x24 : Shape := ⟨2, ![1024, 24]⟩
abbrev S_ : Shape := ⟨0, ![]⟩
abbrev S1024x128 : Shape := ⟨2, ![1024, 128]⟩
abbrev S1024x1024 : Shape := ⟨2, ![1024, 1024]⟩
abbrev S1024x512 : Shape := ⟨2, ![1024, 512]⟩
abbrev S512x1 : Shape := ⟨2, ![512, 1]⟩
abbrev S1024x768 : Shape := ⟨2, ![1024, 768]⟩
abbrev S1024x2048 : Shape := ⟨2, ![1024, 2048]⟩
abbrev S1024x4992 : Shape := ⟨2, ![1024, 4992]⟩
abbrev S4 : Shape := ⟨1, ![4]⟩
abbrev S1x4 : Shape := ⟨2, ![1, 4]⟩
abbrev S32x4 : Shape := ⟨2, ![32, 4]⟩
abbrev S128 : Shape := ⟨1, ![128]⟩
abbrev S8 : Shape := ⟨1, ![8]⟩
abbrev S128x1 : Shape := ⟨2, ![128, 1]⟩
abbrev S1x8 : Shape := ⟨2, ![1, 8]⟩
abbrev S128x8 : Shape := ⟨2, ![128, 8]⟩
abbrev S128x48 : Shape := ⟨2, ![128, 48]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x128 : Shape := ⟨2, ![128, 128]⟩
abbrev S32x4x1024 : Shape := ⟨3, ![32, 4, 1024]⟩
abbrev S1x1024 : Shape := ⟨2, ![1, 1024]⟩
abbrev S128x512 : Shape := ⟨2, ![128, 512]⟩
abbrev S128x256 : Shape := ⟨2, ![128, 256]⟩
abbrev S128x2048 : Shape := ⟨2, ![128, 2048]⟩
abbrev S1024x256 : Shape := ⟨2, ![1024, 256]⟩

abbrev nBuf : Space → Nat
  | .hbm => 86
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x4888, .f32⟩
  | .hbm, ⟨5, _⟩ => ⟨S512, .i32⟩
  | .hbm, ⟨6, _⟩ => ⟨S512, .i1⟩
  | .hbm, ⟨7, _⟩ => ⟨S512, .i1⟩
  | .hbm, ⟨8, _⟩ => ⟨S1024x24, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x1024, .f32⟩
  | .hbm, ⟨13, _⟩ => ⟨S1024x512, .f32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S512x1, .i32⟩
  | .hbm, ⟨19, _⟩ => ⟨S1024x512, .f32⟩
  | .hbm, ⟨20, _⟩ => ⟨S1024x768, .f32⟩
  | .hbm, ⟨21, _⟩ => ⟨S1024x512, .f32⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S1024x512, .f32⟩
  | .hbm, ⟨28, _⟩ => ⟨S1024x2048, .f32⟩
  | .hbm, ⟨29, _⟩ => ⟨S1024x4992, .f32⟩
  | .hbm, ⟨30, _⟩ => ⟨S1024x4992, .bf16⟩
  | .hbm, ⟨31, _⟩ => ⟨S4, .i32⟩
  | .hbm, ⟨32, _⟩ => ⟨S_, .i32⟩
  | .hbm, ⟨33, _⟩ => ⟨S4, .i32⟩
  | .hbm, ⟨34, _⟩ => ⟨S4, .i32⟩
  | .hbm, ⟨35, _⟩ => ⟨S1x4, .i32⟩
  | .hbm, ⟨36, _⟩ => ⟨S32x4, .i32⟩
  | .hbm, ⟨37, _⟩ => ⟨S128, .i32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S128, .f32⟩
  | .hbm, ⟨47, _⟩ => ⟨S128x1, .f32⟩
  | .hbm, ⟨48, _⟩ => ⟨S1x8, .f32⟩
  | .hbm, ⟨49, _⟩ => ⟨S128x8, .f32⟩
  | .hbm, ⟨50, _⟩ => ⟨S128x8, .f32⟩
  | .hbm, ⟨51, _⟩ => ⟨S128x8, .f32⟩
  | .hbm, ⟨52, _⟩ => ⟨S128x8, .f32⟩
  | .hbm, ⟨53, _⟩ => ⟨S128x8, .f32⟩
  | .hbm, ⟨54, _⟩ => ⟨S_, .f32⟩
  | .hbm, ⟨55, _⟩ => ⟨S128x48, .f32⟩
  | .hbm, ⟨56, _⟩ => ⟨S_, .f32⟩
  | .hbm, ⟨57, _⟩ => ⟨S128x8, .f32⟩
  | .hbm, ⟨58, _⟩ => ⟨S_, .f32⟩
  | .hbm, ⟨59, _⟩ => ⟨S128x48, .f32⟩
  | .hbm, ⟨60, _⟩ => ⟨S128x64, .f32⟩
  | .hbm, ⟨61, _⟩ => ⟨S128x8, .f32⟩
  | .hbm, ⟨62, _⟩ => ⟨S128x64, .f32⟩
  | .hbm, ⟨63, _⟩ => ⟨S128x64, .f32⟩
  | .hbm, ⟨64, _⟩ => ⟨S1x128x1x64, .f32⟩
  | .hbm, ⟨65, _⟩ => ⟨S1x128x2x64, .f32⟩
  | .hbm, ⟨66, _⟩ => ⟨S128x128, .f32⟩
  | .hbm, ⟨67, _⟩ => ⟨S1x128x1x64, .f32⟩
  | .hbm, ⟨68, _⟩ => ⟨S1x128x2x64, .f32⟩
  | .hbm, ⟨69, _⟩ => ⟨S128x128, .f32⟩
  | .hbm, ⟨70, _⟩ => ⟨S1x128x1x64, .f32⟩
  | .hbm, ⟨71, _⟩ => ⟨S1x128x2x64, .f32⟩
  | .hbm, ⟨72, _⟩ => ⟨S128x128, .f32⟩
  | .hbm, ⟨73, _⟩ => ⟨S32x4x1024, .f32⟩
  | .hbm, ⟨74, _⟩ => ⟨S128x1024, .f32⟩
  | .hbm, ⟨75, _⟩ => ⟨S32x4x1024, .f32⟩
  | .hbm, ⟨76, _⟩ => ⟨S128x1024, .f32⟩
  | .hbm, ⟨77, _⟩ => ⟨S1x1024, .f32⟩
  | .hbm, ⟨78, _⟩ => ⟨S128x512, .f32⟩
  | .hbm, ⟨79, _⟩ => ⟨S128x512, .bf16⟩
  | .hbm, ⟨80, _⟩ => ⟨S128x512, .bf16⟩
  | .hbm, ⟨81, _⟩ => ⟨S128x512, .f32⟩
  | .hbm, ⟨82, _⟩ => ⟨S128x256, .f32⟩
  | .hbm, ⟨83, _⟩ => ⟨S128x512, .bf16⟩
  | .hbm, ⟨84, _⟩ => ⟨S128x2048, .bf16⟩
  | .hbm, ⟨85, _⟩ => ⟨S128x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1x1024, .f32⟩
  | .local _ .vmem, ⟨4, _⟩ => ⟨S1024x4992, .bf16⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x512, .f32⟩
  | .local _ .vmem, ⟨9, _⟩ => ⟨S128x512, .bf16⟩
  | .local _ .vmem, ⟨10, _⟩ => ⟨S128x512, .bf16⟩
  | .local _ .vmem, ⟨11, _⟩ => ⟨S128x512, .f32⟩
  | .local _ .vmem, ⟨12, _⟩ => ⟨S128x256, .f32⟩
  | .local _ .vmem, ⟨13, _⟩ => ⟨S128x512, .bf16⟩
  | .local _ .vmem, ⟨14, _⟩ => ⟨S128x2048, .bf16⟩
  | .local _ .vmem, ⟨15, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_c_2 : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60_0 : Ref sig .tc := ⟨.hbm, 78, rfl⟩
abbrev main_v60_1 : Ref sig .tc := ⟨.hbm, 79, rfl⟩
abbrev main_v60_2 : Ref sig .tc := ⟨.hbm, 80, rfl⟩
abbrev main_v60_3 : Ref sig .tc := ⟨.hbm, 81, rfl⟩
abbrev main_v60_4 : Ref sig .tc := ⟨.hbm, 82, rfl⟩
abbrev main_v60_5 : Ref sig .tc := ⟨.hbm, 83, rfl⟩
abbrev main_v60_6 : Ref sig .tc := ⟨.hbm, 84, rfl⟩
abbrev main_v60_7 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4992 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Reference5Ideal.lean ====
abbrev S128x1024 : Shape := ⟨2, ![128, 1024]⟩
abbrev S32x1024 : Shape := ⟨2, ![32, 1024]⟩
abbrev S1024 : Shape := ⟨1, ![1024]⟩
abbrev S1024x4888 : Shape := ⟨2, ![1024, 4888]⟩
abbrev S4 : Shape := ⟨1, ![4]⟩
abbrev S_ : Shape := ⟨0, ![]⟩
abbrev S32x4x1024 : Shape := ⟨3, ![32, 4, 1024]⟩
abbrev S32x4 : Shape := ⟨2, ![32, 4]⟩
abbrev S32x4x1 : Shape := ⟨3, ![32, 4, 1]⟩
abbrev S1x1x1024 : Shape := ⟨3, ![1, 1, 1024]⟩
abbrev S32x1x1024 : Shape := ⟨3, ![32, 1, 1024]⟩
abbrev S32x4x4888 : Shape := ⟨3, ![32, 4, 4888]⟩
abbrev S32x4x512 : Shape := ⟨3, ![32, 4, 512]⟩
abbrev S32x4x768 : Shape := ⟨3, ![32, 4, 768]⟩
abbrev S32x4x24 : Shape := ⟨3, ![32, 4, 24]⟩
abbrev S32x4x2048 : Shape := ⟨3, ![32, 4, 2048]⟩
abbrev S32x4x8x64 : Shape := ⟨4, ![32, 4, 8, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x1x8 : Shape := ⟨3, ![4, 1, 8]⟩
abbrev S32x4x8x8 : Shape := ⟨4, ![32, 4, 8, 8]⟩
abbrev S1x4x1x8 : Shape := ⟨4, ![1, 4, 1, 8]⟩
abbrev S32x4x8x16 : Shape := ⟨4, ![32, 4, 8, 16]⟩
abbrev S32x4x8x48 : Shape := ⟨4, ![32, 4, 8, 48]⟩
abbrev S32x4x6x2x64 : Shape := ⟨5, ![32, 4, 6, 2, 64]⟩
abbrev S32x4x1x2x64 : Shape := ⟨5, ![32, 4, 1, 2, 64]⟩
abbrev S32x4x2x64 : Shape := ⟨4, ![32, 4, 2, 64]⟩
abbrev S32x4x2x8 : Shape := ⟨4, ![32, 4, 2, 8]⟩
abbrev S32x4x2x16 : Shape := ⟨4, ![32, 4, 2, 16]⟩
abbrev S32x4x2x48 : Shape := ⟨4, ![32, 4, 2, 48]⟩
abbrev S32x4x4x2x64 : Shape := ⟨5, ![32, 4, 4, 2, 64]⟩
abbrev S32x4x2x2x64 : Shape := ⟨5, ![32, 4, 2, 2, 64]⟩
abbrev S128x512 : Shape := ⟨2, ![128, 512]⟩
abbrev S128x2x4x64 : Shape := ⟨4, ![128, 2, 4, 64]⟩
abbrev S128x4x2x64 : Shape := ⟨4, ![128, 4, 2, 64]⟩
abbrev S128x256 : Shape := ⟨2, ![128, 256]⟩
abbrev S128x2048 : Shape := ⟨2, ![128, 2048]⟩
abbrev S128x24 : Shape := ⟨2, ![128, 24]⟩
abbrev S128x128 : Shape := ⟨2, ![128, 128]⟩

abbrev nBuf : Space → Nat
  | .hbm => 198
  | .vmem => 0
  | .smem => 0
  | _ => 0

abbrev hbmTy0_0 (i : Nat) : BufTy := match i % 128 with
  | 0 => ⟨S128x1024, .f32⟩
  | 1 => ⟨S32x1024, .f32⟩
  | 2 => ⟨S32x1024, .f32⟩
  | 3 => ⟨S1024, .f32⟩
  | 4 => ⟨S1024x4888, .f32⟩
  | 5 => ⟨S4, .i32⟩
  | 6 => ⟨S_, .i32⟩
  | 7 => ⟨S4, .i32⟩
  | 8 => ⟨S4, .i32⟩
  | 9 => ⟨S32x4x1024, .f32⟩
  | 10 => ⟨S32x4x1024, .f32⟩
  | 11 => ⟨S_, .f32⟩
  | 12 => ⟨S32x4, .f32⟩
  | 13 => ⟨S32x4x1, .f32⟩
  | 14 => ⟨S_, .f32⟩
  | 15 => ⟨S32x4x1, .f32⟩
  | 16 => ⟨S32x4x1, .f32⟩
  | 17 => ⟨S_, .f32⟩
  | 18 => ⟨S32x4x1, .f32⟩
  | 19 => ⟨S32x4x1, .f32⟩
  | 20 => ⟨S32x4x1, .f32⟩
  | 21 => ⟨S32x4x1024, .f32⟩
  | 22 => ⟨S32x4x1024, .f32⟩
  | 23 => ⟨S1x1x1024, .f32⟩
  | 24 => ⟨S32x4x1024, .f32⟩
  | 25 => ⟨S32x4x1024, .f32⟩
  | 26 => ⟨S32x1x1024, .f32⟩
  | 27 => ⟨S_, .f32⟩
  | 28 => ⟨S32x1x1024, .f32⟩
  | 29 => ⟨S32x1x1024, .f32⟩
  | 30 => ⟨S32x4x1024, .f32⟩
  | 31 => ⟨S32x4x1024, .f32⟩
  | 32 => ⟨S32x1x1024, .f32⟩
  | 33 => ⟨S32x4x1024, .f32⟩
  | 34 => ⟨S32x4x1024, .f32⟩
  | 35 => ⟨S32x4x4888, .f32⟩
  | 36 => ⟨S32x4x512, .f32⟩
  | 37 => ⟨S32x4x512, .f32⟩
  | 38 => ⟨S32x4x512, .f32⟩
  | 39 => ⟨S32x4x768, .f32⟩
  | 40 => ⟨S32x4x24, .f32⟩
  | 41 => ⟨S32x4x512, .f32⟩
  | 42 => ⟨S32x4x2048, .f32⟩
  | 43 => ⟨S32x4x8x64, .f32⟩
  | 44 => ⟨S8, .f32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S4, .f32⟩
  | 53 => ⟨S4x1, .f32⟩
  | 54 => ⟨S1x8, .f32⟩
  | 55 => ⟨S4x8, .f32⟩
  | 56 => ⟨S4x8, .f32⟩
  | 57 => ⟨S4x8, .f32⟩
  | 58 => ⟨S4x8, .f32⟩
  | 59 => ⟨S4x1x8, .f32⟩
  | 60 => ⟨S4x8, .f32⟩
  | 61 => ⟨S4x1x8, .f32⟩
  | 62 => ⟨S32x4x8x8, .f32⟩
  | 63 => ⟨S32x4x8x8, .f32⟩
  | 64 => ⟨S1x4x1x8, .f32⟩
  | 65 => ⟨S32x4x8x8, .f32⟩
  | 66 => ⟨S32x4x8x8, .f32⟩
  | 67 => ⟨S1x4x1x8, .f32⟩
  | 68 => ⟨S32x4x8x8, .f32⟩
  | 69 => ⟨S32x4x8x8, .f32⟩
  | 70 => ⟨S32x4x8x8, .f32⟩
  | 71 => ⟨S1x4x1x8, .f32⟩
  | 72 => ⟨S32x4x8x8, .f32⟩
  | 73 => ⟨S32x4x8x8, .f32⟩
  | 74 => ⟨S1x4x1x8, .f32⟩
  | 75 => ⟨S32x4x8x8, .f32⟩
  | 76 => ⟨S32x4x8x8, .f32⟩
  | 77 => ⟨S32x4x8x8, .f32⟩
  | 78 => ⟨S32x4x8x16, .f32⟩
  | 79 => ⟨S32x4x8x48, .f32⟩
  | 80 => ⟨S32x4x8x64, .f32⟩
  | 81 => ⟨S_, .f32⟩
  | 82 => ⟨S32x4x8x64, .f32⟩
  | 83 => ⟨S32x4x8x64, .f32⟩
  | 84 => ⟨S32x4x6x2x64, .f32⟩
  | 85 => ⟨S32x4x1x2x64, .f32⟩
  | 86 => ⟨S32x4x2x64, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S4, .f32⟩
  | 96 => ⟨S4x1, .f32⟩
  | 97 => ⟨S1x8, .f32⟩
  | 98 => ⟨S4x8, .f32⟩
  | 99 => ⟨S4x8, .f32⟩
  | 100 => ⟨S4x8, .f32⟩
  | 101 => ⟨S4x8, .f32⟩
  | 102 => ⟨S4x1x8, .f32⟩
  | 103 => ⟨S4x8, .f32⟩
  | 104 => ⟨S4x1x8, .f32⟩
  | 105 => ⟨S32x4x2x8, .f32⟩
  | 106 => ⟨S32x4x2x8, .f32⟩
  | 107 => ⟨S1x4x1x8, .f32⟩
  | 108 => ⟨S32x4x2x8, .f32⟩
  | 109 => ⟨S32x4x2x8, .f32⟩
  | 110 => ⟨S1x4x1x8, .f32⟩
  | 111 => ⟨S32x4x2x8, .f32⟩
  | 112 => ⟨S32x4x2x8, .f32⟩
  | 113 => ⟨S32x4x2x8, .f32⟩
  | 114 => ⟨S1x4x1x8, .f32⟩
  | 115 => ⟨S32x4x2x8, .f32⟩
  | 116 => ⟨S32x4x2x8, .f32⟩
  | 117 => ⟨S1x4x1x8, .f32⟩
  | 118 => ⟨S32x4x2x8, .f32⟩
  | 119 => ⟨S32x4x2x8, .f32⟩
  | 120 => ⟨S32x4x2x8, .f32⟩
  | 121 => ⟨S32x4x2x16, .f32⟩
  | 122 => ⟨S32x4x2x48, .f32⟩
  | 123 => ⟨S32x4x2x64, .f32⟩
  | 124 => ⟨S32x4x1x2x64, .f32⟩
  | 125 => ⟨S32x4x2x64, .f32⟩
  | 126 => ⟨S8, .f32⟩
  | 127 => ⟨S8, .f32⟩
  | _ => ⟨S128x1024, .f32⟩

abbrev hbmTy0_1 (i : Nat) : BufTy := match i % 128 with
  | 0 => ⟨S_, .f32⟩
  | 1 => ⟨S8, .f32⟩
  | 2 => ⟨S8, .f32⟩
  | 3 => ⟨S_, .f32⟩
  | 4 => ⟨S8, .f32⟩
  | 5 => ⟨S8, .f32⟩
  | 6 => ⟨S4, .f32⟩
  | 7 => ⟨S4x1, .f32⟩
  | 8 => ⟨S1x8, .f32⟩
  | 9 => ⟨S4x8, .f32⟩
  | 10 => ⟨S4x8, .f32⟩
  | 11 => ⟨S4x8, .f32⟩
  | 12 => ⟨S4x8, .f32⟩
  | 13 => ⟨S4x1x8, .f32⟩
  | 14 => ⟨S4x8, .f32⟩
  | 15 => ⟨S4x1x8, .f32⟩
  | 16 => ⟨S32x4x2x8, .f32⟩
  | 17 => ⟨S32x4x2x8, .f32⟩
  | 18 => ⟨S1x4x1x8, .f32⟩
  | 19 => ⟨S32x4x2x8, .f32⟩
  | 20 => ⟨S32x4x2x8, .f32⟩
  | 21 => ⟨S1x4x1x8, .f32⟩
  | 22 => ⟨S32x4x2x8, .f32⟩
  | 23 => ⟨S32x4x2x8, .f32⟩
  | 24 => ⟨S32x4x2x8, .f32⟩
  | 25 => ⟨S1x4x1x8, .f32⟩
  | 26 => ⟨S32x4x2x8, .f32⟩
  | 27 => ⟨S32x4x2x8, .f32⟩
  | 28 => ⟨S1x4x1x8, .f32⟩
  | 29 => ⟨S32x4x2x8, .f32⟩
  | 30 => ⟨S32x4x2x8, .f32⟩
  | 31 => ⟨S32x4x2x8, .f32⟩
  | 32 => ⟨S32x4x2x16, .f32⟩
  | 33 => ⟨S32x4x2x48, .f32⟩
  | 34 => ⟨S32x4x2x64, .f32⟩
  | 35 => ⟨S32x4x1x2x64, .f32⟩
  | 36 => ⟨S32x4x2x64, .f32⟩
  | 37 => ⟨S32x4x1x2x64, .f32⟩
  | 38 => ⟨S32x4x2x64, .f32⟩
  | 39 => ⟨S32x4x1x2x64, .f32⟩
  | 40 => ⟨S32x4x2x64, .f32⟩
  | 41 => ⟨S32x4x1x2x64, .f32⟩
  | 42 => ⟨S32x4x1x2x64, .f32⟩
  | 43 => ⟨S32x4x1x2x64, .f32⟩
  | 44 => ⟨S32x4x1x2x64, .f32⟩
  | 45 => ⟨S32x4x4x2x64, .f32⟩
  | 46 => ⟨S32x4x1x2x64, .f32⟩
  | 47 => ⟨S32x4x2x64, .f32⟩
  | 48 => ⟨S32x4x1x2x64, .f32⟩
  | 49 => ⟨S32x4x1x2x64, .f32⟩
  | 50 => ⟨S32x4x2x2x64, .f32⟩
  | 51 => ⟨S128x512, .f32⟩
  | 52 => ⟨S128x512, .f32⟩
  | 53 => ⟨S128x512, .bf16⟩
  | 54 => ⟨S128x2x4x64, .f32⟩
  | 55 => ⟨S128x4x2x64, .f32⟩
  | 56 => ⟨S128x512, .f32⟩
  | 57 => ⟨S128x512, .bf16⟩
  | 58 => ⟨S128x512, .f32⟩
  | 59 => ⟨S128x256, .f32⟩
  | 60 => ⟨S128x2x4x64, .f32⟩
  | 61 => ⟨S128x4x2x64, .f32⟩
  | 62 => ⟨S128x512, .f32⟩
  | 63 => ⟨S128x512, .bf16⟩
  | 64 => ⟨S128x2048, .f32⟩
  | 65 => ⟨S128x2048, .bf16⟩
  | 66 => ⟨S128x24, .f32⟩
  | 67 => ⟨S_, .i32⟩
  | 68 => ⟨S_, .f32⟩
  | 69 => ⟨S128x128, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_5 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_6 : Ref sig .tc := ⟨.hbm, 89, rfl⟩
abbrev main_v76 : Ref sig .tc := ⟨.hbm, 90, rfl⟩
abbrev main_v77 : Ref sig .tc := ⟨.hbm, 91, rfl⟩
abbrev main_cst_7 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_cst_8 : Ref sig .tc := ⟨.hbm, 128, rfl⟩
abbrev main_v113 : Ref sig .tc := ⟨.hbm, 129, rfl⟩
abbrev main_v114 : Ref sig .tc := ⟨.hbm, 130, rfl⟩
abbrev main_cst_9 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_c_10 : Ref sig .tc := ⟨.hbm, 195, rfl⟩
abbrev main_call0_v0 : Ref sig .tc := ⟨.hbm, 196, rfl⟩
abbrev main_v178 : Ref sig .tc := ⟨.hbm, 197, rfl⟩

abbrev nD : Nat := 1
abbrev τ : Topo := Topo.v7x

variable {F : FTy → Type} [FloatOps F]
-- ==== Proof.Kernel.Held.lean ====
module

public import proofs.«01_k».proof.Proof.Gen.Kernel.Frame
public import proofs.«01_k».proof.Proof.Gen.Kernel.Loops

@[expose] public section

set_option maxRecDepth 16384

noncomputable section

/-! The body of the attention kernel, part by part: whatever the scratch buffers and the output block hold, each
    part runs and gives the input blocks back as it found them. -/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What the body holds between its parts: the inputs' blocks at their contents, the output's block and the
    scratch buffers at anything. -/
abbrev Held (c : Dev nD) (arg2 : Memref sig .tc .vmem S256x512 .bf16) (arg3 : Memref sig .tc .vmem S1x256x2048 .f32) (arg4 : Memref sig .tc .vmem S1x256x2048 .f32) (arg5 : Memref sig .tc .vmem S1x128x256 .f32) (arg6 : Memref sig .tc .vmem S256x128 .f32) (arg7 : Memref sig .tc .vmem S128x2048 .bf16) (arg8 : Memref sig .tc .vmem S1x2048x256 .f32) (arg9 : Memref sig .tc .vmem S2048x768 .f32) (arg10 : Memref sig .tc .vmem S256x512 .f32) (arg11 : Memref sig .tc .vmem S256x2048 .bf16) (arg12 : Memref sig .tc .vmem S128x2048 .bf16) (arg13 : Memref sig .tc .vmem S256x2560 .bf16) (arg14 : Memref sig .tc .vmem S128x2560 .bf16) (arg15 : Memref sig .tc .vmem S2048x2048 .f32) (arg16 : Memref sig .tc .vmem S2048x128 .f32) (arg17 : Memref sig .tc .vmem S2048x128 .f32) (arg18 : Memref sig .tc .vmem S2048x128 .f32) (arg19 : Memref sig .tc .vmem S2x256x128 .f32)
    (x2 : Vec F S256x512 .bf16) (x3 : Vec F S1x256x2048 .f32) (x4 : Vec F S1x256x2048 .f32) (x5 : Vec F S1x128x256 .f32) (x6 : Vec F S256x128 .f32) (x7 : Vec F S128x2048 .bf16) (x8 : Vec F S1x2048x256 .f32) (x9 : Vec F S2048x768 .f32) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d))

end Cert.Kernel.Hand

end
-- ==== Proof.KernelIdeal.Held.lean ====
module

public import proofs.«01_k».proof.Proof.Gen.KernelIdeal.Frame
public import proofs.«01_k».proof.Proof.Gen.KernelIdeal.Loops

@[expose] public section

set_option maxRecDepth 16384

noncomputable section

/-! The body of the attention kernel, part by part: whatever the scratch buffers and the output block hold, each
    part runs and gives the input blocks back as it found them. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- What the body holds between its parts: the inputs' blocks at their contents, the output's block and the
    scratch buffers at anything. -/
abbrev Held (c : Dev nD) (arg2 : Memref sig .tc .vmem S256x512 .bf16) (arg3 : Memref sig .tc .vmem S1x256x2048 .f32) (arg4 : Memref sig .tc .vmem S1x256x2048 .f32) (arg5 : Memref sig .tc .vmem S1x128x256 .f32) (arg6 : Memref sig .tc .vmem S256x128 .f32) (arg7 : Memref sig .tc .vmem S128x2048 .bf16) (arg8 : Memref sig .tc .vmem S1x2048x256 .f32) (arg9 : Memref sig .tc .vmem S2048x768 .f32) (arg10 : Memref sig .tc .vmem S256x512 .f32) (arg11 : Memref sig .tc .vmem S256x2048 .bf16) (arg12 : Memref sig .tc .vmem S128x2048 .bf16) (arg13 : Memref sig .tc .vmem S256x2560 .bf16) (arg14 : Memref sig .tc .vmem S128x2560 .bf16) (arg15 : Memref sig .tc .vmem S2048x2048 .f32) (arg16 : Memref sig .tc .vmem S2048x128 .f32) (arg17 : Memref sig .tc .vmem S2048x128 .f32) (arg18 : Memref sig .tc .vmem S2048x128 .f32) (arg19 : Memref sig .tc .vmem S2x256x128 .f32)
    (x2 : Vec F S256x512 .bf16) (x3 : Vec F S1x256x2048 .f32) (x4 : Vec F S1x256x2048 .f32) (x5 : Vec F S1x128x256 .f32) (x6 : Vec F S256x128 .f32) (x7 : Vec F S128x2048 .bf16) (x8 : Vec F S1x2048x256 .f32) (x9 : Vec F S2048x768 .f32) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d))

end Cert.KernelIdeal.Hand

end
-- ==== Proof.KernelIdeal.BodyA.lean ====
module

public import proofs.«01_k».proof.Proof.Gen.KernelIdeal.Frame
public import proofs.«01_k».proof.Proof.Gen.KernelIdeal.Loops
public import proofs.«01_k».proof.Proof.KernelIdeal.Held

@[expose] public section

set_option maxRecDepth 16384

noncomputable section

/-! The body of the attention kernel, part by part: whatever the scratch buffers and the output block hold, each
    part runs and gives the input blocks back as it found them. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- Part 21: the inputs' blocks are given back, everything else at some contents. -/
theorem part21 (c : Dev nD) (E : Set ℕ) (i : grid0.Coords) (arg2 : Memref sig .tc .vmem S256x512 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x128x256 .f32) (harg5 : arg5.IsWhole) (arg6 : Memref sig .tc .vmem S256x128 .f32) (harg6 : arg6.IsWhole) (arg7 : Memref sig .tc .vmem S128x2048 .bf16) (harg7 : arg7.IsWhole) (arg8 : Memref sig .tc .vmem S1x2048x256 .f32) (harg8 : arg8.IsWhole) (arg9 : Memref sig .tc .vmem S2048x768 .f32) (harg9 : arg9.IsWhole) (arg10 : Memref sig .tc .vmem S256x512 .f32) (harg10 : arg10.IsWhole) (arg11 : Memref sig .tc .vmem S256x2048 .bf16) (harg11 : arg11.IsWhole) (arg12 : Memref sig .tc .vmem S128x2048 .bf16) (harg12 : arg12.IsWhole) (arg13 : Memref sig .tc .vmem S256x2560 .bf16) (harg13 : arg13.IsWhole) (arg14 : Memref sig .tc .vmem S128x2560 .bf16) (harg14 : arg14.IsWhole) (arg15 : Memref sig .tc .vmem S2048x2048 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2x256x128 .f32) (harg19 : arg19.IsWhole)
     (x2 : Vec F S256x512 .bf16) (x3 : Vec F S1x256x2048 .f32) (x4 : Vec F S1x256x2048 .f32) (x5 : Vec F S1x128x256 .f32) (x6 : Vec F S256x128 .f32) (x7 : Vec F S128x2048 .bf16) (x8 : Vec F S1x2048x256 .f32) (x9 : Vec F S2048x768 .f32) :
    Held (F := F) c arg2 arg3 arg4 arg5 arg6 arg7 arg8 arg9 arg10 arg11 arg12 arg13 arg14 arg15 arg16 arg17 arg18 arg19 x2 x3 x4 x5 x6 x7 x8 x9 ⊢ wp frame (wpE (defs₀ (F := F)) Variants.none c none) E (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) (fun _ => Held (F := F) c arg2 arg3 arg4 arg5 arg6 arg7 arg8 arg9 arg10 arg11 arg12 arg13 arg14 arg15 arg16 arg17 arg18 arg19 x2 x3 x4 x5 x6 x7 x8 x9) := by
  rw [k0_part21_eq_skeleton]; unfold k0_part21_skel
  simp only [k0_part1_eq_skeleton]; unfold k0_part1_skel
  by_cases hc : (Scalar.cmpi .ne (Scalar.extui (Scalar.cmpi .eq (BitVec.ofNat 32 (i 1).val) 0#32)) 0#32) = 1#1
  · unfold Held owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc)
    sl_step
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl
  · unfold Held owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc)
    sl_step
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

set_option maxHeartbeats 4000000 in
/-- Part 22: the inputs' blocks are given back, everything else at some contents. -/
theorem part22 (c : Dev nD) (E : Set ℕ) (i : grid0.Coords) (arg2 : Memref sig .tc .vmem S256x512 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x128x256 .f32) (harg5 : arg5.IsWhole) (arg6 : Memref sig .tc .vmem S256x128 .f32) (harg6 : arg6.IsWhole) (arg7 : Memref sig .tc .vmem S128x2048 .bf16) (harg7 : arg7.IsWhole) (arg8 : Memref sig .tc .vmem S1x2048x256 .f32) (harg8 : arg8.IsWhole) (arg9 : Memref sig .tc .vmem S2048x768 .f32) (harg9 : arg9.IsWhole) (arg10 : Memref sig .tc .vmem S256x512 .f32) (harg10 : arg10.IsWhole) (arg11 : Memref sig .tc .vmem S256x2048 .bf16) (harg11 : arg11.IsWhole) (arg12 : Memref sig .tc .vmem S128x2048 .bf16) (harg12 : arg12.IsWhole) (arg13 : Memref sig .tc .vmem S256x2560 .bf16) (harg13 : arg13.IsWhole) (arg14 : Memref sig .tc .vmem S128x2560 .bf16) (harg14 : arg14.IsWhole) (arg15 : Memref sig .tc .vmem S2048x2048 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2x256x128 .f32) (harg19 : arg19.IsWhole)
    (v1 : BitVec 32) (v37 : FVec F S2048x128 .bf16) (v38 : IVec S2048x1 32) (c256_i32_10 : BitVec 32) (v39 : BitVec 1) (x2 : Vec F S256x512 .bf16) (x3 : Vec F S1x256x2048 .f32) (x4 : Vec F S1x256x2048 .f32) (x5 : Vec F S1x128x256 .f32) (x6 : Vec F S256x128 .f32) (x7 : Vec F S128x2048 .bf16) (x8 : Vec F S1x2048x256 .f32) (x9 : Vec F S2048x768 .f32) :
    Held (F := F) c arg2 arg3 arg4 arg5 arg6 arg7 arg8 arg9 arg10 arg11 arg12 arg13 arg14 arg15 arg16 arg17 arg18 arg19 x2 x3 x4 x5 x6 x7 x8 x9 ⊢ wp frame (wpE (defs₀ (F := F)) Variants.none c none) E (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v37 v38 c256_i32_10 v39) (fun _ => Held (F := F) c arg2 arg3 arg4 arg5 arg6 arg7 arg8 arg9 arg10 arg11 arg12 arg13 arg14 arg15 arg16 arg17 arg18 arg19 x2 x3 x4 x5 x6 x7 x8 x9) := by
  rw [k0_part22_eq_skeleton]; unfold k0_part22_skel
  unfold Held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

set_option maxHeartbeats 4000000 in
/-- Part 23: the inputs' blocks are given back, everything else at some contents. -/
theorem part23 (c : Dev nD) (E : Set ℕ) (i : grid0.Coords) (arg2 : Memref sig .tc .vmem S256x512 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x128x256 .f32) (harg5 : arg5.IsWhole) (arg6 : Memref sig .tc .vmem S256x128 .f32) (harg6 : arg6.IsWhole) (arg7 : Memref sig .tc .vmem S128x2048 .bf16) (harg7 : arg7.IsWhole) (arg8 : Memref sig .tc .vmem S1x2048x256 .f32) (harg8 : arg8.IsWhole) (arg9 : Memref sig .tc .vmem S2048x768 .f32) (harg9 : arg9.IsWhole) (arg10 : Memref sig .tc .vmem S256x512 .f32) (harg10 : arg10.IsWhole) (arg11 : Memref sig .tc .vmem S256x2048 .bf16) (harg11 : arg11.IsWhole) (arg12 : Memref sig .tc .vmem S128x2048 .bf16) (harg12 : arg12.IsWhole) (arg13 : Memref sig .tc .vmem S256x2560 .bf16) (harg13 : arg13.IsWhole) (arg14 : Memref sig .tc .vmem S128x2560 .bf16) (harg14 : arg14.IsWhole) (arg15 : Memref sig .tc .vmem S2048x2048 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2x256x128 .f32) (harg19 : arg19.IsWhole)
    (v1 : BitVec 32) (v62 : FVec F S128x128 .bf16) (v84 : FVec F S2048x128 .f32) (x2 : Vec F S256x512 .bf16) (x3 : Vec F S1x256x2048 .f32) (x4 : Vec F S1x256x2048 .f32) (x5 : Vec F S1x128x256 .f32) (x6 : Vec F S256x128 .f32) (x7 : Vec F S128x2048 .bf16) (x8 : Vec F S1x2048x256 .f32) (x9 : Vec F S2048x768 .f32) :
    Held (F := F) c arg2 arg3 arg4 arg5 arg6 arg7 arg8 arg9 arg10 arg11 arg12 arg13 arg14 arg15 arg16 arg17 arg18 arg19 x2 x3 x4 x5 x6 x7 x8 x9 ⊢ wp frame (wpE (defs₀ (F := F)) Variants.none c none) E (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v62 v84) (fun _ => Held (F := F) c arg2 arg3 arg4 arg5 arg6 arg7 arg8 arg9 arg10 arg11 arg12 arg13 arg14 arg15 arg16 arg17 arg18 arg19 x2 x3 x4 x5 x6 x7 x8 x9) := by
  rw [k0_part23_eq_skeleton]; unfold k0_part23_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]; unfold k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel
  by_cases hc : (Scalar.cmpi .ne (Scalar.extui (Scalar.cmpi .sgt (Scalar.addi v1 256#32) 1024#32)) 0#32) = 1#1
  · unfold Held owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc)
    sl_step
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl
  · unfold Held owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc)
    sl_step
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

set_option maxHeartbeats 4000000 in
/-- Part 24: the inputs' blocks are given back, everything else at some contents. -/
theorem part24 (c : Dev nD) (E : Set ℕ) (i : grid0.Coords) (arg2 : Memref sig .tc .vmem S256x512 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x128x256 .f32) (harg5 : arg5.IsWhole) (arg6 : Memref sig .tc .vmem S256x128 .f32) (harg6 : arg6.IsWhole) (arg7 : Memref sig .tc .vmem S128x2048 .bf16) (harg7 : arg7.IsWhole) (arg8 : Memref sig .tc .vmem S1x2048x256 .f32) (harg8 : arg8.IsWhole) (arg9 : Memref sig .tc .vmem S2048x768 .f32) (harg9 : arg9.IsWhole) (arg10 : Memref sig .tc .vmem S256x512 .f32) (harg10 : arg10.IsWhole) (arg11 : Memref sig .tc .vmem S256x2048 .bf16) (harg11 : arg11.IsWhole) (arg12 : Memref sig .tc .vmem S128x2048 .bf16) (harg12 : arg12.IsWhole) (arg13 : Memref sig .tc .vmem S256x2560 .bf16) (harg13 : arg13.IsWhole) (arg14 : Memref sig .tc .vmem S128x2560 .bf16) (harg14 : arg14.IsWhole) (arg15 : Memref sig .tc .vmem S2048x2048 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2x256x128 .f32) (harg19 : arg19.IsWhole)
    (v1 : BitVec 32) (v37 : FVec F S2048x128 .bf16) (v125 : FVec F S256x128 .bf16) (x2 : Vec F S256x512 .bf16) (x3 : Vec F S1x256x2048 .f32) (x4 : Vec F S1x256x2048 .f32) (x5 : Vec F S1x128x256 .f32) (x6 : Vec F S256x128 .f32) (x7 : Vec F S128x2048 .bf16) (x8 : Vec F S1x2048x256 .f32) (x9 : Vec F S2048x768 .f32) :
    Held (F := F) c arg2 arg3 arg4 arg5 arg6 arg7 arg8 arg9 arg10 arg11 arg12 arg13 arg14 arg15 arg16 arg17 arg18 arg19 x2 x3 x4 x5 x6 x7 x8 x9 ⊢ wp frame (wpE (defs₀ (F := F)) Variants.none c none) E (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v37 v125) (fun _ => Held (F := F) c arg2 arg3 arg4 arg5 arg6 arg7 arg8 arg9 arg10 arg11 arg12 arg13 arg14 arg15 arg16 arg17 arg18 arg19 x2 x3 x4 x5 x6 x7 x8 x9) := by
  rw [k0_part24_eq_skeleton]; unfold k0_part24_skel
  unfold Held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.KernelIdeal.Hand

end
-- ==== Proof.KernelIdeal.BodyB.lean ====
module

public import proofs.«01_k».proof.Proof.Gen.KernelIdeal.Frame
public import proofs.«01_k».proof.Proof.Gen.KernelIdeal.Loops
public import proofs.«01_k».proof.Proof.KernelIdeal.Held

@[expose] public section

set_option maxRecDepth 16384

noncomputable section

/-! The body of the attention kernel, part by part: whatever the scratch buffers and the output block hold, each
    part runs and gives the input blocks back as it found them. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- Part 25: the inputs' blocks are given back, everything else at some contents. -/
theorem part25 (c : Dev nD) (E : Set ℕ) (i : grid0.Coords) (arg2 : Memref sig .tc .vmem S256x512 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x128x256 .f32) (harg5 : arg5.IsWhole) (arg6 : Memref sig .tc .vmem S256x128 .f32) (harg6 : arg6.IsWhole) (arg7 : Memref sig .tc .vmem S128x2048 .bf16) (harg7 : arg7.IsWhole) (arg8 : Memref sig .tc .vmem S1x2048x256 .f32) (harg8 : arg8.IsWhole) (arg9 : Memref sig .tc .vmem S2048x768 .f32) (harg9 : arg9.IsWhole) (arg10 : Memref sig .tc .vmem S256x512 .f32) (harg10 : arg10.IsWhole) (arg11 : Memref sig .tc .vmem S256x2048 .bf16) (harg11 : arg11.IsWhole) (arg12 : Memref sig .tc .vmem S128x2048 .bf16) (harg12 : arg12.IsWhole) (arg13 : Memref sig .tc .vmem S256x2560 .bf16) (harg13 : arg13.IsWhole) (arg14 : Memref sig .tc .vmem S128x2560 .bf16) (harg14 : arg14.IsWhole) (arg15 : Memref sig .tc .vmem S2048x2048 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2x256x128 .f32) (harg19 : arg19.IsWhole)
    (v159 : BitVec 32) (v161 : BitVec 32) (v162 : BitVec 32) (v163 : BitVec 1) (v164 : BitVec 1) (v165 : BitVec 1) (x2 : Vec F S256x512 .bf16) (x3 : Vec F S1x256x2048 .f32) (x4 : Vec F S1x256x2048 .f32) (x5 : Vec F S1x128x256 .f32) (x6 : Vec F S256x128 .f32) (x7 : Vec F S128x2048 .bf16) (x8 : Vec F S1x2048x256 .f32) (x9 : Vec F S2048x768 .f32) :
    Held (F := F) c arg2 arg3 arg4 arg5 arg6 arg7 arg8 arg9 arg10 arg11 arg12 arg13 arg14 arg15 arg16 arg17 arg18 arg19 x2 x3 x4 x5 x6 x7 x8 x9 ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v159 v161 v162 v163 v164 v165) (fun _ => Held (F := F) c arg2 arg3 arg4 arg5 arg6 arg7 arg8 arg9 arg10 arg11 arg12 arg13 arg14 arg15 arg16 arg17 arg18 arg19 x2 x3 x4 x5 x6 x7 x8 x9) := by
  rw [k0_part25_eq_skeleton]; unfold k0_part25_skel
  unfold Held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

set_option maxHeartbeats 4000000 in
/-- Part 26: the inputs' blocks are given back, everything else at some contents. -/
theorem part26 (c : Dev nD) (E : Set ℕ) (i : grid0.Coords) (arg2 : Memref sig .tc .vmem S256x512 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x128x256 .f32) (harg5 : arg5.IsWhole) (arg6 : Memref sig .tc .vmem S256x128 .f32) (harg6 : arg6.IsWhole) (arg7 : Memref sig .tc .vmem S128x2048 .bf16) (harg7 : arg7.IsWhole) (arg8 : Memref sig .tc .vmem S1x2048x256 .f32) (harg8 : arg8.IsWhole) (arg9 : Memref sig .tc .vmem S2048x768 .f32) (harg9 : arg9.IsWhole) (arg10 : Memref sig .tc .vmem S256x512 .f32) (harg10 : arg10.IsWhole) (arg11 : Memref sig .tc .vmem S256x2048 .bf16) (harg11 : arg11.IsWhole) (arg12 : Memref sig .tc .vmem S128x2048 .bf16) (harg12 : arg12.IsWhole) (arg13 : Memref sig .tc .vmem S256x2560 .bf16) (harg13 : arg13.IsWhole) (arg14 : Memref sig .tc .vmem S128x2560 .bf16) (harg14 : arg14.IsWhole) (arg15 : Memref sig .tc .vmem S2048x2048 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2x256x128 .f32) (harg19 : arg19.IsWhole)
    (v134 : FVec F S2048x256 .bf16) (v159 : BitVec 32) (v186 : BitVec 32) (v207 : BitVec 32) (x2 : Vec F S256x512 .bf16) (x3 : Vec F S1x256x2048 .f32) (x4 : Vec F S1x256x2048 .f32) (x5 : Vec F S1x128x256 .f32) (x6 : Vec F S256x128 .f32) (x7 : Vec F S128x2048 .bf16) (x8 : Vec F S1x2048x256 .f32) (x9 : Vec F S2048x768 .f32) :
    Held (F := F) c arg2 arg3 arg4 arg5 arg6 arg7 arg8 arg9 arg10 arg11 arg12 arg13 arg14 arg15 arg16 arg17 arg18 arg19 x2 x3 x4 x5 x6 x7 x8 x9 ⊢ wp frame (wpE (defs₀ (F := F)) Variants.none c none) E (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v134 v159 v186 v207) (fun _ => Held (F := F) c arg2 arg3 arg4 arg5 arg6 arg7 arg8 arg9 arg10 arg11 arg12 arg13 arg14 arg15 arg16 arg17 arg18 arg19 x2 x3 x4 x5 x6 x7 x8 x9) := by
  rw [k0_part26_eq_skeleton]; unfold k0_part26_skel
  by_cases hc : k0_cond3 i = 1#1
  · unfold Held owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc)
    sl_step
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl
  · unfold Held owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc)
    sl_step
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

set_option maxHeartbeats 4000000 in
/-- Part 27: the inputs' blocks are given back, everything else at some contents. -/
theorem part27 (c : Dev nD) (E : Set ℕ) (i : grid0.Coords) (arg2 : Memref sig .tc .vmem S256x512 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x128x256 .f32) (harg5 : arg5.IsWhole) (arg6 : Memref sig .tc .vmem S256x128 .f32) (harg6 : arg6.IsWhole) (arg7 : Memref sig .tc .vmem S128x2048 .bf16) (harg7 : arg7.IsWhole) (arg8 : Memref sig .tc .vmem S1x2048x256 .f32) (harg8 : arg8.IsWhole) (arg9 : Memref sig .tc .vmem S2048x768 .f32) (harg9 : arg9.IsWhole) (arg10 : Memref sig .tc .vmem S256x512 .f32) (harg10 : arg10.IsWhole) (arg11 : Memref sig .tc .vmem S256x2048 .bf16) (harg11 : arg11.IsWhole) (arg12 : Memref sig .tc .vmem S128x2048 .bf16) (harg12 : arg12.IsWhole) (arg13 : Memref sig .tc .vmem S256x2560 .bf16) (harg13 : arg13.IsWhole) (arg14 : Memref sig .tc .vmem S128x2560 .bf16) (harg14 : arg14.IsWhole) (arg15 : Memref sig .tc .vmem S2048x2048 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2x256x128 .f32) (harg19 : arg19.IsWhole)
    (v159 : BitVec 32) (v241 : FVec F S2048x128 .f32) (v242 : Vec F S2048x128 .f32) (x2 : Vec F S256x512 .bf16) (x3 : Vec F S1x256x2048 .f32) (x4 : Vec F S1x256x2048 .f32) (x5 : Vec F S1x128x256 .f32) (x6 : Vec F S256x128 .f32) (x7 : Vec F S128x2048 .bf16) (x8 : Vec F S1x2048x256 .f32) (x9 : Vec F S2048x768 .f32) :
    Held (F := F) c arg2 arg3 arg4 arg5 arg6 arg7 arg8 arg9 arg10 arg11 arg12 arg13 arg14 arg15 arg16 arg17 arg18 arg19 x2 x3 x4 x5 x6 x7 x8 x9 ⊢ wp frame (wpE (defs₀ (F := F)) Variants.none c none) E (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v159 v241 v242) (fun _ => Held (F := F) c arg2 arg3 arg4 arg5 arg6 arg7 arg8 arg9 arg10 arg11 arg12 arg13 arg14 arg15 arg16 arg17 arg18 arg19 x2 x3 x4 x5 x6 x7 x8 x9) := by
  rw [k0_part27_eq_skeleton]; unfold k0_part27_skel
  unfold Held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

set_option maxHeartbeats 4000000 in
/-- Part 28: the inputs' blocks are given back, everything else at some contents. -/
theorem part28 (c : Dev nD) (E : Set ℕ) (i : grid0.Coords) (arg2 : Memref sig .tc .vmem S256x512 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x128x256 .f32) (harg5 : arg5.IsWhole) (arg6 : Memref sig .tc .vmem S256x128 .f32) (harg6 : arg6.IsWhole) (arg7 : Memref sig .tc .vmem S128x2048 .bf16) (harg7 : arg7.IsWhole) (arg8 : Memref sig .tc .vmem S1x2048x256 .f32) (harg8 : arg8.IsWhole) (arg9 : Memref sig .tc .vmem S2048x768 .f32) (harg9 : arg9.IsWhole) (arg10 : Memref sig .tc .vmem S256x512 .f32) (harg10 : arg10.IsWhole) (arg11 : Memref sig .tc .vmem S256x2048 .bf16) (harg11 : arg11.IsWhole) (arg12 : Memref sig .tc .vmem S128x2048 .bf16) (harg12 : arg12.IsWhole) (arg13 : Memref sig .tc .vmem S256x2560 .bf16) (harg13 : arg13.IsWhole) (arg14 : Memref sig .tc .vmem S128x2560 .bf16) (harg14 : arg14.IsWhole) (arg15 : Memref sig .tc .vmem S2048x2048 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2x256x128 .f32) (harg19 : arg19.IsWhole)
    (v1 : BitVec 32) (v142 : FVec F S2048x256 .bf16) (v159 : BitVec 32) (v251 : FVec F S2048x128 .f32) (c0_i32_116 : BitVec 32) (v278 : BitVec 32) (x2 : Vec F S256x512 .bf16) (x3 : Vec F S1x256x2048 .f32) (x4 : Vec F S1x256x2048 .f32) (x5 : Vec F S1x128x256 .f32) (x6 : Vec F S256x128 .f32) (x7 : Vec F S128x2048 .bf16) (x8 : Vec F S1x2048x256 .f32) (x9 : Vec F S2048x768 .f32) :
    Held (F := F) c arg2 arg3 arg4 arg5 arg6 arg7 arg8 arg9 arg10 arg11 arg12 arg13 arg14 arg15 arg16 arg17 arg18 arg19 x2 x3 x4 x5 x6 x7 x8 x9 ⊢ wp frame (wpE (defs₀ (F := F)) Variants.none c none) E (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v142 v159 v251 c0_i32_116 v278) (fun _ => Held (F := F) c arg2 arg3 arg4 arg5 arg6 arg7 arg8 arg9 arg10 arg11 arg12 arg13 arg14 arg15 arg16 arg17 arg18 arg19 x2 x3 x4 x5 x6 x7 x8 x9) := by
  rw [k0_part28_eq_skeleton]; unfold k0_part28_skel
  by_cases hc : k0_cond4 i = 1#1
  · unfold Held owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc)
    sl_step
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl
  · unfold Held owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc)
    sl_step
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

set_option maxHeartbeats 4000000 in
/-- Part 29: the inputs' blocks are given back, everything else at some contents. -/
theorem part29 (c : Dev nD) (E : Set ℕ) (i : grid0.Coords) (arg2 : Memref sig .tc .vmem S256x512 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x128x256 .f32) (harg5 : arg5.IsWhole) (arg6 : Memref sig .tc .vmem S256x128 .f32) (harg6 : arg6.IsWhole) (arg7 : Memref sig .tc .vmem S128x2048 .bf16) (harg7 : arg7.IsWhole) (arg8 : Memref sig .tc .vmem S1x2048x256 .f32) (harg8 : arg8.IsWhole) (arg9 : Memref sig .tc .vmem S2048x768 .f32) (harg9 : arg9.IsWhole) (arg10 : Memref sig .tc .vmem S256x512 .f32) (harg10 : arg10.IsWhole) (arg11 : Memref sig .tc .vmem S256x2048 .bf16) (harg11 : arg11.IsWhole) (arg12 : Memref sig .tc .vmem S128x2048 .bf16) (harg12 : arg12.IsWhole) (arg13 : Memref sig .tc .vmem S256x2560 .bf16) (harg13 : arg13.IsWhole) (arg14 : Memref sig .tc .vmem S128x2560 .bf16) (harg14 : arg14.IsWhole) (arg15 : Memref sig .tc .vmem S2048x2048 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2x256x128 .f32) (harg19 : arg19.IsWhole)
    (v1 : BitVec 32) (v96 : FVec F S2048x128 .f32) (v301 : FVec F S2048x128 .f32) (v312 : FVec F S2048x768 .f32) (v313 : FVec F S2048x768 .bf16) (x2 : Vec F S256x512 .bf16) (x3 : Vec F S1x256x2048 .f32) (x4 : Vec F S1x256x2048 .f32) (x5 : Vec F S1x128x256 .f32) (x6 : Vec F S256x128 .f32) (x7 : Vec F S128x2048 .bf16) (x8 : Vec F S1x2048x256 .f32) (x9 : Vec F S2048x768 .f32) :
    Held (F := F) c arg2 arg3 arg4 arg5 arg6 arg7 arg8 arg9 arg10 arg11 arg12 arg13 arg14 arg15 arg16 arg17 arg18 arg19 x2 x3 x4 x5 x6 x7 x8 x9 ⊢ wp frame (wpE (defs₀ (F := F)) Variants.none c none) E (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v96 v301 v312 v313) (fun _ => Held (F := F) c arg2 arg3 arg4 arg5 arg6 arg7 arg8 arg9 arg10 arg11 arg12 arg13 arg14 arg15 arg16 arg17 arg18 arg19 x2 x3 x4 x5 x6 x7 x8 x9) := by
  rw [k0_part29_eq_skeleton]; unfold k0_part29_skel
  unfold Held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

set_option maxHeartbeats 4000000 in
/-- Part 30: the inputs' blocks are given back, everything else at some contents. -/
theorem part30 (c : Dev nD) (E : Set ℕ) (i : grid0.Coords) (arg2 : Memref sig .tc .vmem S256x512 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x128x256 .f32) (harg5 : arg5.IsWhole) (arg6 : Memref sig .tc .vmem S256x128 .f32) (harg6 : arg6.IsWhole) (arg7 : Memref sig .tc .vmem S128x2048 .bf16) (harg7 : arg7.IsWhole) (arg8 : Memref sig .tc .vmem S1x2048x256 .f32) (harg8 : arg8.IsWhole) (arg9 : Memref sig .tc .vmem S2048x768 .f32) (harg9 : arg9.IsWhole) (arg10 : Memref sig .tc .vmem S256x512 .f32) (harg10 : arg10.IsWhole) (arg11 : Memref sig .tc .vmem S256x2048 .bf16) (harg11 : arg11.IsWhole) (arg12 : Memref sig .tc .vmem S128x2048 .bf16) (harg12 : arg12.IsWhole) (arg13 : Memref sig .tc .vmem S256x2560 .bf16) (harg13 : arg13.IsWhole) (arg14 : Memref sig .tc .vmem S128x2560 .bf16) (harg14 : arg14.IsWhole) (arg15 : Memref sig .tc .vmem S2048x2048 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2x256x128 .f32) (harg19 : arg19.IsWhole)
    (v96 : FVec F S2048x128 .f32) (v301 : FVec F S2048x128 .f32) (v320 : FVec F S2048x128 .f32) (v322 : FVec F S256x128 .f32) (v323 : IVec S256x128 32) (v368 : FVec F S256x128 .f32) (x2 : Vec F S256x512 .bf16) (x3 : Vec F S1x256x2048 .f32) (x4 : Vec F S1x256x2048 .f32) (x5 : Vec F S1x128x256 .f32) (x6 : Vec F S256x128 .f32) (x7 : Vec F S128x2048 .bf16) (x8 : Vec F S1x2048x256 .f32) (x9 : Vec F S2048x768 .f32) :
    Held (F := F) c arg2 arg3 arg4 arg5 arg6 arg7 arg8 arg9 arg10 arg11 arg12 arg13 arg14 arg15 arg16 arg17 arg18 arg19 x2 x3 x4 x5 x6 x7 x8 x9 ⊢ wp frame (wpE (defs₀ (F := F)) Variants.none c none) E (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v96 v301 v320 v322 v323 v368) (fun _ => Held (F := F) c arg2 arg3 arg4 arg5 arg6 arg7 arg8 arg9 arg10 arg11 arg12 arg13 arg14 arg15 arg16 arg17 arg18 arg19 x2 x3 x4 x5 x6 x7 x8 x9) := by
  rw [k0_part30_eq_skeleton]; unfold k0_part30_skel
  unfold Held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.KernelIdeal.Hand

end
-- ==== Proof.KernelIdeal.Whole.lean ====
module

public import proofs.«01_k».proof.Proof.Gen.KernelIdeal.Frame
public import proofs.«01_k».proof.Proof.KernelIdeal.BodyA
public import proofs.«01_k».proof.Proof.KernelIdeal.BodyB
public import Idealize.ShloMosaic.Lib.Claim

@[expose] public section

set_option maxRecDepth 16384

noncomputable section

/-! The attention kernel's whole body from its parts. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- Two programs in sequence, the first giving back what it was given. -/
theorem seq {α β : Type} {c : Dev nD} {E : Set ℕ} {p : Prog (TpuEff nD τ sig (Elt F) Λ₀ .tc) α} {k : α → Prog (TpuEff nD τ sig (Elt F) Λ₀ .tc) β}
    {P : sProp 𝕄} {Q : β → sProp 𝕄}
    (h1 : P ⊢ wp frame (wpE (defs₀ (F := F)) Variants.none c none) E p (fun _ => P))
    (h2 : ∀ a, P ⊢ wp frame (wpE (defs₀ (F := F)) Variants.none c none) E (k a) Q) :
    P ⊢ wp frame (wpE (defs₀ (F := F)) Variants.none c none) E (p >>= k) Q := by
  rw [wp_bind]
  exact h1.trans (wp_mono _ _ _ h2)

set_option maxHeartbeats 4000000 in
/-- The body: its ten parts, then the four column blocks of the output stored. -/
theorem body (c : Dev nD) (E : Set ℕ) (i : grid0.Coords) (arg2 : Memref sig .tc .vmem S256x512 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x128x256 .f32) (harg5 : arg5.IsWhole) (arg6 : Memref sig .tc .vmem S256x128 .f32) (harg6 : arg6.IsWhole) (arg7 : Memref sig .tc .vmem S128x2048 .bf16) (harg7 : arg7.IsWhole) (arg8 : Memref sig .tc .vmem S1x2048x256 .f32) (harg8 : arg8.IsWhole) (arg9 : Memref sig .tc .vmem S2048x768 .f32) (harg9 : arg9.IsWhole) (arg10 : Memref sig .tc .vmem S256x512 .f32) (harg10 : arg10.IsWhole) (arg11 : Memref sig .tc .vmem S256x2048 .bf16) (harg11 : arg11.IsWhole) (arg12 : Memref sig .tc .vmem S128x2048 .bf16) (harg12 : arg12.IsWhole) (arg13 : Memref sig .tc .vmem S256x2560 .bf16) (harg13 : arg13.IsWhole) (arg14 : Memref sig .tc .vmem S128x2560 .bf16) (harg14 : arg14.IsWhole) (arg15 : Memref sig .tc .vmem S2048x2048 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2x256x128 .f32) (harg19 : arg19.IsWhole) (x2 : Vec F S256x512 .bf16) (x3 : Vec F S1x256x2048 .f32) (x4 : Vec F S1x256x2048 .f32) (x5 : Vec F S1x128x256 .f32) (x6 : Vec F S256x128 .f32) (x7 : Vec F S128x2048 .bf16) (x8 : Vec F S1x2048x256 .f32) (x9 : Vec F S2048x768 .f32) :
    Held (F := F) c arg2 arg3 arg4 arg5 arg6 arg7 arg8 arg9 arg10 arg11 arg12 arg13 arg14 arg15 arg16 arg17 arg18 arg19 x2 x3 x4 x5 x6 x7 x8 x9 ⊢ wp frame (wpE (defs₀ (F := F)) Variants.none c none) E (cc0_nsa_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => Held (F := F) c arg2 arg3 arg4 arg5 arg6 arg7 arg8 arg9 arg10 arg11 arg12 arg13 arg14 arg15 arg16 arg17 arg18 arg19 x2 x3 x4 x5 x6 x7 x8 x9) := by
  rw [cc0_nsa_prompt_eq_skeleton]; unfold cc0_nsa_prompt_skel
  refine seq (part21 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  x2 x3 x4 x5 x6 x7 x8 x9) fun r21 => ?_
  obtain ⟨v1, v37, v38, c256_i32_10, v39⟩ := r21
  refine seq (part22 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v37 v38 c256_i32_10 v39 x2 x3 x4 x5 x6 x7 x8 x9) fun r22 => ?_
  obtain ⟨v62, v84⟩ := r22
  refine seq (part23 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v62 v84 x2 x3 x4 x5 x6 x7 x8 x9) fun r23 => ?_
  obtain ⟨v96, v125⟩ := r23
  refine seq (part24 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v37 v125 x2 x3 x4 x5 x6 x7 x8 x9) fun r24 => ?_
  obtain ⟨v134, v142, v159, v161, v162, v163, v164, v165⟩ := r24
  refine seq (part25 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v159 v161 v162 v163 v164 v165 x2 x3 x4 x5 x6 x7 x8 x9) fun r25 => ?_
  obtain ⟨v186, v207⟩ := r25
  refine seq (part26 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v134 v159 v186 v207 x2 x3 x4 x5 x6 x7 x8 x9) fun r26 => ?_
  obtain ⟨v241, v242⟩ := r26
  refine seq (part27 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v159 v241 v242 x2 x3 x4 x5 x6 x7 x8 x9) fun r27 => ?_
  obtain ⟨v251, c0_i32_116, v278⟩ := r27
  refine seq (part28 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v142 v159 v251 c0_i32_116 v278 x2 x3 x4 x5 x6 x7 x8 x9) fun r28 => ?_
  obtain ⟨v301, v312, v313⟩ := r28
  refine seq (part29 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v96 v301 v312 v313 x2 x3 x4 x5 x6 x7 x8 x9) fun r29 => ?_
  obtain ⟨v320, v322, v323, v354, v368⟩ := r29
  refine seq (part30 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v96 v301 v320 v322 v323 v368 x2 x3 x4 x5 x6 x7 x8 x9) fun r30 => ?_
  obtain ⟨v385, v416, v425, v426⟩ := r30
  dsimp only
  unfold Held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.KernelIdeal.Hand

end
-- ==== Proof.KernelIdeal.Run.lean ====
module

public import proofs.«01_k».proof.Proof.Gen.KernelIdeal.Frame
public import proofs.«01_k».proof.Proof.KernelIdeal.Whole
public import Idealize.ShloMosaic.Lib.Claim

@[expose] public section

set_option maxRecDepth 16384

noncomputable section

/-! The attention call: the pipeline's obligation at every point, the run, and the
    frame. The output's block is forgotten here: nothing of what the kernel leaves in it is named. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's memrefs and its invariant -/

abbrev ms0_0 (t : Fin cfg0.N) : Memref sig .tc .vmem S256x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x512 .f32 := win0_8.stage (cfg0.slots t 8)
abbrev hs0_8 (t : Fin cfg0.N) : (ms0_8 t).IsWhole := hstage0_8 ((cfg0.slots t 8).cast nbuf0_8)
abbrev scM0_0 : Memref sig .tc .vmem S256x2048 .bf16 := Memref.whole cc0_scratch0
abbrev scM0_1 : Memref sig .tc .vmem S128x2048 .bf16 := Memref.whole cc0_scratch1
abbrev scM0_2 : Memref sig .tc .vmem S256x2560 .bf16 := Memref.whole cc0_scratch2
abbrev scM0_3 : Memref sig .tc .vmem S128x2560 .bf16 := Memref.whole cc0_scratch3
abbrev scM0_4 : Memref sig .tc .vmem S2048x2048 .f32 := Memref.whole cc0_scratch4
abbrev scM0_5 : Memref sig .tc .vmem S2048x128 .f32 := Memref.whole cc0_scratch5
abbrev scM0_6 : Memref sig .tc .vmem S2048x128 .f32 := Memref.whole cc0_scratch6
abbrev scM0_7 : Memref sig .tc .vmem S2048x128 .f32 := Memref.whole cc0_scratch7
abbrev scM0_8 : Memref sig .tc .vmem S2x256x128 .f32 := Memref.whole cc0_scratch8

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-- The output's window is forgotten. -/
def forgets0 : Fin 9 → Bool := fun w => w.val == 8

/-- The proof data: the arrays as the region finds them; each input's block in place after the body, the output's
    unnamed; the scratch at anything between points. -/
def dats (_p : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body's obligation at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = Pipeline.ΦA spec0 c from rfl, show (dats m 0 c).Φ t.castSucc = Pipeline.ΦA spec0 c from rfl, PhiA0_eq]
  have hb := body (F := F) c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t)
  refine Idealize.SL.BI.BIBase.Entails.trans ?_ (((sep_mono_left (Q := iprop((∃ r, prngReg c r) ∗ (dats m 0 c).owesAt () t.castSucc)) hb).trans (wp_frame_r _ _ _)).trans (wp_mono _ _ _ fun _ => ?_))
  · unfold Held
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    isplitr [Hg Ho]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    isplitl [Hg]; · iexact Hg
    iexact Ho
  · unfold Held
    iintro ⟨⟨H0, H1, H2, H3, H4, H5, H6, H7, H8, HS0, HS1, HS2, HS3, HS4, HS5, HS6, HS7, HS8⟩, Hg, Ho⟩
    isplitl [HS0 HS1 HS2 HS3 HS4 HS5 HS6 HS7 HS8 Hg]
    · isplitr [Hg]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments read off a run's post, over any data with the arrays' entry contents. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
    (Pipeline.RDat.FramePost.arr_in h c 1 rfl).trans ((hA c 1).trans (V_main_arg1 m c)),
    (Pipeline.RDat.FramePost.arr_in h c 2 rfl).trans ((hA c 2).trans (V_main_arg2 m c)),
    (Pipeline.RDat.FramePost.arr_in h c 3 rfl).trans ((hA c 3).trans (V_main_arg3 m c)),
    (Pipeline.RDat.FramePost.arr_in h c 4 rfl).trans ((hA c 4).trans (V_main_arg4 m c))⟩) h

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) :=
  unchanged_of m ρ (fun c => (dats m 0 c).toRForget forgets0) (A_eq m) (run_main m ρ)

/-- The frame: the argument arrays end unchanged and every semaphore counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Post.Stages.lean ====
module

public import proofs.«01_k».proof.Proof.Gen.Kernel3Ideal.Skeleton
public import proofs.«01_k».proof.Proof.Gen.Reference3Ideal.Read
public import Idealize.ShloMosaic.Lib.Pointwise

@[expose] public section

set_option maxRecDepth 16384

noncomputable section

/-! The output stage of the layer, stage by stage: each payload of the kernel's body, over vectors whose entries are
entries of the layer's arrays, is the reference's stage at the row of the array the block's row lies at. -/

namespace Cert.Post

open Idealize.ShloMosaic Idealize.ShloMosaic.TcCoe Idealize.SL.Sem
open Cert.Kernel3Ideal Cert.Kernel3Ideal.Gen
open Cert.Reference3Ideal.Read

variable (x0 : FVec Ideal S16384x1024 .f32) (x1 : FVec Ideal S8x1x1024 .f32) (x2 x3 : FVec Ideal S4x16384x128 .f32)
  (x4 : FVec Ideal S16384x512 .bf16) (x5 : FVec Ideal S16384x512 .f32) (x6 : FVec Ideal S16384x512 .bf16)
  (x7 : FVec Ideal S16384x2048 .bf16) (x8 : FVec Ideal S4x1x128 .f32) (x9 : FVec Ideal S512x512 .f32)
  (x10 : FVec Ideal S1x512 .f32) (x11 x12 : FVec Ideal S512x1024 .f32) (x13 : FVec Ideal S1024x1024 .f32)
  (x14 : FVec Ideal S1x1024 .f32)

/-- The input of the gated unit: the scan's output plus the skip term, its four chunks side by side. -/
theorem skip_at (r : Fin 16384) (j : Fin 512) : val_main_v4 (F := Ideal) x2 x3 x8 (ix2 r j)
    = x2 (ix3 ⟨j.val / 128, by omega⟩ r ⟨j.val % 128, by omega⟩)
      + x8 (ix3 ⟨j.val / 128, by omega⟩ (0 : Fin 1) ⟨j.val % 128, by omega⟩)
        * x3 (ix3 ⟨j.val / 128, by omega⟩ r ⟨j.val % 128, by omega⟩) := by
  pointwise [val_main_v4, val_main_v3, val_main_v2, val_main_v1, val_main_v0]

/-- The same, the chunk and the lane named. -/
theorem skip_of (r : Fin 16384) (k : Fin 512) (c : Fin 4) (q : Fin 128) (h : k.val = c.val * 128 + q.val) :
    val_main_v4 (F := Ideal) x2 x3 x8 (ix2 r k)
      = x2 (ix3 c r q) + x8 (ix3 c (0 : Fin 1) q) * x3 (ix3 c r q) := by
  have e1 : (⟨k.val / 128, by omega⟩ : Fin 4) = c := Fin.ext (by show k.val / 128 = c.val; omega)
  have e2 : (⟨k.val % 128, by omega⟩ : Fin 128) = q := Fin.ext (by show k.val % 128 = q.val; omega)
  rw [skip_at, e1, e2]

/-- The head-by-head place in the array of lane `k` of the kernel's block of the attention's columns. -/
def lane (k : Fin 512) : Fin 512 := ⟨k.val / 64 % 2 * 256 + k.val / 128 * 64 + k.val % 64, by omega⟩

/-- The other way round. -/
def unlane (k : Fin 512) : Fin 512 := ⟨k.val / 64 % 4 * 128 + k.val / 256 * 64 + k.val % 64, by omega⟩

/-- The two are inverse to each other. -/
def laneEquiv : Fin 512 ≃ Fin 512 where
  toFun := lane
  invFun := unlane
  left_inv := (by decide +kernel : ∀ k : Fin 512, unlane (lane k) = k)
  right_inv := (by decide +kernel : ∀ k : Fin 512, lane (unlane k) = k)

/-- The gated unit's product with its output weights. -/
theorem gated_at (row : Fin 512 → Fin 16384)
    (v8 v17 v26 v28 : FVec Ideal S512x128 .f32) (v29 : Vec Ideal S1x1x128 .f32) (v31 : Vec Ideal S1x512x128 .f32)
    (v51 : Vec Ideal S512x512 .bf16) (v54 : Vec Ideal S1x512 .f32) (v59 : Vec Ideal S512x512 .bf16)
    (v65 : Vec Ideal S512x1024 .bf16)
    (h8 : ∀ (p : Fin 512) (q : Fin 128), v8 (ix2 p q) = x2 (ix3 (0 : Fin 4) (row p) q)
      + x8 (ix3 (0 : Fin 4) (0 : Fin 1) q) * x3 (ix3 (0 : Fin 4) (row p) q))
    (h17 : ∀ (p : Fin 512) (q : Fin 128), v17 (ix2 p q) = x2 (ix3 (1 : Fin 4) (row p) q)
      + x8 (ix3 (1 : Fin 4) (0 : Fin 1) q) * x3 (ix3 (1 : Fin 4) (row p) q))
    (h26 : ∀ (p : Fin 512) (q : Fin 128), v26 (ix2 p q) = x2 (ix3 (2 : Fin 4) (row p) q)
      + x8 (ix3 (2 : Fin 4) (0 : Fin 1) q) * x3 (ix3 (2 : Fin 4) (row p) q))
    (h28 : ∀ (p : Fin 512) (q : Fin 128), v28 (ix2 p q) = x2 (ix3 (3 : Fin 4) (row p) q))
    (h29 : ∀ (q : Fin 128), v29 (ix3 (0 : Fin 1) (0 : Fin 1) q) = x8 (ix3 (3 : Fin 4) (0 : Fin 1) q))
    (h31 : ∀ (p : Fin 512) (q : Fin 128), v31 (ix3 (0 : Fin 1) p q) = x3 (ix3 (3 : Fin 4) (row p) q))
    (h51 : ∀ (k j : Fin 512), v51 (ix2 k j) = x9 (ix2 k j))
    (h54 : ∀ (j : Fin 512), v54 (ix2 (0 : Fin 1) j) = x10 (ix2 (0 : Fin 1) j))
    (h59 : ∀ (p j : Fin 512), v59 (ix2 p j) = x4 (ix2 (row p) j))
    (h65 : ∀ (k : Fin 512) (j : Fin 1024), v65 (ix2 k j) = x11 (ix2 k j))
    (p : Fin 512) (j : Fin 1024) :
    k0_pay6 (F := Ideal) v8 v17 v26 v28 v29 v31 v51 v54 v59 v65 (ix2 p j)
      = val_main_v31 (F := Ideal) x2 x3 x4 x8 x9 x10 x11 (ix2 (row p) j) := by
  have hY : ∀ (p k : Fin 512), concatenate S512x512 1 [⟨S512x128, v8⟩, ⟨S512x128, v17⟩, ⟨S512x128, v26⟩, ⟨S512x128, addf v28 (mulf (broadcastTo S512x128 (shapeCast S1x128 v29 shapeCasts_S1x1x128_S1x128) broadcasts_S1x128_S512x128) (shapeCast S512x128 v31 shapeCasts_S1x512x128_S512x128))⟩] concatenates_S512x128_S512x128_S512x128_S512x128_S512x512_d1 (ix2 p k)
      = val_main_v4 (F := Ideal) x2 x3 x8 (ix2 (row p) k) := by
    intro p k
    pointwise
    by_cases c1 : k.val < 128
    · rw [dif_pos c1, h8]; exact (skip_of x2 x3 x8 (row p) k 0 _ (by show k.val = 0 * 128 + k.val; omega)).symm
    rw [dif_neg c1]
    by_cases c2 : k.val - 128 < 128
    · rw [dif_pos c2, h17]; exact (skip_of x2 x3 x8 (row p) k 1 _ (by show k.val = 1 * 128 + (k.val - 128); omega)).symm
    rw [dif_neg c2]
    by_cases c3 : k.val - 128 - 128 < 128
    · rw [dif_pos c3, h26]; exact (skip_of x2 x3 x8 (row p) k 2 _ (by show k.val = 2 * 128 + (k.val - 128 - 128); omega)).symm
    · rw [dif_neg c3, h28, h29, h31]
      exact (skip_of x2 x3 x8 (row p) k 3 _ (by show k.val = 3 * 128 + (k.val - 128 - 128 - 128); omega)).symm
  unfold k0_pay6
  generalize concatenate S512x512 1 _ _ = Y at hY ⊢
  pointwise [val_main_v17, val_main_v16, val_main_v15, val_main_cst_2, val_main_v14, val_main_v13, val_main_cst_1, val_main_v12, val_main_v11, val_main_v10, val_main_cst_0, val_main_v9, val_main_v8, val_main_v7, val_main_cst, val_main_v6, val_main_v5, val_main_v31, val_main_v30, val_main_v29, val_main_v28, val_main_v27, val_main_v26, val_main_v25, val_main_v24, val_main_v23, val_main_v22, val_main_v21, val_main_v20, val_main_v19, val_main_v18, val_main_cst_3, val_main_cst_4, val_main_call0_v5, val_main_call0_v4, val_main_call0_cst_0, val_main_call0_v3, val_main_call0_v2, val_main_call0_cst, val_main_call0_v1, val_main_call0_v0]
  have hh : ∀ a b c : EReal, a * b * c = b * (a * c) := fun a b c => by rw [mul_comm a b, mul_assoc]
  simp only [hY, h51, h54, h59, h65, Ideal.logistic, hh (Ideal.ofBits FTy.f32 1056964608#32)]

/-- The attention's columns, gated, times their output weights: the kernel's lanes are the array's heads in another
order, and its weights' rows are in that order too. -/
theorem heads_at (row : Fin 512 → Fin 16384) (v68 : Vec Ideal S512x512 .f32) (v69 : Vec Ideal S512x512 .bf16)
    (v75 : Vec Ideal S512x1024 .bf16)
    (h68 : ∀ (p k : Fin 512), v68 (ix2 p k) = x5 (ix2 (row p) k))
    (h69 : ∀ (p k : Fin 512), v69 (ix2 p k) = x6 (ix2 (row p) k))
    (h75 : ∀ (k : Fin 512) (j : Fin 1024), v75 (ix2 k j) = x12 (ix2 (lane k) j))
    (p : Fin 512) (j : Fin 1024) :
    (∑ k : Fin 512, (v68 (ix2 p k) : EReal) * ((v69 (ix2 p k) : EReal) * Ideal.logistic (v69 (ix2 p k) : EReal)) * (v75 (ix2 k j) : EReal))
      = val_main_v41 (F := Ideal) x5 x6 x12 (ix2 (row p) j) := by
  pointwise [val_main_v41, val_main_v40, val_main_v39, val_main_v38, val_main_v37, val_main_v36, val_main_v35, val_main_v34, val_main_v33, val_main_v32, val_main_call1_v5, val_main_call1_v4, val_main_call1_cst_0, val_main_call1_v3, val_main_call1_v2, val_main_call1_cst, val_main_call1_v1, val_main_call1_v0]
  refine Fintype.sum_equiv laneEquiv _ _ fun k => ?_
  have e : unlane (lane k) = k := laneEquiv.left_inv k
  have hk : (⟨(laneEquiv k).val / 64 % 4 * 128 + (laneEquiv k).val / 256 * 64 + (laneEquiv k).val % 64, by omega⟩ : Fin 512) = k := e
  rw [h68, h69, h75, hk]
  rfl

/-- The block's result, normalised and scaled. -/
theorem out_at (row : Fin 512 → Fin 16384) (b : Fin 8) (hrow : ∀ p, (row p).val / 2048 = b.val)
    (v67 : FVec Ideal S512x1024 .f32) (v68 : Vec Ideal S512x512 .f32) (v69 : Vec Ideal S512x512 .bf16)
    (v75 : Vec Ideal S512x1024 .bf16) (v78 : Vec Ideal S512x2048 .bf16) (v86 : Vec Ideal S512x1024 .f32)
    (v87 : Vec Ideal S1x1x1024 .f32) (v90 : Vec Ideal S1024x1024 .bf16) (v106 : Vec Ideal S1x1024 .f32)
    (h67 : ∀ (p : Fin 512) (j : Fin 1024), v67 (ix2 p j) = val_main_v31 (F := Ideal) x2 x3 x4 x8 x9 x10 x11 (ix2 (row p) j))
    (h68 : ∀ (p k : Fin 512), v68 (ix2 p k) = x5 (ix2 (row p) k))
    (h69 : ∀ (p k : Fin 512), v69 (ix2 p k) = x6 (ix2 (row p) k))
    (h75 : ∀ (k : Fin 512) (j : Fin 1024), v75 (ix2 k j) = x12 (ix2 (lane k) j))
    (h78 : ∀ (p : Fin 512) (k : Fin 2048), v78 (ix2 p k) = x7 (ix2 (row p) k))
    (h86 : ∀ (p : Fin 512) (k : Fin 1024), v86 (ix2 p k) = x0 (ix2 (row p) k))
    (h87 : ∀ (k : Fin 1024), v87 (ix3 (0 : Fin 1) (0 : Fin 1) k) = x1 (ix3 b (0 : Fin 1) k))
    (h90 : ∀ (k j : Fin 1024), v90 (ix2 k j) = x13 (ix2 k j))
    (h106 : ∀ (k : Fin 1024), v106 (ix2 (0 : Fin 1) k) = x14 (ix2 (0 : Fin 1) k))
    (p : Fin 512) (j : Fin 1024) :
    k0_pay1 (k0_pay7 (F := Ideal) v67 v68 v69 v75 v78 v86 v87 v90) v106 (ix2 p j)
      = val_main_v74 (F := Ideal) x0 x1 x2 x3 x4 x5 x6 x7 x8 x9 x10 x11 x12 x13 x14 (ix2 (row p) j) := by
  pointwise [k0_pay1, k0_pay7, val_main_v74, val_main_v73, val_main_v72, val_main_v71, val_main_v70, val_main_v69, val_main_v68, val_main_v67, val_main_v66, val_main_v65, val_main_v64, val_main_v63, val_main_v62, val_main_v61, val_main_v60, val_main_cst_7, val_main_cst_8, val_main_cst_9, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_cst_5, val_main_cst_6]
  have eb : (⟨(row p).val / 2048, by omega⟩ : Fin 8) = b := Fin.ext (hrow p)
  simp only [eb, heads_at x5 x6 x12 row v68 v69 v75 h68 h69 h75]
  simp only [h67, h78, h86, h87, h90, h106, Ideal.logistic]

end Cert.Post
end
-- ==== Proof.Inproj.Entry.lean ====
module

public import proofs.«01_k».proof.Proof.Gen.Kernel2Ideal.Frame
public import proofs.«01_k».proof.Proof.Post.Stages
public import Idealize.ShloMosaic.Lib.Pointwise
public import Idealize.ShloMosaic.Lib.StableHlo.RunRead
public import Idealize.ShloMosaic.Lib.Routing.Ops
public import Idealize.ShloMosaic.Lib.Pipeline.ValueKit

@[expose] public section

set_option maxRecDepth 16384

noncomputable section

/-! The arrays the host hands to the input projection, read at an index: the weight with its columns reordered, its
    transposed slice, and the rotation tables. -/

namespace Cert.Inproj

open Idealize.ShloMosaic Idealize.ShloMosaic.TcCoe Idealize.SL.Sem
open Cert.Post (lane)
open Idealize.ShloMosaic.Routing (shape2)

/-- A gather of whole columns: where the start index of column `c` is the column number `b`, the result's column `c` is the
    operand's column `b`. -/
theorem gather_col {α : Type} {A nb n : Nat} (d : GatherDims (shape2 A nb) (shape2 n 1) (shape2 A n))
    (hoff : d.offsetDims = [0]) (hcoll : d.collapsedSliceDims = [1]) (hob : d.operandBatchingDims = [])
    (hsim : d.startIndexMap = [1]) (hivd : d.indexVectorDim = 1) (x : (shape2 A nb).Idx → α) (idx : IVec (shape2 n 1) 32)
    (y : Fin A) (c : Fin n) (b : Fin nb) (hb : idx (ix2 c (0 : Fin 1)) = BitVec.ofNat 32 b.val) (hnb : nb < 2 ^ 31) :
    Host.gather d x idx (ix2 y c) = x (ix2 y b) := by
  unfold Host.gather
  refine congrArg x (funext fun a => Fin.ext ?_)
  have none_batch : ∀ a', a' ∉ d.operandBatchingDims := fun a' => by rw [hob]; exact List.not_mem_nil
  have batch_one : ∀ k ∈ d.batchDims, k = (1 : Fin 2) := by
    intro k hk
    have hk' : k ∉ d.offsetDims := of_decide_eq_true (List.mem_filter.1 hk).2
    rw [hoff] at hk'
    have h0 : k.val ≠ 0 := fun e => hk' (List.mem_singleton.2 (Fin.ext e))
    have h2 : k.val < 2 := k.isLt
    exact Fin.ext (by show k.val = 1; omega)
  have off_zero : ∀ k ∈ d.offsetDims, k = (0 : Fin 2) := fun k hk => by rw [hoff] at hk; exact List.mem_singleton.1 hk
  have at0 : ∀ X : Fin 2, X = 0 → (ix2 y c X).val = y.val := fun X h => by subst h; rfl
  have at1 : ∀ X : Fin 2, X = 1 → (ix2 y c X).val = c.val := fun X h => by subst h; rfl
  have ne01 : ∀ l : List (Fin 2), l = [1] → (0 : Fin 2) ∉ l := fun l h => by rw [h]; decide
  match a with
  | ⟨0, _⟩ =>
    have hk : (0 : Fin 2) ∈ d.sKept := (d.mem_sKept 0).2 ⟨ne01 _ hcoll, none_batch 0⟩
    show d.start (ix2 y c) idx 0 + d.batchCoord (ix2 y c) 0 + d.offCoord (ix2 y c) 0 = y.val
    rw [d.batchCoord_eq_zero _ _ (none_batch 0), Nat.add_zero]
    unfold GatherDims.start GatherDims.offCoord
    rw [dif_neg (ne01 _ hsim), dif_pos hk, Nat.zero_add]
    exact at0 _ (off_zero _ (List.getElem_mem _))
  | ⟨1, _⟩ =>
    have hc1 : (1 : Fin 2) ∈ d.collapsedSliceDims := by rw [hcoll]; exact List.mem_singleton.2 rfl
    have hk : (1 : Fin 2) ∉ d.sKept := fun h => ((d.mem_sKept 1).1 h).1 hc1
    have hm : (1 : Fin 2) ∈ d.startIndexMap := by rw [hsim]; exact List.mem_singleton.2 rfl
    have hsl : d.sliceSizes 1 = 1 := d.slice_collapsed 1 hc1
    show d.start (ix2 y c) idx 1 + d.batchCoord (ix2 y c) 1 + d.offCoord (ix2 y c) 1 = b.val
    rw [d.batchCoord_eq_zero _ _ (none_batch 1), d.offCoord_eq_zero _ _ hk]
    simp only [Nat.add_zero]
    unfold GatherDims.start
    rw [dif_pos hm]
    have hsi : d.siIdx (ix2 y c) ⟨d.startIndexMap.idxOf 1, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact at1 _ (batch_one _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hb, hsl, StableHlo.Predicate.toInt_ofNat_small _ (by omega)]
    show min ((b.val : Int)).toNat (nb - 1) = b.val
    omega

/-- The rotation angle of position `t` at pair `j`. -/
def ang (t j : ℕ) : EReal :=
  FloatOps.sitofp (F := Ideal) FTy.f32 (BitVec.ofNat 32 t) *
    Ideal.pow (Ideal.ofBits FTy.f32 1223959552#32)
      (Ideal.div (-FloatOps.sitofp (F := Ideal) FTy.f32 (BitVec.ofNat 32 j)) (Ideal.ofBits FTy.f32 1090519040#32))

section
open Cert.Kernel2Ideal Cert.Kernel2Ideal.Gen
variable (m : (ℓ : Loc nD τ sig) → Buf (Elt Ideal) ℓ)

theorem lit_lane : ∀ k : Fin 512, lit0 k = BitVec.ofNat 32 (lane k).val := by decide +kernel

theorem cos_tab (c : Dev nD) (k : Fin 2048) (j : Fin 128) :
    (V m c main_v46 (ix2 k j) : EReal) =
      if j.val % 64 < 8 then Ideal.cos (ang k.val (j.val % 64))
      else if j.val % 64 - 8 < 8 then Ideal.cos (ang k.val (j.val % 64 - 8)) else 1 := by
  unfold V
  after_reads_simp
  pointwise
  after_reads_simp
  pointwise
  rfl

theorem sinl_tab (c : Dev nD) (k : Fin 2048) (j : Fin 128) :
    (V m c main_v49 (ix2 k j) : EReal) =
      if j.val % 64 < 8 then -Ideal.sin (ang k.val (j.val % 64))
      else 0 := by
  unfold V
  after_reads_simp
  pointwise
  after_reads_simp
  pointwise
  unfold ang
  by_cases h : j.val % 64 < 8
  · rw [dif_pos h, if_pos h]
  · rw [dif_neg h, if_neg h, dite_eq_ite, ite_self]

theorem sinr_tab (c : Dev nD) (k : Fin 2048) (j : Fin 128) :
    (V m c main_v52 (ix2 k j) : EReal) =
      if j.val % 64 < 8 then 0
      else if j.val % 64 - 8 < 8 then Ideal.sin (ang k.val (j.val % 64 - 8)) else 0 := by
  unfold V
  after_reads_simp
  pointwise
  after_reads_simp
  pointwise
  rfl

theorem cos_tabT (c : Dev nD) (k : Fin 2048) (j : Fin 128) :
    (V m c main_v53 (ix2 j k) : EReal) = V m c main_v46 (ix2 k j) := by
  unfold V
  after_reads_simp
  pointwise

theorem sinl_tabT (c : Dev nD) (k : Fin 2048) (j : Fin 128) :
    (V m c main_v54 (ix2 j k) : EReal) = V m c main_v49 (ix2 k j) := by
  unfold V
  after_reads_simp
  pointwise

theorem sinr_tabT (c : Dev nD) (k : Fin 2048) (j : Fin 128) :
    (V m c main_v55 (ix2 j k) : EReal) = V m c main_v52 (ix2 k j) := by
  unfold V
  after_reads_simp
  pointwise

theorem wt_at (c : Dev nD) (k : Fin 1024) (j : Fin 768) :
    (V m c main_v21 (ix2 j k) : EReal) = m ((c : Thread nD τ).loc main_arg4) (ix2 k ⟨1536 + j.val, by omega⟩) := by
  unfold V
  after_reads_simp
  pointwise

theorem wp_at (c : Dev nD) (k : Fin 1024) (j : Fin 4992) :
    (V m c main_v18 (ix2 k j) : EReal) =
      if h0 : j.val < 1024 then m ((c : Thread nD τ).loc main_arg4) (ix2 k ⟨j.val, by omega⟩)
      else if h1 : j.val - 1024 < 512 then
        m ((c : Thread nD τ).loc main_arg4) (ix2 k ⟨1024 + (lane ⟨j.val - 1024, h1⟩).val, by omega⟩)
      else if h2 : j.val - 1024 - 512 < 768 then
        m ((c : Thread nD τ).loc main_arg4) (ix2 k ⟨1536 + (j.val - 1024 - 512), by omega⟩)
      else if h3 : j.val - 1024 - 512 - 768 < 512 then
        m ((c : Thread nD τ).loc main_arg4) (ix2 k ⟨2328 + (lane ⟨j.val - 1024 - 512 - 768, h3⟩).val, by omega⟩)
      else if h4 : j.val - 1024 - 512 - 768 - 512 < 2048 then
        m ((c : Thread nD τ).loc main_arg4) (ix2 k ⟨2840 + (j.val - 1024 - 512 - 768 - 512), by omega⟩)
      else if h5 : j.val - 1024 - 512 - 768 - 512 - 2048 < 24 then
        m ((c : Thread nD τ).loc main_arg4) (ix2 k ⟨2304 + (j.val - 1024 - 512 - 768 - 512 - 2048), by omega⟩)
      else FloatOps.sitofp (F := Ideal) FTy.f32 (0#32) := by
  unfold V
  after_reads_simp
  pointwise
  after_reads_simp
  pointwise
  by_cases h0 : j.val < 1024
  · rw [dif_pos h0, dif_pos h0]
  rw [dif_neg h0, dif_neg h0]
  by_cases h1 : j.val - 1024 < 512
  · rw [dif_pos h1, dif_pos h1]
    refine (gather_col gather_S1024x512_S512x1_S1024x512_0_1_n_n_1_1_10241 rfl rfl rfl rfl rfl _ _ k ⟨j.val - 1024, h1⟩
      (lane ⟨j.val - 1024, h1⟩) ?_ (by decide)).trans ?_
    · pointwise
      exact (congrArg lit0 (Fin.ext (Shape.rowMajor_val_one _))).trans (lit_lane _)
    · pointwise
  rw [dif_neg h1, dif_neg h1]
  by_cases h2 : j.val - 1024 - 512 < 768
  · rw [dif_pos h2, dif_pos h2]
  rw [dif_neg h2, dif_neg h2]
  by_cases h3 : j.val - 1024 - 512 - 768 < 512
  · rw [dif_pos h3, dif_pos h3]
    refine (gather_col gather_S1024x512_S512x1_S1024x512_0_1_n_n_1_1_10241 rfl rfl rfl rfl rfl _ _ k
      ⟨j.val - 1024 - 512 - 768, h3⟩ (lane ⟨j.val - 1024 - 512 - 768, h3⟩) ?_ (by decide)).trans ?_
    · pointwise
      exact (congrArg lit0 (Fin.ext (Shape.rowMajor_val_one _))).trans (lit_lane _)
    · pointwise
  rw [dif_neg h3, dif_neg h3]
  by_cases h4 : j.val - 1024 - 512 - 768 - 512 < 2048
  · rw [dif_pos h4, dif_pos h4]
  rw [dif_neg h4, dif_neg h4]
  show pad S1024x128 ![0, 0] ![0, 104] ![0, 0] (extractStridedSlice S1024x24 ![0, 2304] (m (c, Proc.tc.devRef main_arg4))
      slices_S1024x4888_S1024x24_0_2304) (sitofp (F := Ideal) FTy.f32 (constantI S_ 32 0#32)) pads_S1024x24_S1024x128_000_01040 h_S_
      (ix2 k ⟨j.val - 1024 - 512 - 768 - 512 - 2048, by omega⟩) = _
  pointwise
end
end Cert.Inproj
-- ==== Proof.Inproj.Ref.lean ====
module

public import proofs.«01_k».proof.Proof.Gen.Reference2Ideal.Read
public import proofs.«01_k».proof.Proof.Inproj.Entry
public import Idealize.ShloMosaic.Lib.Pointwise

@[expose] public section

set_option maxRecDepth 16384

noncomputable section

/-! The reference's results at an index, each in terms of the projected columns `prj` and the rotation `rot`. -/

namespace Cert.Inproj

open Idealize.ShloMosaic Idealize.ShloMosaic.TcCoe Idealize.SL.Sem
open Cert.Reference2Ideal Cert.Reference2Ideal.Gen Cert.Reference2Ideal.Read
open Cert.Post (lane)

/-- The rotary embedding of a head's lanes `f` at position `s`, lane `d`: the first sixteen lanes turn by pairs. -/
def rot (f : ℕ → EReal) (s d : ℕ) : EReal :=
  if d < 16 then
    if d < 8 then f d * Ideal.cos (ang s d) - f (8 + d) * Ideal.sin (ang s d)
    else f (d - 8) * Ideal.sin (ang s (d - 8)) + f (8 + (d - 8)) * Ideal.cos (ang s (d - 8))
  else f (16 + (d - 16))

variable (a0 : FVec Ideal S16384x1024 .f32) (a1 a2 : FVec Ideal S8x1x1024 .f32) (a3 : FVec Ideal S1x1024 .f32)
  (a4 : FVec Ideal S1024x4888 .f32)

/-- Column `n` of the projected row of batch `b`, position `s`. -/
def prj (b : Fin 8) (s : Fin 2048) (n : ℕ) : EReal :=
  if h : n < 4888 then val_main_v22 (F := Ideal) a0 a1 a2 a3 a4 (ix3 b s ⟨n, h⟩) else 0

theorem prj_eq (b : Fin 8) (s : Fin 2048) (n : ℕ) (h : n < 4888) :
    val_main_v22 (F := Ideal) a0 a1 a2 a3 a4 (ix3 b s ⟨n, h⟩) = prj a0 a1 a2 a3 a4 b s n := by
  unfold prj; rw [dif_pos h]

theorem prj_sum (b : Fin 8) (s : Fin 2048) (n : Fin 4888) :
    prj a0 a1 a2 a3 a4 b s n.val = ∑ x : Fin 1024, (val_main_v21 (F := Ideal) a0 a1 a2 a3 (ix3 b s x) : EReal) * a4 (ix2 x n) := by
  rw [← prj_eq a0 a1 a2 a3 a4 b s n.val n.isLt]
  pointwise [val_main_v22]

theorem ang_q (t : Fin 2048) (j : Fin 8) : (val_main_v42 (F := Ideal) (ix2 t j) : EReal) = ang t.val j.val := by
  pointwise [val_main_v31, val_main_v32, val_main_v33, val_main_v34, val_main_v35, val_main_v36, val_main_v37, val_main_v38, val_main_v39, val_main_v40, val_main_v41, val_main_v42, val_main_v43, val_main_v0, val_main_cst_3, val_main_cst_4]
  rfl

theorem cos_q (t : Fin 2048) (j : Fin 8) : (val_main_v43 (F := Ideal) (ix2 t j) : EReal) = Ideal.cos (ang t.val j.val) := by
  pointwise [val_main_v31, val_main_v32, val_main_v33, val_main_v34, val_main_v35, val_main_v36, val_main_v37, val_main_v38, val_main_v39, val_main_v40, val_main_v41, val_main_v42, val_main_v43, val_main_v0, val_main_cst_3, val_main_cst_4]
  rfl

theorem ang_sel (t : Fin 2048) (j : Fin 8) : (val_main_v82 (F := Ideal) (ix2 t j) : EReal) = ang t.val j.val := by
  pointwise [val_main_v71, val_main_v72, val_main_v73, val_main_v74, val_main_v75, val_main_v76, val_main_v77, val_main_v78, val_main_v79, val_main_v80, val_main_v81, val_main_v82, val_main_v83, val_main_v0, val_main_cst_6, val_main_cst_7]
  rfl

theorem cos_sel (t : Fin 2048) (j : Fin 8) : (val_main_v83 (F := Ideal) (ix2 t j) : EReal) = Ideal.cos (ang t.val j.val) := by
  pointwise [val_main_v71, val_main_v72, val_main_v73, val_main_v74, val_main_v75, val_main_v76, val_main_v77, val_main_v78, val_main_v79, val_main_v80, val_main_v81, val_main_v82, val_main_v83, val_main_v0, val_main_cst_6, val_main_cst_7]
  rfl

theorem ang_win (t : Fin 2048) (j : Fin 8) : (val_main_v119 (F := Ideal) (ix2 t j) : EReal) = ang t.val j.val := by
  pointwise [val_main_v108, val_main_v109, val_main_v110, val_main_v111, val_main_v112, val_main_v113, val_main_v114, val_main_v115, val_main_v116, val_main_v117, val_main_v118, val_main_v119, val_main_v120, val_main_v0, val_main_cst_8, val_main_cst_9]
  rfl

theorem cos_win (t : Fin 2048) (j : Fin 8) : (val_main_v120 (F := Ideal) (ix2 t j) : EReal) = Ideal.cos (ang t.val j.val) := by
  pointwise [val_main_v108, val_main_v109, val_main_v110, val_main_v111, val_main_v112, val_main_v113, val_main_v114, val_main_v115, val_main_v116, val_main_v117, val_main_v118, val_main_v119, val_main_v120, val_main_v0, val_main_cst_8, val_main_cst_9]
  rfl

theorem rot_q (b : Fin 8) (s : Fin 2048) (h : Fin 8) (j : Fin 64) :
    (val_main_v65 (F := Ideal) a0 a1 a2 a3 a4 (ix4 b s h j) : EReal) = rot (fun d => prj a0 a1 a2 a3 a4 b s (1024 + (h.val * 64 + d))) s.val j.val := by
  pointwise [val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v30, val_main_v25]
  simp only [ang_q, cos_q, prj_eq]
  rfl

theorem rot_sel (b : Fin 8) (s : Fin 2048) (h : Fin 2) (j : Fin 64) :
    (val_main_v105 (F := Ideal) a0 a1 a2 a3 a4 (ix4 b s h j) : EReal) = rot (fun d => prj a0 a1 a2 a3 a4 b s (1536 + (256 + h.val * 64 + d))) s.val j.val := by
  pointwise [val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v70, val_main_v69, val_main_v68, val_main_v26]
  simp only [ang_sel, cos_sel, prj_eq]
  rfl

theorem rot_win (b : Fin 8) (s : Fin 2048) (h : Fin 2) (j : Fin 64) :
    (val_main_v142 (F := Ideal) a0 a1 a2 a3 a4 (ix4 b s h j) : EReal) = rot (fun d => prj a0 a1 a2 a3 a4 b s (1536 + (512 + h.val * 64 + d))) s.val j.val := by
  pointwise [val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v107, val_main_v106, val_main_v68, val_main_v26]
  simp only [ang_win, cos_win, prj_eq]
  rfl

theorem u_at (c : Fin 4) (r : Fin 16384) (j : Fin 128) :
    (val_main_v160 (F := Ideal) a0 a1 a2 a3 a4 (ix3 c r j) : EReal) = prj a0 a1 a2 a3 a4 ⟨r.val / 2048, by omega⟩ ⟨r.val % 2048, by omega⟩ (c.val * 128 + j.val) := by
  pointwise [val_main_v160, val_main_v159, val_main_v23]
  simp only [prj_eq]

theorem zs5_at (r : Fin 16384) (j : Fin 512) :
    (val_main_v162 (F := Ideal) a0 a1 a2 a3 a4 (ix2 r j) : EReal) = prj a0 a1 a2 a3 a4 ⟨r.val / 2048, by omega⟩ ⟨r.val % 2048, by omega⟩ (512 + j.val) := by
  pointwise [val_main_v162, val_main_v161, val_main_v24]
  simp only [prj_eq]

theorem cmp_at (r : Fin 16384) (j : Fin 256) :
    (val_main_v172 (F := Ideal) a0 a1 a2 a3 a4 (ix2 r j) : EReal) = prj a0 a1 a2 a3 a4 ⟨r.val / 2048, by omega⟩ ⟨r.val % 2048, by omega⟩ (1536 + j.val) := by
  pointwise [val_main_v172, val_main_v171, val_main_v68, val_main_v26]
  simp only [prj_eq]
  exact congrArg _ (by omega)

theorem znsa_at (r : Fin 16384) (j : Fin 512) :
    (val_main_v176 (F := Ideal) a0 a1 a2 a3 a4 (ix2 r j) : EReal) = prj a0 a1 a2 a3 a4 ⟨r.val / 2048, by omega⟩ ⟨r.val % 2048, by omega⟩ (2328 + (lane j).val) := by
  pointwise [val_main_v176, val_main_v175, val_main_v174, val_main_v173, val_main_v28]
  simp only [prj_eq]
  exact congrArg _ (by unfold lane; dsimp only)

theorem merge_at (r : Fin 16384) (j : Fin 2048) :
    (val_main_v178 (F := Ideal) a0 a1 a2 a3 a4 (ix2 r j) : EReal) = prj a0 a1 a2 a3 a4 ⟨r.val / 2048, by omega⟩ ⟨r.val % 2048, by omega⟩ (2840 + j.val) := by
  pointwise [val_main_v178, val_main_v177, val_main_v29]
  simp only [prj_eq]

theorem gate_at (r : Fin 16384) (j : Fin 128) :
    (val_main_v180 (F := Ideal) a0 a1 a2 a3 a4 (ix2 r j) : EReal)
      = if j.val < 24 then prj a0 a1 a2 a3 a4 ⟨r.val / 2048, by omega⟩ ⟨r.val % 2048, by omega⟩ (2304 + j.val) else FloatOps.sitofp (F := Ideal) FTy.f32 (0#32) := by
  pointwise [val_main_v180, val_main_v179, val_main_v27, val_main_call0_v0, val_main_c]
  simp only [prj_eq]
  rfl

theorem q_at (r : Fin 16384) (j : Fin 512) :
    (val_main_v166 (F := Ideal) a0 a1 a2 a3 a4 (ix2 r j) : EReal)
      = rot (fun d => prj a0 a1 a2 a3 a4 ⟨r.val / 2048, by omega⟩ ⟨r.val % 2048, by omega⟩ (1024 + ((j.val / 64 % 2 * 4 + j.val / 128) * 64 + d))) (r.val % 2048) (j.val % 64)
        * Ideal.ofBits FTy.f32 1040187392#32 := by
  pointwise [val_main_v166, val_main_v165, val_main_v164, val_main_v163, val_main_v67, val_main_v66, val_main_cst_5]
  simp only [rot_q]

/-- The four groups of lanes of the first cache, in turn. -/
theorem kv_at (b : Fin 8) (j : Fin 512) (s : Fin 2048) :
    (val_main_v168 (F := Ideal) a0 a1 a2 a3 a4 (ix3 b j s) : EReal)
      = if j.val / 128 = 2 then rot (fun d => prj a0 a1 a2 a3 a4 b s (1536 + (256 + j.val / 64 % 2 * 64 + d))) s.val (j.val % 64)
        else prj a0 a1 a2 a3 a4 b s (1536 + j.val) := by
  pointwise [val_main_v168, val_main_v167, val_main_v153, val_main_v152, val_main_v151, val_main_v150, val_main_v149,
    val_main_v148, val_main_v147, val_main_v146, val_main_v145, val_main_v144, val_main_v143, val_main_v68, val_main_v26]
  simp only [rot_sel, prj_eq]
  by_cases h0 : j.val / 128 < 1
  · rw [dif_pos h0, if_neg (by omega)]; exact congrArg _ (by omega)
  rw [dif_neg h0]
  by_cases h1 : j.val / 128 - 1 < 1
  · rw [dif_pos h1, if_neg (by omega)]; exact congrArg _ (by omega)
  rw [dif_neg h1]
  by_cases h2 : j.val / 128 - 1 - 1 < 1
  · rw [dif_pos h2, if_pos (by omega)]
  rw [dif_neg h2, if_neg (by omega)]; exact congrArg _ (by omega)

/-- The two groups of lanes of the second cache, in turn. -/
theorem win_at (b : Fin 8) (j : Fin 256) (s : Fin 2048) :
    (val_main_v170 (F := Ideal) a0 a1 a2 a3 a4 (ix3 b j s) : EReal)
      = if j.val / 128 = 0 then rot (fun d => prj a0 a1 a2 a3 a4 b s (1536 + (512 + j.val / 64 % 2 * 64 + d))) s.val (j.val % 64)
        else prj a0 a1 a2 a3 a4 b s (1536 + (512 + j.val)) := by
  pointwise [val_main_v170, val_main_v169, val_main_v158, val_main_v157, val_main_v156, val_main_v155, val_main_v154,
    val_main_v68, val_main_v26]
  simp only [rot_win, prj_eq]
  by_cases h0 : j.val / 128 < 1
  · rw [dif_pos h0, if_pos (by omega)]
  rw [dif_neg h0, if_neg (by omega)]; exact congrArg _ (by omega)

end Cert.Inproj
-- ==== Proof.Inproj.Kern.lean ====
module

public import proofs.«01_k».proof.Proof.Inproj.Ref
public import proofs.«01_k».proof.Proof.Gen.Kernel2Ideal.Value
public import Idealize.ShloMosaic.Lib.Pointwise

@[expose] public section

set_option maxRecDepth 16384

noncomputable section

/-! The input projection's stores at an index, from a block `H` of normalized rows, a block of the weights and the
    rotation tables, each given by what it holds at an index. -/

namespace Cert.Inproj

open Idealize.ShloMosaic Idealize.ShloMosaic.TcCoe Idealize.SL.Sem
open Cert.Kernel2Ideal Cert.Kernel2Ideal.Gen
open Cert.Reference2Ideal.Read

/-- The kernel's three tables at position `s`, lane `k`. -/
def tabC (s k : ℕ) : EReal :=
  if k % 64 < 8 then Ideal.cos (ang s (k % 64)) else if k % 64 - 8 < 8 then Ideal.cos (ang s (k % 64 - 8)) else 1
@[inherit_doc tabC] def tabL (s k : ℕ) : EReal := if k % 64 < 8 then -Ideal.sin (ang s (k % 64)) else 0
@[inherit_doc tabC] def tabR (s k : ℕ) : EReal :=
  if k % 64 < 8 then 0 else if k % 64 - 8 < 8 then Ideal.sin (ang s (k % 64 - 8)) else 0

/-- Two rolled copies of a pair of heads, weighed by the tables, are the rotation of each head. -/
theorem rot_rolled (f : ℕ → EReal) (s : ℕ) (k : Fin 128) (g : Fin 128 → EReal)
    (hg : ∀ k' : Fin 128, k'.val / 64 = k.val / 64 → g k' = f (k'.val % 64)) :
    g k * tabC s k.val + g ⟨(k.val + 128 - 120) % 128, by omega⟩ * tabL s k.val
      + g ⟨(k.val + 128 - 8) % 128, by omega⟩ * tabR s k.val = rot f s (k.val % 64) := by
  unfold tabC tabL tabR rot
  rw [hg k rfl]
  by_cases h8 : k.val % 64 < 8
  · rw [if_pos h8, if_pos h8, if_pos h8, if_pos (by omega), if_pos h8, mul_zero, add_zero,
      hg ⟨(k.val + 128 - 120) % 128, by omega⟩ (by show (k.val + 128 - 120) % 128 / 64 = _; omega), mul_neg, sub_eq_add_neg]
    exact congrArg (fun n => f (k.val % 64) * Ideal.cos (ang s (k.val % 64)) + -(f n * Ideal.sin (ang s (k.val % 64))))
      (by show (k.val + 128 - 120) % 128 % 64 = 8 + k.val % 64; omega)
  rw [if_neg h8, if_neg h8, if_neg h8]
  by_cases h16 : k.val % 64 - 8 < 8
  · rw [if_pos h16, if_pos h16, if_pos (by omega), if_neg h8, mul_zero, add_zero, add_comm,
      hg ⟨(k.val + 128 - 8) % 128, by omega⟩ (by show (k.val + 128 - 8) % 128 / 64 = _; omega)]
    have e1 : (k.val + 128 - 8) % 128 % 64 = k.val % 64 - 8 := by omega
    have e2 : 8 + (k.val % 64 - 8) = k.val % 64 := by omega
    show f ((k.val + 128 - 8) % 128 % 64) * _ + _ = _
    rw [e1, e2]
  rw [if_neg h16, if_neg h16, if_neg (by omega), mul_zero, mul_zero, add_zero, add_zero, mul_one]
  exact congrArg f (by omega)

section
variable (a0 : FVec Ideal S16384x1024 .f32) (a1 a2 : FVec Ideal S8x1x1024 .f32) (a3 : FVec Ideal S1x1024 .f32)
  (a4 : FVec Ideal S1024x4888 .f32) (b : Fin 8) (pos : Fin 512 → Fin 2048)

/-- The normalized, modulated rows of a block. -/
theorem rows_norm (v0 : Vec Ideal S512x1024 .f32) (v11 : Vec Ideal S1x1024 .f32) (v14 v20 : Vec Ideal S1x1x1024 .f32)
    (h0 : ∀ p x, v0 (ix2 p x) = a0 (ix2 ⟨b.val * 2048 + (pos p).val, by omega⟩ x)) (h11 : ∀ x, v11 (ix2 (0 : Fin 1) x) = a3 (ix2 (0 : Fin 1) x))
    (h14 : ∀ x, v14 (ix3 (0 : Fin 1) (0 : Fin 1) x) = a2 (ix3 b (0 : Fin 1) x))
    (h20 : ∀ x, v20 (ix3 (0 : Fin 1) (0 : Fin 1) x) = a1 (ix3 b (0 : Fin 1) x)) (p : Fin 512) (x : Fin 1024) :
    (k0_pay3 (F := Ideal) v0 v11 v14 v20 (ix2 p x) : EReal) = val_main_v21 (F := Ideal) a0 a1 a2 a3 (ix3 b (pos p) x) := by
  pointwise [k0_pay3, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1, val_main_cst_2]
  simp only [h0, h11, h14, h20]

variable (H : FVec Ideal S512x1024 .bf16)
  (hH : ∀ p x, (H (ix2 p x) : EReal) = val_main_v21 (F := Ideal) a0 a1 a2 a3 (ix3 b (pos p) x))
include hH

/-- A row of the block against a column of the weights. -/
theorem dot_col (w : Fin 1024 → EReal) (n : Fin 4888) (hw : ∀ x, w x = a4 (ix2 x n)) (p : Fin 512) :
    (∑ x : Fin 1024, (H (ix2 p x) : EReal) * w x) = prj a0 a1 a2 a3 a4 b (pos p) n.val := by
  rw [prj_sum]
  exact Finset.sum_congr rfl fun x _ => by rw [hH, hw]

theorem u2_blk (w : Vec Ideal S1024x256 .bf16) (p : Fin 512) (k : Fin 128) (n : Fin 4888)
    (hw : ∀ x, (w (ix2 x (⟨k.val, by omega⟩)) : EReal) = a4 (ix2 x n)) :
    (k0_pay12 (F := Ideal) H w (ix3 (0 : Fin 1) p k) : EReal) = prj a0 a1 a2 a3 a4 b (pos p) n.val := by
  refine Eq.trans ?_ (dot_col a0 a1 a2 a3 a4 b pos H hH _ n hw p)
  pointwise [k0_pay12, k0_pay11]

theorem u3_blk (w : Vec Ideal S1024x256 .bf16) (p : Fin 512) (k : Fin 128) (n : Fin 4888)
    (hw : ∀ x, (w (ix2 x (⟨128 + k.val, by omega⟩)) : EReal) = a4 (ix2 x n)) :
    (k0_pay13 (F := Ideal) H w (ix3 (0 : Fin 1) p k) : EReal) = prj a0 a1 a2 a3 a4 b (pos p) n.val := by
  refine Eq.trans ?_ (dot_col a0 a1 a2 a3 a4 b pos H hH _ n hw p)
  pointwise [k0_pay13, k0_pay11]

theorem zs5_blk (w : Vec Ideal S1024x512 .bf16) (p : Fin 512) (k : Fin 512) (n : Fin 4888)
    (hw : ∀ x, (w (ix2 x (k)) : EReal) = a4 (ix2 x n)) :
    (k0_pay14 (F := Ideal) H w (ix2 p k) : EReal) = prj a0 a1 a2 a3 a4 b (pos p) n.val := by
  refine Eq.trans ?_ (dot_col a0 a1 a2 a3 a4 b pos H hH _ n hw p)
  pointwise [k0_pay14]

theorem cmp_blk (w : Vec Ideal S1024x256 .bf16) (p : Fin 512) (k : Fin 256) (n : Fin 4888)
    (hw : ∀ x, (w (ix2 x (k)) : EReal) = a4 (ix2 x n)) :
    (k0_pay25 (F := Ideal) H w (ix2 p k) : EReal) = prj a0 a1 a2 a3 a4 b (pos p) n.val := by
  refine Eq.trans ?_ (dot_col a0 a1 a2 a3 a4 b pos H hH _ n hw p)
  pointwise [k0_pay25]

theorem znsa_blk (w : Vec Ideal S1024x512 .bf16) (p : Fin 512) (k : Fin 512) (n : Fin 4888)
    (hw : ∀ x, (w (ix2 x (k)) : EReal) = a4 (ix2 x n)) :
    (k0_pay26 (F := Ideal) H w (ix2 p k) : EReal) = prj a0 a1 a2 a3 a4 b (pos p) n.val := by
  refine Eq.trans ?_ (dot_col a0 a1 a2 a3 a4 b pos H hH _ n hw p)
  pointwise [k0_pay26]

theorem merge_blk (w : Vec Ideal S1024x2048 .bf16) (p : Fin 512) (k : Fin 2048) (n : Fin 4888)
    (hw : ∀ x, (w (ix2 x (k)) : EReal) = a4 (ix2 x n)) :
    (k0_pay27 (F := Ideal) H w (ix2 p k) : EReal) = prj a0 a1 a2 a3 a4 b (pos p) n.val := by
  refine Eq.trans ?_ (dot_col a0 a1 a2 a3 a4 b pos H hH _ n hw p)
  pointwise [k0_pay27]

theorem gate_blk (w : Vec Ideal S1024x128 .bf16) (p : Fin 512) (k : Fin 128) (n : Fin 4888)
    (hw : ∀ x, (w (ix2 x (k)) : EReal) = a4 (ix2 x n)) :
    (k0_pay28 (F := Ideal) H w (ix2 p k) : EReal) = prj a0 a1 a2 a3 a4 b (pos p) n.val := by
  refine Eq.trans ?_ (dot_col a0 a1 a2 a3 a4 b pos H hH _ n hw p)
  pointwise [k0_pay28]

theorem kv0_blk (w : Vec Ideal S768x1024 .bf16) (p : Fin 512) (k : Fin 128) (n : Fin 4888)
    (hw : ∀ x, (w (ix2 (⟨k.val, by omega⟩) x) : EReal) = a4 (ix2 x n)) :
    (k0_pay33 (F := Ideal) H w (ix3 (0 : Fin 1) k p) : EReal) = prj a0 a1 a2 a3 a4 b (pos p) n.val := by
  refine Eq.trans ?_ (dot_col a0 a1 a2 a3 a4 b pos H hH _ n hw p)
  pointwise [k0_pay33, k0_pay32]
  exact Finset.sum_congr rfl fun x _ => mul_comm _ _

theorem kv1_blk (w : Vec Ideal S768x1024 .bf16) (p : Fin 512) (k : Fin 128) (n : Fin 4888)
    (hw : ∀ x, (w (ix2 (⟨128 + k.val, by omega⟩) x) : EReal) = a4 (ix2 x n)) :
    (k0_pay34 (F := Ideal) H w (ix3 (0 : Fin 1) k p) : EReal) = prj a0 a1 a2 a3 a4 b (pos p) n.val := by
  refine Eq.trans ?_ (dot_col a0 a1 a2 a3 a4 b pos H hH _ n hw p)
  pointwise [k0_pay34, k0_pay32]
  exact Finset.sum_congr rfl fun x _ => mul_comm _ _

theorem kv3_blk (w : Vec Ideal S768x1024 .bf16) (p : Fin 512) (k : Fin 128) (n : Fin 4888)
    (hw : ∀ x, (w (ix2 (⟨384 + k.val, by omega⟩) x) : EReal) = a4 (ix2 x n)) :
    (k0_pay36 (F := Ideal) H w (ix3 (0 : Fin 1) k p) : EReal) = prj a0 a1 a2 a3 a4 b (pos p) n.val := by
  refine Eq.trans ?_ (dot_col a0 a1 a2 a3 a4 b pos H hH _ n hw p)
  pointwise [k0_pay36, k0_pay32]
  exact Finset.sum_congr rfl fun x _ => mul_comm _ _

theorem win1_blk (w : Vec Ideal S768x1024 .bf16) (p : Fin 512) (k : Fin 128) (n : Fin 4888)
    (hw : ∀ x, (w (ix2 (⟨640 + k.val, by omega⟩) x) : EReal) = a4 (ix2 x n)) :
    (k0_pay2 (F := Ideal) (k0_pay32 (F := Ideal) H w) (ix3 (0 : Fin 1) k p) : EReal) = prj a0 a1 a2 a3 a4 b (pos p) n.val := by
  refine Eq.trans ?_ (dot_col a0 a1 a2 a3 a4 b pos H hH _ n hw p)
  pointwise [k0_pay2, k0_pay32]
  exact Finset.sum_congr rfl fun x _ => mul_comm _ _

theorem q0_blk (C L R : FVec Ideal S512x128 .f32) (hC : ∀ p k, (C (ix2 p k) : EReal) = tabC (pos p).val k.val)
    (hL : ∀ p k, (L (ix2 p k) : EReal) = tabL (pos p).val k.val) (hR : ∀ p k, (R (ix2 p k) : EReal) = tabR (pos p).val k.val)
    (w : Vec Ideal S1024x256 .bf16) (n : Fin 128 → Fin 4888) (base : ℕ) (p : Fin 512) (k : Fin 128)
    (hn : ∀ k' : Fin 128, k'.val / 64 = k.val / 64 → (n k').val = base + k'.val % 64)
    (hw : ∀ x (k' : Fin 128), (w (ix2 x (⟨k'.val, by omega⟩)) : EReal) = a4 (ix2 x (n k'))) :
    (k0_pay18 (F := Ideal) R (k0_pay16 (F := Ideal) H w) (k0_pay17 (F := Ideal) H C L w) 8#32 (ix2 p k) : EReal) = rot (fun d => prj a0 a1 a2 a3 a4 b (pos p) (base + d)) (pos p).val (k.val % 64)
      * Ideal.ofBits FTy.f32 1040187392#32 := by
  have hg : ∀ k' : Fin 128, (∑ x : Fin 1024, (H (ix2 p x) : EReal) * w (ix2 x (⟨k'.val, by omega⟩))) = prj a0 a1 a2 a3 a4 b (pos p) (n k').val :=
    fun k' => dot_col a0 a1 a2 a3 a4 b pos H hH _ (n k') (fun x => hw x k') p
  rw [← rot_rolled (fun d => prj a0 a1 a2 a3 a4 b (pos p) (base + d)) (pos p).val k (fun k' => prj a0 a1 a2 a3 a4 b (pos p) (n k').val)
    (fun k' h => congrArg _ (hn k' h))]
  simp only [← hg, ← hC, ← hL, ← hR]
  pointwise [k0_pay18, k0_pay16, k0_pay17, k0_pay15]

theorem q1_blk (C L R : FVec Ideal S512x128 .f32) (hC : ∀ p k, (C (ix2 p k) : EReal) = tabC (pos p).val k.val)
    (hL : ∀ p k, (L (ix2 p k) : EReal) = tabL (pos p).val k.val) (hR : ∀ p k, (R (ix2 p k) : EReal) = tabR (pos p).val k.val)
    (w : Vec Ideal S1024x256 .bf16) (n : Fin 128 → Fin 4888) (base : ℕ) (p : Fin 512) (k : Fin 128)
    (hn : ∀ k' : Fin 128, k'.val / 64 = k.val / 64 → (n k').val = base + k'.val % 64)
    (hw : ∀ x (k' : Fin 128), (w (ix2 x (⟨128 + k'.val, by omega⟩)) : EReal) = a4 (ix2 x (n k'))) :
    (k0_pay19 (F := Ideal) C L R (k0_pay15 (F := Ideal) H w) (ix2 p k) : EReal) = rot (fun d => prj a0 a1 a2 a3 a4 b (pos p) (base + d)) (pos p).val (k.val % 64)
      * Ideal.ofBits FTy.f32 1040187392#32 := by
  have hg : ∀ k' : Fin 128, (∑ x : Fin 1024, (H (ix2 p x) : EReal) * w (ix2 x (⟨128 + k'.val, by omega⟩))) = prj a0 a1 a2 a3 a4 b (pos p) (n k').val :=
    fun k' => dot_col a0 a1 a2 a3 a4 b pos H hH _ (n k') (fun x => hw x k') p
  rw [← rot_rolled (fun d => prj a0 a1 a2 a3 a4 b (pos p) (base + d)) (pos p).val k (fun k' => prj a0 a1 a2 a3 a4 b (pos p) (n k').val)
    (fun k' h => congrArg _ (hn k' h))]
  simp only [← hg, ← hC, ← hL, ← hR]
  pointwise [k0_pay19, k0_pay15]

theorem q2_blk (C L R : FVec Ideal S512x128 .f32) (hC : ∀ p k, (C (ix2 p k) : EReal) = tabC (pos p).val k.val)
    (hL : ∀ p k, (L (ix2 p k) : EReal) = tabL (pos p).val k.val) (hR : ∀ p k, (R (ix2 p k) : EReal) = tabR (pos p).val k.val)
    (w : Vec Ideal S1024x256 .bf16) (n : Fin 128 → Fin 4888) (base : ℕ) (p : Fin 512) (k : Fin 128)
    (hn : ∀ k' : Fin 128, k'.val / 64 = k.val / 64 → (n k').val = base + k'.val % 64)
    (hw : ∀ x (k' : Fin 128), (w (ix2 x (⟨k'.val, by omega⟩)) : EReal) = a4 (ix2 x (n k'))) :
    (k0_pay21 (F := Ideal) H C L R w (ix2 p k) : EReal) = rot (fun d => prj a0 a1 a2 a3 a4 b (pos p) (base + d)) (pos p).val (k.val % 64)
      * Ideal.ofBits FTy.f32 1040187392#32 := by
  have hg : ∀ k' : Fin 128, (∑ x : Fin 1024, (H (ix2 p x) : EReal) * w (ix2 x (⟨k'.val, by omega⟩))) = prj a0 a1 a2 a3 a4 b (pos p) (n k').val :=
    fun k' => dot_col a0 a1 a2 a3 a4 b pos H hH _ (n k') (fun x => hw x k') p
  rw [← rot_rolled (fun d => prj a0 a1 a2 a3 a4 b (pos p) (base + d)) (pos p).val k (fun k' => prj a0 a1 a2 a3 a4 b (pos p) (n k').val)
    (fun k' h => congrArg _ (hn k' h))]
  simp only [← hg, ← hC, ← hL, ← hR]
  pointwise [k0_pay21, k0_pay20]

theorem q3_blk (C L R : FVec Ideal S512x128 .f32) (hC : ∀ p k, (C (ix2 p k) : EReal) = tabC (pos p).val k.val)
    (hL : ∀ p k, (L (ix2 p k) : EReal) = tabL (pos p).val k.val) (hR : ∀ p k, (R (ix2 p k) : EReal) = tabR (pos p).val k.val)
    (w : Vec Ideal S1024x256 .bf16) (n : Fin 128 → Fin 4888) (base : ℕ) (p : Fin 512) (k : Fin 128)
    (hn : ∀ k' : Fin 128, k'.val / 64 = k.val / 64 → (n k').val = base + k'.val % 64)
    (hw : ∀ x (k' : Fin 128), (w (ix2 x (⟨128 + k'.val, by omega⟩)) : EReal) = a4 (ix2 x (n k'))) :
    (k0_pay24 (F := Ideal) R (k0_pay22 (F := Ideal) H w) (k0_pay23 (F := Ideal) H C L w) 8#32 (ix2 p k) : EReal) = rot (fun d => prj a0 a1 a2 a3 a4 b (pos p) (base + d)) (pos p).val (k.val % 64)
      * Ideal.ofBits FTy.f32 1040187392#32 := by
  have hg : ∀ k' : Fin 128, (∑ x : Fin 1024, (H (ix2 p x) : EReal) * w (ix2 x (⟨128 + k'.val, by omega⟩))) = prj a0 a1 a2 a3 a4 b (pos p) (n k').val :=
    fun k' => dot_col a0 a1 a2 a3 a4 b pos H hH _ (n k') (fun x => hw x k') p
  rw [← rot_rolled (fun d => prj a0 a1 a2 a3 a4 b (pos p) (base + d)) (pos p).val k (fun k' => prj a0 a1 a2 a3 a4 b (pos p) (n k').val)
    (fun k' h => congrArg _ (hn k' h))]
  simp only [← hg, ← hC, ← hL, ← hR]
  pointwise [k0_pay24, k0_pay22, k0_pay23, k0_pay20]

theorem kv2_blk (C L R : FVec Ideal S128x512 .f32) (hC : ∀ p k, (C (ix2 k p) : EReal) = tabC (pos p).val k.val)
    (hL : ∀ p k, (L (ix2 k p) : EReal) = tabL (pos p).val k.val) (hR : ∀ p k, (R (ix2 k p) : EReal) = tabR (pos p).val k.val)
    (w : Vec Ideal S768x1024 .bf16) (n : Fin 128 → Fin 4888) (base : ℕ) (p : Fin 512) (k : Fin 128)
    (hn : ∀ k' : Fin 128, k'.val / 64 = k.val / 64 → (n k').val = base + k'.val % 64)
    (hw : ∀ x (k' : Fin 128), (w (ix2 (⟨256 + k'.val, by omega⟩) x) : EReal) = a4 (ix2 x (n k'))) :
    (k0_pay35 (F := Ideal) H C L R w (ix3 (0 : Fin 1) k p) : EReal) = rot (fun d => prj a0 a1 a2 a3 a4 b (pos p) (base + d)) (pos p).val (k.val % 64) := by
  have hg : ∀ k' : Fin 128, (∑ x : Fin 1024, (w (ix2 (⟨256 + k'.val, by omega⟩) x) : EReal) * H (ix2 p x)) = prj a0 a1 a2 a3 a4 b (pos p) (n k').val :=
    fun k' => (Finset.sum_congr rfl fun x _ => mul_comm _ _).trans
      (dot_col a0 a1 a2 a3 a4 b pos H hH (fun x => w (ix2 (⟨256 + k'.val, by omega⟩) x)) (n k') (fun x => hw x k') p)
  rw [← rot_rolled (fun d => prj a0 a1 a2 a3 a4 b (pos p) (base + d)) (pos p).val k (fun k' => prj a0 a1 a2 a3 a4 b (pos p) (n k').val)
    (fun k' h => congrArg _ (hn k' h))]
  simp only [← hg, ← hC, ← hL, ← hR]
  pointwise [k0_pay35, k0_pay30, k0_pay31, k0_pay32]

theorem win0_blk (C L R : FVec Ideal S128x512 .f32) (hC : ∀ p k, (C (ix2 k p) : EReal) = tabC (pos p).val k.val)
    (hL : ∀ p k, (L (ix2 k p) : EReal) = tabL (pos p).val k.val) (hR : ∀ p k, (R (ix2 k p) : EReal) = tabR (pos p).val k.val)
    (w : Vec Ideal S768x1024 .bf16) (n : Fin 128 → Fin 4888) (base : ℕ) (p : Fin 512) (k : Fin 128)
    (hn : ∀ k' : Fin 128, k'.val / 64 = k.val / 64 → (n k').val = base + k'.val % 64)
    (hw : ∀ x (k' : Fin 128), (w (ix2 (⟨512 + k'.val, by omega⟩) x) : EReal) = a4 (ix2 x (n k'))) :
    (k0_pay1 (F := Ideal) (k0_pay31 (F := Ideal) R) (k0_pay38 (F := Ideal) H C L w) (k0_pay39 (F := Ideal) H w) (ix3 (0 : Fin 1) k p) : EReal) = rot (fun d => prj a0 a1 a2 a3 a4 b (pos p) (base + d)) (pos p).val (k.val % 64) := by
  have hg : ∀ k' : Fin 128, (∑ x : Fin 1024, (w (ix2 (⟨512 + k'.val, by omega⟩) x) : EReal) * H (ix2 p x)) = prj a0 a1 a2 a3 a4 b (pos p) (n k').val :=
    fun k' => (Finset.sum_congr rfl fun x _ => mul_comm _ _).trans
      (dot_col a0 a1 a2 a3 a4 b pos H hH (fun x => w (ix2 (⟨512 + k'.val, by omega⟩) x)) (n k') (fun x => hw x k') p)
  rw [← rot_rolled (fun d => prj a0 a1 a2 a3 a4 b (pos p) (base + d)) (pos p).val k (fun k' => prj a0 a1 a2 a3 a4 b (pos p) (n k').val)
    (fun k' h => congrArg _ (hn k' h))]
  simp only [← hg, ← hC, ← hL, ← hR]
  pointwise [k0_pay1, k0_pay30, k0_pay31, k0_pay37, k0_pay38, k0_pay39, k0_pay32]

end

section
variable (a0 : FVec Ideal S16384x1024 .f32) (a1 a2 : FVec Ideal S8x1x1024 .f32) (a3 : FVec Ideal S1x1024 .f32)
  (a4 : FVec Ideal S1024x4888 .f32) (b : Fin 8) (pos : Fin 512 → Fin 2048)
  (v0 : Vec Ideal S512x1024 .f32) (v11 : Vec Ideal S1x1024 .f32) (v14 v20 : Vec Ideal S1x1x1024 .f32)
  (hH : ∀ p x, (k0_pay3 (F := Ideal) v0 v11 v14 v20 (ix2 p x) : EReal) = val_main_v21 (F := Ideal) a0 a1 a2 a3 (ix3 b (pos p) x))
include hH

theorem pay7_eq (w : Vec Ideal S1024x256 .bf16) (p : Fin 512) (k : Fin 256) :
    (k0_pay7 (F := Ideal) v0 v11 v14 v20 w (ix2 p k) : EReal)
      = ∑ x : Fin 1024, (k0_pay3 (F := Ideal) v0 v11 v14 v20 (ix2 p x) : EReal) * w (ix2 x k) := by
  unfold k0_pay7
  pointwise

theorem u0_blk (w : Vec Ideal S1024x256 .bf16) (p : Fin 512) (k : Fin 128) (n : Fin 4888)
    (hw : ∀ x, (w (ix2 x (⟨k.val, by omega⟩ : Fin 256)) : EReal) = a4 (ix2 x n)) :
    (k0_pay9 (F := Ideal) (k0_pay8 (F := Ideal) v0 v11 v14 v20 w) (ix3 (0 : Fin 1) p k) : EReal) = prj a0 a1 a2 a3 a4 b (pos p) n.val := by
  refine Eq.trans ?_ (dot_col a0 a1 a2 a3 a4 b pos _ hH _ n hw p)
  refine Eq.trans ?_ (pay7_eq a0 a1 a2 a3 b pos v0 v11 v14 v20 hH w p _)
  pointwise [k0_pay9, k0_pay8]

theorem u1_blk (w : Vec Ideal S1024x256 .bf16) (p : Fin 512) (k : Fin 128) (n : Fin 4888)
    (hw : ∀ x, (w (ix2 x (⟨128 + k.val, by omega⟩ : Fin 256)) : EReal) = a4 (ix2 x n)) :
    (k0_pay10 (F := Ideal) (k0_pay7 (F := Ideal) v0 v11 v14 v20 w) (ix3 (0 : Fin 1) p k) : EReal) = prj a0 a1 a2 a3 a4 b (pos p) n.val := by
  refine Eq.trans ?_ (dot_col a0 a1 a2 a3 a4 b pos _ hH _ n hw p)
  refine Eq.trans ?_ (pay7_eq a0 a1 a2 a3 b pos v0 v11 v14 v20 hH w p _)
  pointwise [k0_pay10]
end
end Cert.Inproj
-- ==== Proof.Inproj.Base.lean ====
module

public import proofs.«01_k».proof.Proof.Inproj.Kern
public import Idealize.ShloMosaic.Lib.Pipeline.ValueKit

@[expose] public section

set_option maxRecDepth 16384

noncomputable section

/-! What the input projection's call leaves in each of its nine results: the reference's arrays. -/

namespace Cert.Inproj

open Idealize.ShloMosaic Idealize.ShloMosaic.TcCoe Idealize.SL.Sem
open Idealize.ShloMosaic.Pipeline (Dat)
open Cert.Kernel2Ideal Cert.Kernel2Ideal.Gen
open Cert.Reference2Ideal.Read
open Cert.Post (lane)

variable (m : (ℓ : Loc nD τ sig) → Buf (Elt Ideal) ℓ)

abbrev A0 (c : Dev nD) : FVec Ideal S16384x1024 .f32 := m ((c : Thread nD τ).loc main_arg0)
abbrev A1 (c : Dev nD) : FVec Ideal S8x1x1024 .f32 := m ((c : Thread nD τ).loc main_arg1)
abbrev A2 (c : Dev nD) : FVec Ideal S8x1x1024 .f32 := m ((c : Thread nD τ).loc main_arg2)
abbrev A3 (c : Dev nD) : FVec Ideal S1x1024 .f32 := m ((c : Thread nD τ).loc main_arg3)
abbrev A4 (c : Dev nD) : FVec Ideal S1024x4888 .f32 := m ((c : Thread nD τ).loc main_arg4)

theorem idx : ∀ t : Fin cfg0.N, win0_0.index t = ![t.val, 0] ∧ win0_1.index t = ![t.val / 4, 0, 0] ∧ win0_2.index t = ![t.val / 4, 0, 0]
    ∧ win0_3.index t = ![0, 0] ∧ win0_4.index t = ![0, 0] ∧ win0_5.index t = ![0, 0] ∧ win0_6.index t = ![t.val % 4, 0]
    ∧ win0_7.index t = ![t.val % 4, 0] ∧ win0_8.index t = ![t.val % 4, 0] ∧ win0_9.index t = ![0, t.val % 4] ∧ win0_10.index t = ![0, t.val % 4]
    ∧ win0_11.index t = ![0, t.val % 4] ∧ win0_12.index t = ![0, t.val, 0] ∧ win0_13.index t = ![t.val, 0] ∧ win0_14.index t = ![t.val, 0]
    ∧ win0_15.index t = ![t.val / 4, 0, t.val % 4] ∧ win0_16.index t = ![t.val / 4, 0, t.val % 4] ∧ win0_17.index t = ![t.val, 0]
    ∧ win0_18.index t = ![t.val, 0] ∧ win0_19.index t = ![t.val, 0] ∧ win0_20.index t = ![t.val, 0] :=
  (by decide +kernel : ∀ t : Fin grid0.N, _)

/-- The batch, the position and the row of the array that row `p` of point `t`'s block is. -/
def batOf (t : Fin cfg0.N) : Fin 8 := ⟨t.val / 4, by have h : t.val < 32 := t.isLt; omega⟩
@[inherit_doc batOf] def posOf (t : Fin cfg0.N) (p : Fin 512) : Fin 2048 := ⟨t.val % 4 * 512 + p.val, by omega⟩
@[inherit_doc batOf] def rowOf (t : Fin cfg0.N) (p : Fin 512) : Fin 16384 :=
  ⟨t.val * 512 + p.val, by have h : t.val < 32 := t.isLt; omega⟩

theorem row_bat (t : Fin cfg0.N) (p : Fin 512) (h : (rowOf t p).val / 2048 < 8) : (⟨(rowOf t p).val / 2048, h⟩ : Fin 8) = batOf t :=
  Fin.ext (by unfold rowOf batOf; dsimp only; omega)
theorem row_pos (t : Fin cfg0.N) (p : Fin 512) (h : (rowOf t p).val % 2048 < 2048) : (⟨(rowOf t p).val % 2048, h⟩ : Fin 2048) = posOf t p :=
  Fin.ext (by unfold rowOf posOf; dsimp only; omega)
theorem row_pos_val (t : Fin cfg0.N) (p : Fin 512) : (rowOf t p).val % 2048 = (posOf t p).val := by
  unfold rowOf posOf; dsimp only; omega

/-- The reordered weight's columns, group by group. -/
theorem wp_same (c : Dev nD) (x : Fin 1024) (j : Fin 4992) (n : Fin 4888) (hn : n.val = j.val)
    (hj : j.val < 1024 ∨ 1536 ≤ j.val ∧ j.val < 2304) : (V m c main_v18 (ix2 x j) : EReal) = A4 m c (ix2 x n) := by
  rw [wp_at]
  rcases hj with h | ⟨h, h'⟩
  · rw [dif_pos h]; exact congrArg (fun n => A4 m c (ix2 x n)) (Fin.ext hn.symm)
  · rw [dif_neg (by omega), dif_neg (by omega), dif_pos (by omega)]
    exact congrArg (fun n => A4 m c (ix2 x n)) (Fin.ext (by show 1536 + (j.val - 1024 - 512) = n.val; omega))
theorem wp_query (c : Dev nD) (x : Fin 1024) (j : Fin 4992) (i : Fin 512) (n : Fin 4888) (hj : j.val = 1024 + i.val)
    (hn : n.val = 1024 + (lane i).val) : (V m c main_v18 (ix2 x j) : EReal) = A4 m c (ix2 x n) := by
  rw [wp_at, dif_neg (by omega), dif_pos (by omega)]
  refine congrArg (fun n => A4 m c (ix2 x n)) (Fin.ext ?_)
  show 1024 + (lane ⟨j.val - 1024, _⟩).val = n.val
  rw [hn]
  exact congrArg (fun i => 1024 + (lane i).val) (Fin.ext (by show j.val - 1024 = i.val; omega))
theorem wp_gatez (c : Dev nD) (x : Fin 1024) (j : Fin 4992) (i : Fin 512) (n : Fin 4888) (hj : j.val = 2304 + i.val)
    (hn : n.val = 2328 + (lane i).val) : (V m c main_v18 (ix2 x j) : EReal) = A4 m c (ix2 x n) := by
  rw [wp_at, dif_neg (by omega), dif_neg (by omega), dif_neg (by omega), dif_pos (by omega)]
  refine congrArg (fun n => A4 m c (ix2 x n)) (Fin.ext ?_)
  show 2328 + (lane ⟨j.val - 1024 - 512 - 768, _⟩).val = n.val
  rw [hn]
  exact congrArg (fun i => 2328 + (lane i).val) (Fin.ext (by show j.val - 1024 - 512 - 768 = i.val; omega))
theorem wp_merge (c : Dev nD) (x : Fin 1024) (j : Fin 4992) (n : Fin 4888) (hj : 2816 ≤ j.val) (hj' : j.val < 4864)
    (hn : n.val = j.val + 24) : (V m c main_v18 (ix2 x j) : EReal) = A4 m c (ix2 x n) := by
  rw [wp_at, dif_neg (by omega), dif_neg (by omega), dif_neg (by omega), dif_neg (by omega), dif_pos (by omega)]
  exact congrArg (fun n => A4 m c (ix2 x n)) (Fin.ext (by show 2840 + (j.val - 1024 - 512 - 768 - 512) = n.val; omega))
theorem wp_gates (c : Dev nD) (x : Fin 1024) (j : Fin 4992) (n : Fin 4888) (hj : 4864 ≤ j.val) (hj' : j.val < 4888)
    (hn : n.val + 2560 = j.val) : (V m c main_v18 (ix2 x j) : EReal) = A4 m c (ix2 x n) := by
  rw [wp_at, dif_neg (by omega), dif_neg (by omega), dif_neg (by omega), dif_neg (by omega), dif_neg (by omega), dif_pos (by omega)]
  exact congrArg (fun n => A4 m c (ix2 x n)) (Fin.ext (by show 2304 + (j.val - 1024 - 512 - 768 - 512 - 2048) = n.val; omega))
theorem wp_padded (c : Dev nD) (x : Fin 1024) (j : Fin 4992) (hj : 4888 ≤ j.val) :
    (V m c main_v18 (ix2 x j) : EReal) = FloatOps.sitofp (F := Ideal) FTy.f32 (0#32) := by
  rw [wp_at, dif_neg (by omega), dif_neg (by omega), dif_neg (by omega), dif_neg (by omega), dif_neg (by omega), dif_neg (by omega)]

/-- The block's normalized rows. -/
theorem norm_at (c : Dev nD) (t : Fin cfg0.N) (p : Fin 512) (x : Fin 1024) :
    (k0_pay3 (F := Ideal) (View.ld (iblk m c 0 t) r0_0) (View.ld (iblk m c 3 t) r0_1) (View.ld (iblk m c 2 t) r0_2) (View.ld (iblk m c 1 t) r0_2) (ix2 p x) : EReal)
      = val_main_v21 (F := Ideal) (A0 m c) (A1 m c) (A2 m c) (A3 m c) (ix3 (batOf t) (posOf t p) x) := by
  have hN : t.val < 32 := t.isLt
  refine rows_norm _ _ _ _ (batOf t) (posOf t) _ _ _ _ ?_ ?_ ?_ ?_ p x
  · intro p x; unfold batOf posOf; blk_point [iblk, V, idx t]
  · intro x; blk_point [iblk, V, idx t]
  · intro x; unfold batOf; blk_point [iblk, V, idx t]
  · intro x; unfold batOf; blk_point [iblk, V, idx t]

theorem normed (c : Dev nD) (t : Fin cfg0.N) (p : Fin 512) (x : Fin 1024) :
    (k0_pay40 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 p x) : EReal)
      = val_main_v21 (F := Ideal) (A0 m c) (A1 m c) (A2 m c) (A3 m c) (ix3 (batOf t) (posOf t p) x) := by
  unfold k0_pay40
  exact norm_at m c t p x

theorem tC_at (c : Dev nD) (t : Fin cfg0.N) (p : Fin 512) (k : Fin 128) :
    (k0_pay41 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 p k) : EReal) = tabC (posOf t p).val k.val := by
  refine Eq.trans ?_ (cos_tab m c (posOf t p) k)
  unfold posOf
  pointwise [k0_pay41, k0_pay4]
  blk_point [iblk, idx t]

theorem tL_at (c : Dev nD) (t : Fin cfg0.N) (p : Fin 512) (k : Fin 128) :
    (k0_pay42 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 p k) : EReal) = tabL (posOf t p).val k.val := by
  refine Eq.trans ?_ (sinl_tab m c (posOf t p) k)
  unfold posOf
  pointwise [k0_pay42, k0_pay5]
  blk_point [iblk, idx t]

theorem tR_at (c : Dev nD) (t : Fin cfg0.N) (p : Fin 512) (k : Fin 128) :
    (k0_pay43 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 p k) : EReal) = tabR (posOf t p).val k.val := by
  refine Eq.trans ?_ (sinr_tab m c (posOf t p) k)
  unfold posOf
  pointwise [k0_pay43, k0_pay6]
  blk_point [iblk, idx t]

theorem tCT_at (c : Dev nD) (t : Fin cfg0.N) (p : Fin 512) (k : Fin 128) :
    (k0_pay44 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 k p) : EReal) = tabC (posOf t p).val k.val := by
  refine Eq.trans ?_ ((cos_tabT m c (posOf t p) k).trans (cos_tab m c (posOf t p) k))
  unfold posOf
  pointwise [k0_pay44, k0_pay29]
  blk_point [iblk, idx t]

theorem tLT_at (c : Dev nD) (t : Fin cfg0.N) (p : Fin 512) (k : Fin 128) :
    ((show FVec Ideal S128x512 .f32 from iblk m c 10 t) (ix2 k p) : EReal) = tabL (posOf t p).val k.val := by
  refine Eq.trans ?_ ((sinl_tabT m c (posOf t p) k).trans (sinl_tab m c (posOf t p) k))
  unfold posOf
  skip
  blk_point [iblk, idx t]

theorem tRT_at (c : Dev nD) (t : Fin cfg0.N) (p : Fin 512) (k : Fin 128) :
    ((show FVec Ideal S128x512 .f32 from iblk m c 11 t) (ix2 k p) : EReal) = tabR (posOf t p).val k.val := by
  refine Eq.trans ?_ ((sinr_tabT m c (posOf t p) k).trans (sinr_tab m c (posOf t p) k))
  unfold posOf
  skip
  blk_point [iblk, idx t]

theorem ld_r0_4 (c : Dev nD) (t : Fin cfg0.N) (x : Fin 1024) (k : Fin 256) :
    (View.ld (iblk m c 4 t) r0_4 (ix2 x k : S1024x256.Idx) : EReal) = V m c main_v18 (ix2 x (⟨0 + k.val, by omega⟩ : Fin 4992)) := by
  unfold iblk
  generalize V m c = Z
  show (View.ld (View.read (Elt Ideal) ((cfg0.win 4).blk t).view (Z main_v18)) r0_4 (ix2 x k : S1024x256.Idx) : EReal) = _
  generalize Z main_v18 = w
  unfold View.ld View.read
  blk_ext [idx t]
  · show 0 + 1 * x.val = x.val; omega
  · show 0 + 1 * k.val = k.val; omega

theorem ld_r0_7 (c : Dev nD) (t : Fin cfg0.N) (x : Fin 1024) (k : Fin 256) :
    (View.ld (iblk m c 4 t) r0_7 (ix2 x k : S1024x256.Idx) : EReal) = V m c main_v18 (ix2 x (⟨256 + k.val, by omega⟩ : Fin 4992)) := by
  unfold iblk
  generalize V m c = Z
  show (View.ld (View.read (Elt Ideal) ((cfg0.win 4).blk t).view (Z main_v18)) r0_7 (ix2 x k : S1024x256.Idx) : EReal) = _
  generalize Z main_v18 = w
  unfold View.ld View.read
  blk_ext [idx t]
  · show 0 + 1 * x.val = x.val; omega
  · show 256 + 1 * k.val = 256 + k.val; omega

theorem ld_r0_10 (c : Dev nD) (t : Fin cfg0.N) (x : Fin 1024) (k : Fin 512) :
    (View.ld (iblk m c 4 t) r0_10 (ix2 x k : S1024x512.Idx) : EReal) = V m c main_v18 (ix2 x (⟨512 + k.val, by omega⟩ : Fin 4992)) := by
  unfold iblk
  generalize V m c = Z
  show (View.ld (View.read (Elt Ideal) ((cfg0.win 4).blk t).view (Z main_v18)) r0_10 (ix2 x k : S1024x512.Idx) : EReal) = _
  generalize Z main_v18 = w
  unfold View.ld View.read
  blk_ext [idx t]
  · show 0 + 1 * x.val = x.val; omega
  · show 512 + 1 * k.val = 512 + k.val; omega

theorem ld_r0_12 (c : Dev nD) (t : Fin cfg0.N) (x : Fin 1024) (k : Fin 256) :
    (View.ld (iblk m c 4 t) r0_12 (ix2 x k : S1024x256.Idx) : EReal) = V m c main_v18 (ix2 x (⟨1024 + k.val, by omega⟩ : Fin 4992)) := by
  unfold iblk
  generalize V m c = Z
  show (View.ld (View.read (Elt Ideal) ((cfg0.win 4).blk t).view (Z main_v18)) r0_12 (ix2 x k : S1024x256.Idx) : EReal) = _
  generalize Z main_v18 = w
  unfold View.ld View.read
  blk_ext [idx t]
  · show 0 + 1 * x.val = x.val; omega
  · show 1024 + 1 * k.val = 1024 + k.val; omega

theorem ld_r0_15 (c : Dev nD) (t : Fin cfg0.N) (x : Fin 1024) (k : Fin 256) :
    (View.ld (iblk m c 4 t) r0_15 (ix2 x k : S1024x256.Idx) : EReal) = V m c main_v18 (ix2 x (⟨1280 + k.val, by omega⟩ : Fin 4992)) := by
  unfold iblk
  generalize V m c = Z
  show (View.ld (View.read (Elt Ideal) ((cfg0.win 4).blk t).view (Z main_v18)) r0_15 (ix2 x k : S1024x256.Idx) : EReal) = _
  generalize Z main_v18 = w
  unfold View.ld View.read
  blk_ext [idx t]
  · show 0 + 1 * x.val = x.val; omega
  · show 1280 + 1 * k.val = 1280 + k.val; omega

theorem ld_r0_18 (c : Dev nD) (t : Fin cfg0.N) (x : Fin 1024) (k : Fin 256) :
    (View.ld (iblk m c 4 t) r0_18 (ix2 x k : S1024x256.Idx) : EReal) = V m c main_v18 (ix2 x (⟨1536 + k.val, by omega⟩ : Fin 4992)) := by
  unfold iblk
  generalize V m c = Z
  show (View.ld (View.read (Elt Ideal) ((cfg0.win 4).blk t).view (Z main_v18)) r0_18 (ix2 x k : S1024x256.Idx) : EReal) = _
  generalize Z main_v18 = w
  unfold View.ld View.read
  blk_ext [idx t]
  · show 0 + 1 * x.val = x.val; omega
  · show 1536 + 1 * k.val = 1536 + k.val; omega

theorem ld_r0_20 (c : Dev nD) (t : Fin cfg0.N) (x : Fin 1024) (k : Fin 512) :
    (View.ld (iblk m c 4 t) r0_20 (ix2 x k : S1024x512.Idx) : EReal) = V m c main_v18 (ix2 x (⟨2304 + k.val, by omega⟩ : Fin 4992)) := by
  unfold iblk
  generalize V m c = Z
  show (View.ld (View.read (Elt Ideal) ((cfg0.win 4).blk t).view (Z main_v18)) r0_20 (ix2 x k : S1024x512.Idx) : EReal) = _
  generalize Z main_v18 = w
  unfold View.ld View.read
  blk_ext [idx t]
  · show 0 + 1 * x.val = x.val; omega
  · show 2304 + 1 * k.val = 2304 + k.val; omega

theorem ld_r0_21 (c : Dev nD) (t : Fin cfg0.N) (x : Fin 1024) (k : Fin 2048) :
    (View.ld (iblk m c 4 t) r0_21 (ix2 x k : S1024x2048.Idx) : EReal) = V m c main_v18 (ix2 x (⟨2816 + k.val, by omega⟩ : Fin 4992)) := by
  unfold iblk
  generalize V m c = Z
  show (View.ld (View.read (Elt Ideal) ((cfg0.win 4).blk t).view (Z main_v18)) r0_21 (ix2 x k : S1024x2048.Idx) : EReal) = _
  generalize Z main_v18 = w
  unfold View.ld View.read
  blk_ext [idx t]
  · show 0 + 1 * x.val = x.val; omega
  · show 2816 + 1 * k.val = 2816 + k.val; omega

theorem ld_r0_23 (c : Dev nD) (t : Fin cfg0.N) (x : Fin 1024) (k : Fin 128) :
    (View.ld (iblk m c 4 t) r0_23 (ix2 x k : S1024x128.Idx) : EReal) = V m c main_v18 (ix2 x (⟨4864 + k.val, by omega⟩ : Fin 4992)) := by
  unfold iblk
  generalize V m c = Z
  show (View.ld (View.read (Elt Ideal) ((cfg0.win 4).blk t).view (Z main_v18)) r0_23 (ix2 x k : S1024x128.Idx) : EReal) = _
  generalize Z main_v18 = w
  unfold View.ld View.read
  blk_ext [idx t]
  · show 0 + 1 * x.val = x.val; omega
  · show 4864 + 1 * k.val = 4864 + k.val; omega

theorem ld_wt (c : Dev nD) (t : Fin cfg0.N) (x : Fin 1024) (k : Fin 768) :
    ((show FVec Ideal S768x1024 .bf16 from iblk m c 5 t) (ix2 k x) : EReal) = A4 m c (ix2 x (⟨1536 + k.val, by omega⟩ : Fin 4888)) := by
  refine Eq.trans ?_ (wt_at m c x k)
  unfold iblk
  generalize V m c = Z
  show (View.read (Elt Ideal) ((cfg0.win 5).blk t).view (Z main_v21) (ix2 k x : S768x1024.Idx) : EReal) = _
  generalize Z main_v21 = w
  unfold View.read
  blk_ext [idx t]

end Cert.Inproj
-- ==== Proof.Inproj.Value.lean ====
module

public import proofs.«01_k».proof.Proof.Inproj.Base
public import Idealize.ShloMosaic.Lib.Pipeline.ValueKit

@[expose] public section

set_option maxRecDepth 16384

noncomputable section

/-! What the input projection's call leaves in its results: the reference's arrays. -/

namespace Cert.Inproj

open Idealize.ShloMosaic Idealize.ShloMosaic.TcCoe Idealize.SL.Sem
open Idealize.ShloMosaic.Pipeline (Dat)
open Cert.Kernel2Ideal Cert.Kernel2Ideal.Gen
open Cert.Reference2Ideal.Read
open Cert.Post (lane)

variable (m : (ℓ : Loc nD τ sig) → Buf (Elt Ideal) ℓ)

theorem final_zs5 (c : Dev nD) : (dats m 0 c).arrAt 13 (cfgs 0).N = val_main_v162 (F := Ideal) (A0 m c) (A1 m c) (A2 m c) (A3 m c) (A4 m c) := by
  refine (dats m 0 c).arrAt_eq_of_covers 13 _ (by decide +kernel) fun t _ y => ?_
  blk_simp
  rw [after0_13]
  frame_out
  have hN : t.val < 32 := t.isLt
  obtain ⟨p, k, rfl⟩ : ∃ (p : Fin 512) (k : Fin 512), y = (ix2 p k : S512x512.Idx) :=
    ⟨⟨(y 0).val, by idx_bounds y; omega⟩, ⟨(y 1).val, by idx_bounds y; omega⟩, by blk_ext⟩
  have e : (((View.whole main_v56_1).slice (win0_13.rect t)).emb (ix2 p k : S512x512.Idx)) = (ix2 (rowOf t p) k : S16384x512.Idx) := by
    unfold rowOf
    blk_ext [idx t]
  rw [e]
  refine Eq.trans ?_ (zs5_at (A0 m c) (A1 m c) (A2 m c) (A3 m c) (A4 m c) (rowOf t p) k).symm
  rw [row_bat, row_pos]
  refine (zs5_blk (A0 m c) (A1 m c) (A2 m c) (A3 m c) (A4 m c) (batOf t) (posOf t) _ (normed m c t) _ p k ⟨512 + k.val, by have := (lane ⟨k.val % 512, by omega⟩).isLt; omega⟩ fun x => ?_)
  refine Eq.trans ?_ (wp_same m c x (⟨512 + k.val, by omega⟩) _ rfl (by left; show 512 + k.val < 1024; omega))
  exact ld_r0_10 m c t x k

theorem final_cmp (c : Dev nD) : (dats m 0 c).arrAt 17 (cfgs 0).N = val_main_v172 (F := Ideal) (A0 m c) (A1 m c) (A2 m c) (A3 m c) (A4 m c) := by
  refine (dats m 0 c).arrAt_eq_of_covers 17 _ (by decide +kernel) fun t _ y => ?_
  blk_simp
  rw [after0_17]
  frame_out
  have hN : t.val < 32 := t.isLt
  obtain ⟨p, k, rfl⟩ : ∃ (p : Fin 512) (k : Fin 256), y = (ix2 p k : S512x256.Idx) :=
    ⟨⟨(y 0).val, by idx_bounds y; omega⟩, ⟨(y 1).val, by idx_bounds y; omega⟩, by blk_ext⟩
  have e : (((View.whole main_v56_5).slice (win0_17.rect t)).emb (ix2 p k : S512x256.Idx)) = (ix2 (rowOf t p) k : S16384x256.Idx) := by
    unfold rowOf
    blk_ext [idx t]
  rw [e]
  refine Eq.trans ?_ (cmp_at (A0 m c) (A1 m c) (A2 m c) (A3 m c) (A4 m c) (rowOf t p) k).symm
  rw [row_bat, row_pos]
  refine (cmp_blk (A0 m c) (A1 m c) (A2 m c) (A3 m c) (A4 m c) (batOf t) (posOf t) _ (normed m c t) _ p k ⟨1536 + k.val, by have := (lane ⟨k.val % 512, by omega⟩).isLt; omega⟩ fun x => ?_)
  refine Eq.trans ?_ (wp_same m c x (⟨1536 + k.val, by omega⟩) _ rfl (by right; show 1536 ≤ 1536 + k.val ∧ 1536 + k.val < 2304; omega))
  exact ld_r0_18 m c t x k

theorem final_znsa (c : Dev nD) : (dats m 0 c).arrAt 18 (cfgs 0).N = val_main_v176 (F := Ideal) (A0 m c) (A1 m c) (A2 m c) (A3 m c) (A4 m c) := by
  refine (dats m 0 c).arrAt_eq_of_covers 18 _ (by decide +kernel) fun t _ y => ?_
  blk_simp
  rw [after0_18]
  frame_out
  have hN : t.val < 32 := t.isLt
  obtain ⟨p, k, rfl⟩ : ∃ (p : Fin 512) (k : Fin 512), y = (ix2 p k : S512x512.Idx) :=
    ⟨⟨(y 0).val, by idx_bounds y; omega⟩, ⟨(y 1).val, by idx_bounds y; omega⟩, by blk_ext⟩
  have e : (((View.whole main_v56_6).slice (win0_18.rect t)).emb (ix2 p k : S512x512.Idx)) = (ix2 (rowOf t p) k : S16384x512.Idx) := by
    unfold rowOf
    blk_ext [idx t]
  rw [e]
  refine Eq.trans ?_ (znsa_at (A0 m c) (A1 m c) (A2 m c) (A3 m c) (A4 m c) (rowOf t p) k).symm
  rw [row_bat, row_pos]
  refine (znsa_blk (A0 m c) (A1 m c) (A2 m c) (A3 m c) (A4 m c) (batOf t) (posOf t) _ (normed m c t) _ p k ⟨2328 + (lane k).val, by have := (lane k).isLt; omega⟩ fun x => ?_)
  refine Eq.trans ?_ (wp_gatez m c x (⟨2304 + k.val, by omega⟩) k _ rfl rfl)
  exact ld_r0_20 m c t x k

theorem final_merge (c : Dev nD) : (dats m 0 c).arrAt 19 (cfgs 0).N = val_main_v178 (F := Ideal) (A0 m c) (A1 m c) (A2 m c) (A3 m c) (A4 m c) := by
  refine (dats m 0 c).arrAt_eq_of_covers 19 _ (by decide +kernel) fun t _ y => ?_
  blk_simp
  rw [after0_19]
  frame_out
  have hN : t.val < 32 := t.isLt
  obtain ⟨p, k, rfl⟩ : ∃ (p : Fin 512) (k : Fin 2048), y = (ix2 p k : S512x2048.Idx) :=
    ⟨⟨(y 0).val, by idx_bounds y; omega⟩, ⟨(y 1).val, by idx_bounds y; omega⟩, by blk_ext⟩
  have e : (((View.whole main_v56_7).slice (win0_19.rect t)).emb (ix2 p k : S512x2048.Idx)) = (ix2 (rowOf t p) k : S16384x2048.Idx) := by
    unfold rowOf
    blk_ext [idx t]
  rw [e]
  refine Eq.trans ?_ (merge_at (A0 m c) (A1 m c) (A2 m c) (A3 m c) (A4 m c) (rowOf t p) k).symm
  rw [row_bat, row_pos]
  refine (merge_blk (A0 m c) (A1 m c) (A2 m c) (A3 m c) (A4 m c) (batOf t) (posOf t) _ (normed m c t) _ p k ⟨2840 + k.val, by have := (lane ⟨k.val % 512, by omega⟩).isLt; omega⟩ fun x => ?_)
  refine Eq.trans ?_ (wp_merge m c x (⟨2816 + k.val, by omega⟩) _ (by show 2816 ≤ 2816 + k.val; omega) (by show 2816 + k.val < 4864; omega) (by show 2840 + k.val = 2816 + k.val + 24; omega))
  exact ld_r0_21 m c t x k

end Cert.Inproj
-- ==== Proof.Inproj.Value2.lean ====
module

public import proofs.«01_k».proof.Proof.Inproj.Base
public import Idealize.ShloMosaic.Lib.Pipeline.ValueKit

@[expose] public section

set_option maxRecDepth 16384

noncomputable section

/-! What the input projection's call leaves in its results: the reference's arrays. -/

namespace Cert.Inproj

open Idealize.ShloMosaic Idealize.ShloMosaic.TcCoe Idealize.SL.Sem
open Idealize.ShloMosaic.Pipeline (Dat)
open Cert.Kernel2Ideal Cert.Kernel2Ideal.Gen
open Cert.Reference2Ideal.Read
open Cert.Post (lane)

variable (m : (ℓ : Loc nD τ sig) → Buf (Elt Ideal) ℓ)

/-- The value the host pads with is zero. -/
theorem pad_zero : (FloatOps.sitofp (F := Ideal) FTy.f32 (0#32) : EReal) = 0 := by
  show (((0#32 : BitVec 32).toInt : ℝ) : EReal) = 0
  simp

theorem gate_zero (H : FVec Ideal S512x1024 .bf16) (w : Vec Ideal S1024x128 .bf16) (p : Fin 512) (k : Fin 128)
    (hw : ∀ x : Fin 1024, (w (ix2 x k) : EReal) = 0) : (k0_pay28 (F := Ideal) H w (ix2 p k) : EReal) = 0 := by
  pointwise [k0_pay28]
  exact Finset.sum_eq_zero fun x _ => by rw [hw, mul_zero]

theorem rot_congr (f g : ℕ → EReal) (s d e : ℕ) (hf : ∀ d, f d = g d) (h : d = e) : rot f s d = rot g s e := by
  rw [funext hf, h]

theorem final_gate (c : Dev nD) : (dats m 0 c).arrAt 20 (cfgs 0).N = val_main_v180 (F := Ideal) (A0 m c) (A1 m c) (A2 m c) (A3 m c) (A4 m c) := by
  refine (dats m 0 c).arrAt_eq_of_covers 20 _ (by decide +kernel) fun t _ y => ?_
  blk_simp
  rw [after0_20]
  frame_out
  have hN : t.val < 32 := t.isLt
  obtain ⟨p, k, rfl⟩ : ∃ (p : Fin 512) (k : Fin 128), y = (ix2 p k : S512x128.Idx) :=
    ⟨⟨(y 0).val, by idx_bounds y; omega⟩, ⟨(y 1).val, by idx_bounds y; omega⟩, by blk_ext⟩
  have e : (((View.whole main_v56_8).slice (win0_20.rect t)).emb (ix2 p k : S512x128.Idx)) = (ix2 (rowOf t p) k : S16384x128.Idx) := by
    unfold rowOf
    blk_ext [idx t]
  rw [e]
  refine Eq.trans ?_ (gate_at (A0 m c) (A1 m c) (A2 m c) (A3 m c) (A4 m c) (rowOf t p) k).symm
  rw [row_bat, row_pos]
  by_cases h : k.val < 24
  · rw [if_pos h]
    refine (gate_blk (A0 m c) (A1 m c) (A2 m c) (A3 m c) (A4 m c) (batOf t) (posOf t) _ (normed m c t) _ p k ⟨2304 + k.val, by omega⟩ fun x => ?_)
    refine Eq.trans ?_ (wp_gates m c x (⟨4864 + k.val, by omega⟩) _ (by show 4864 ≤ 4864 + k.val; omega)
      (by show 4864 + k.val < 4888; omega) (by show 2304 + k.val + 2560 = 4864 + k.val; omega))
    exact ld_r0_23 m c t x k
  · rw [if_neg h, pad_zero]
    refine gate_zero _ _ p k fun x => ?_
    exact (ld_r0_23 m c t x k).trans ((wp_padded m c x (⟨4864 + k.val, by omega⟩)
      (by show 4888 ≤ 4864 + k.val; omega)).trans pad_zero)

theorem norm_whole (c : Dev nD) (t : Fin cfg0.N) (p : Fin 512) (x : Fin 1024) :
    (k0_pay3 (F := Ideal) (iblk m c 0 t) (iblk m c 3 t) (iblk m c 2 t) (iblk m c 1 t) (ix2 p x) : EReal)
      = val_main_v21 (F := Ideal) (A0 m c) (A1 m c) (A2 m c) (A3 m c) (ix3 (batOf t) (posOf t p) x) := by
  have hN : t.val < 32 := t.isLt
  refine rows_norm _ _ _ _ (batOf t) (posOf t) _ _ _ _ ?_ ?_ ?_ ?_ p x
  · intro p x; unfold batOf posOf; blk_point [iblk, V, idx t]
  · intro x; blk_point [iblk, V, idx t]
  · intro x; unfold batOf; blk_point [iblk, V, idx t]
  · intro x; unfold batOf; blk_point [iblk, V, idx t]

set_option maxHeartbeats 1000000 in
theorem final_u (c : Dev nD) : (dats m 0 c).arrAt 12 (cfgs 0).N = val_main_v160 (F := Ideal) (A0 m c) (A1 m c) (A2 m c) (A3 m c) (A4 m c) := by
  refine (dats m 0 c).arrAt_eq_of_covers 12 _ (by decide +kernel) fun t _ y => ?_
  blk_simp
  rw [after0_12]
  frame_out
  have hN : t.val < 32 := t.isLt
  obtain ⟨i, p, k, rfl⟩ : ∃ (i : Fin 4) (p : Fin 512) (k : Fin 128), y = (ix3 i p k : S4x512x128.Idx) :=
    ⟨⟨(y 0).val, by idx_bounds y; omega⟩, ⟨(y 1).val, by idx_bounds y; omega⟩, ⟨(y 2).val, by idx_bounds y; omega⟩, by blk_ext⟩
  have e : (((View.whole main_v56_0).slice (win0_12.rect t)).emb (ix3 i p k : S4x512x128.Idx)) = (ix3 i (rowOf t p) k : S4x16384x128.Idx) := by
    unfold rowOf
    blk_ext [idx t]
  rw [e]
  refine Eq.trans ?_ (u_at (A0 m c) (A1 m c) (A2 m c) (A3 m c) (A4 m c) i (rowOf t p) k).symm
  rw [row_bat, row_pos]
  canon_tiles x h
  case piece0 =>
    obtain ⟨p', k', rfl⟩ : ∃ (p' : Fin 512) (k' : Fin 128), x = (ix3 (0 : Fin 1) p' k' : S1x512x128.Idx) :=
      ⟨⟨(x 1).val, by idx_bounds x; omega⟩, ⟨(x 2).val, by idx_bounds x; omega⟩, by blk_ext⟩
    obtain rfl : p = p' := Fin.ext h1
    obtain rfl : k = k' := Fin.ext h2
    have hi : i.val = 3 := h0
    refine (u3_blk (A0 m c) (A1 m c) (A2 m c) (A3 m c) (A4 m c) (batOf t) (posOf t) _ (normed m c t) _ p k ⟨384 + k.val, by omega⟩ fun x => ?_).trans ?_
    · exact (ld_r0_7 m c t x ⟨128 + k.val, by omega⟩).trans (wp_same m c x _ _ (by show 384 + k.val = 256 + (128 + k.val); omega)
        (by left; show 256 + (128 + k.val) < 1024; omega))
    · exact congrArg _ (by show 384 + k.val = i.val * 128 + k.val; omega)
  case piece1 =>
    obtain ⟨p', k', rfl⟩ : ∃ (p' : Fin 512) (k' : Fin 128), x = (ix3 (0 : Fin 1) p' k' : S1x512x128.Idx) :=
      ⟨⟨(x 1).val, by idx_bounds x; omega⟩, ⟨(x 2).val, by idx_bounds x; omega⟩, by blk_ext⟩
    obtain rfl : p = p' := Fin.ext h1
    obtain rfl : k = k' := Fin.ext h2
    have hi : i.val = 2 := h0
    refine (u2_blk (A0 m c) (A1 m c) (A2 m c) (A3 m c) (A4 m c) (batOf t) (posOf t) _ (normed m c t) _ p k ⟨256 + k.val, by omega⟩ fun x => ?_).trans ?_
    · exact (ld_r0_7 m c t x ⟨k.val, by omega⟩).trans (wp_same m c x _ _ (by show 256 + k.val = 256 + (k.val); omega)
        (by left; show 256 + (k.val) < 1024; omega))
    · exact congrArg _ (by show 256 + k.val = i.val * 128 + k.val; omega)
  case piece2 =>
    obtain ⟨p', k', rfl⟩ : ∃ (p' : Fin 512) (k' : Fin 128), x = (ix3 (0 : Fin 1) p' k' : S1x512x128.Idx) :=
      ⟨⟨(x 1).val, by idx_bounds x; omega⟩, ⟨(x 2).val, by idx_bounds x; omega⟩, by blk_ext⟩
    obtain rfl : p = p' := Fin.ext h1
    obtain rfl : k = k' := Fin.ext h2
    have hi : i.val = 1 := h0
    refine (u1_blk (A0 m c) (A1 m c) (A2 m c) (A3 m c) (A4 m c) (batOf t) (posOf t) _ _ _ _ (norm_whole m c t) _ p k ⟨128 + k.val, by omega⟩ fun x => ?_).trans ?_
    · exact (ld_r0_4 m c t x ⟨128 + k.val, by omega⟩).trans (wp_same m c x _ _ (by show 128 + k.val = 0 + (128 + k.val); omega)
        (by left; show 0 + (128 + k.val) < 1024; omega))
    · exact congrArg _ (by show 128 + k.val = i.val * 128 + k.val; omega)
  case piece3 =>
    obtain ⟨p', k', rfl⟩ : ∃ (p' : Fin 512) (k' : Fin 128), x = (ix3 (0 : Fin 1) p' k' : S1x512x128.Idx) :=
      ⟨⟨(x 1).val, by idx_bounds x; omega⟩, ⟨(x 2).val, by idx_bounds x; omega⟩, by blk_ext⟩
    obtain rfl : p = p' := Fin.ext h1
    obtain rfl : k = k' := Fin.ext h2
    have hi : i.val = 0 := h0
    refine (u0_blk (A0 m c) (A1 m c) (A2 m c) (A3 m c) (A4 m c) (batOf t) (posOf t) _ _ _ _ (norm_whole m c t) _ p k ⟨0 + k.val, by omega⟩ fun x => ?_).trans ?_
    · exact (ld_r0_4 m c t x ⟨k.val, by omega⟩).trans (wp_same m c x _ _ (by show 0 + k.val = 0 + (k.val); omega)
        (by left; show 0 + (k.val) < 1024; omega))
    · exact congrArg _ (by show 0 + k.val = i.val * 128 + k.val; omega)

set_option maxHeartbeats 1000000 in
theorem final_q (c : Dev nD) : (dats m 0 c).arrAt 14 (cfgs 0).N = val_main_v166 (F := Ideal) (A0 m c) (A1 m c) (A2 m c) (A3 m c) (A4 m c) := by
  refine (dats m 0 c).arrAt_eq_of_covers 14 _ (by decide +kernel) fun t _ y => ?_
  blk_simp
  rw [after0_14]
  frame_out
  have hN : t.val < 32 := t.isLt
  obtain ⟨p, j, rfl⟩ : ∃ (p : Fin 512) (j : Fin 512), y = (ix2 p j : S512x512.Idx) :=
    ⟨⟨(y 0).val, by idx_bounds y; omega⟩, ⟨(y 1).val, by idx_bounds y; omega⟩, by blk_ext⟩
  have e : (((View.whole main_v56_2).slice (win0_14.rect t)).emb (ix2 p j : S512x512.Idx)) = (ix2 (rowOf t p) j : S16384x512.Idx) := by
    unfold rowOf
    blk_ext [idx t]
  rw [e]
  refine Eq.trans ?_ (q_at (A0 m c) (A1 m c) (A2 m c) (A3 m c) (A4 m c) (rowOf t p) j).symm
  rw [row_bat, row_pos, row_pos_val]
  canon_tiles x h
  case piece0 =>
    obtain ⟨p', k, rfl⟩ : ∃ (p' : Fin 512) (k : Fin 128), x = (ix2 p' k : S512x128.Idx) :=
      ⟨⟨(x 0).val, by idx_bounds x; omega⟩, ⟨(x 1).val, by idx_bounds x; omega⟩, by blk_ext⟩
    obtain rfl : p = p' := Fin.ext h0
    have hj : j.val = 384 + k.val := h1
    refine (q3_blk (A0 m c) (A1 m c) (A2 m c) (A3 m c) (A4 m c) (batOf t) (posOf t) _ (normed m c t) _ _ _ (tC_at m c t) (tL_at m c t) (tR_at m c t) _
      (fun k' => ⟨1024 + (lane ⟨384 + k'.val, by omega⟩).val, by omega⟩) (1024 + (k.val / 64 * 4 + 3) * 64) p k ?_ fun x k' => ?_).trans ?_
    · intro k' hk'
      unfold lane
      dsimp only
      omega
    · exact (ld_r0_15 m c t x ⟨128 + k'.val, by omega⟩).trans (wp_query m c x _ ⟨384 + k'.val, by omega⟩ _
        (by show 1280 + (128 + k'.val) = 1024 + (384 + k'.val); omega) rfl)
    · refine congrArg (fun z : EReal => z * Ideal.ofBits FTy.f32 1040187392#32) (rot_congr _ _ _ _ _ (fun d => ?_) ?_)
      · exact congrArg _ (by omega)
      · omega
  case piece1 =>
    obtain ⟨p', k, rfl⟩ : ∃ (p' : Fin 512) (k : Fin 128), x = (ix2 p' k : S512x128.Idx) :=
      ⟨⟨(x 0).val, by idx_bounds x; omega⟩, ⟨(x 1).val, by idx_bounds x; omega⟩, by blk_ext⟩
    obtain rfl : p = p' := Fin.ext h0
    have hj : j.val = 256 + k.val := h1
    refine (q2_blk (A0 m c) (A1 m c) (A2 m c) (A3 m c) (A4 m c) (batOf t) (posOf t) _ (normed m c t) _ _ _ (tC_at m c t) (tL_at m c t) (tR_at m c t) _
      (fun k' => ⟨1024 + (lane ⟨256 + k'.val, by omega⟩).val, by omega⟩) (1024 + (k.val / 64 * 4 + 2) * 64) p k ?_ fun x k' => ?_).trans ?_
    · intro k' hk'
      unfold lane
      dsimp only
      omega
    · exact (ld_r0_15 m c t x ⟨k'.val, by omega⟩).trans (wp_query m c x _ ⟨256 + k'.val, by omega⟩ _
        (by show 1280 + (k'.val) = 1024 + (256 + k'.val); omega) rfl)
    · refine congrArg (fun z : EReal => z * Ideal.ofBits FTy.f32 1040187392#32) (rot_congr _ _ _ _ _ (fun d => ?_) ?_)
      · exact congrArg _ (by omega)
      · omega
  case piece2 =>
    obtain ⟨p', k, rfl⟩ : ∃ (p' : Fin 512) (k : Fin 128), x = (ix2 p' k : S512x128.Idx) :=
      ⟨⟨(x 0).val, by idx_bounds x; omega⟩, ⟨(x 1).val, by idx_bounds x; omega⟩, by blk_ext⟩
    obtain rfl : p = p' := Fin.ext h0
    have hj : j.val = 128 + k.val := h1
    refine (q1_blk (A0 m c) (A1 m c) (A2 m c) (A3 m c) (A4 m c) (batOf t) (posOf t) _ (normed m c t) _ _ _ (tC_at m c t) (tL_at m c t) (tR_at m c t) _
      (fun k' => ⟨1024 + (lane ⟨128 + k'.val, by omega⟩).val, by omega⟩) (1024 + (k.val / 64 * 4 + 1) * 64) p k ?_ fun x k' => ?_).trans ?_
    · intro k' hk'
      unfold lane
      dsimp only
      omega
    · exact (ld_r0_12 m c t x ⟨128 + k'.val, by omega⟩).trans (wp_query m c x _ ⟨128 + k'.val, by omega⟩ _
        (by show 1024 + (128 + k'.val) = 1024 + (128 + k'.val); omega) rfl)
    · refine congrArg (fun z : EReal => z * Ideal.ofBits FTy.f32 1040187392#32) (rot_congr _ _ _ _ _ (fun d => ?_) ?_)
      · exact congrArg _ (by omega)
      · omega
  case piece3 =>
    obtain ⟨p', k, rfl⟩ : ∃ (p' : Fin 512) (k : Fin 128), x = (ix2 p' k : S512x128.Idx) :=
      ⟨⟨(x 0).val, by idx_bounds x; omega⟩, ⟨(x 1).val, by idx_bounds x; omega⟩, by blk_ext⟩
    obtain rfl : p = p' := Fin.ext h0
    have hj : j.val = k.val := h1
    refine (q0_blk (A0 m c) (A1 m c) (A2 m c) (A3 m c) (A4 m c) (batOf t) (posOf t) _ (normed m c t) _ _ _ (tC_at m c t) (tL_at m c t) (tR_at m c t) _
      (fun k' => ⟨1024 + (lane ⟨k'.val, by omega⟩).val, by omega⟩) (1024 + (k.val / 64 * 4 + 0) * 64) p k ?_ fun x k' => ?_).trans ?_
    · intro k' hk'
      unfold lane
      dsimp only
      omega
    · exact (ld_r0_12 m c t x ⟨k'.val, by omega⟩).trans (wp_query m c x _ ⟨k'.val, by omega⟩ _
        (by show 1024 + (k'.val) = 1024 + (k'.val); omega) rfl)
    · refine congrArg (fun z : EReal => z * Ideal.ofBits FTy.f32 1040187392#32) (rot_congr _ _ _ _ _ (fun d => ?_) ?_)
      · exact congrArg _ (by omega)
      · omega

set_option maxHeartbeats 1000000 in
theorem final_kv (c : Dev nD) : (dats m 0 c).arrAt 15 (cfgs 0).N = val_main_v168 (F := Ideal) (A0 m c) (A1 m c) (A2 m c) (A3 m c) (A4 m c) := by
  refine (dats m 0 c).arrAt_eq_of_covers 15 _ (by decide +kernel) fun t _ y => ?_
  blk_simp
  rw [after0_15]
  frame_out
  have hN : t.val < 32 := t.isLt
  obtain ⟨j, p, rfl⟩ : ∃ (j : Fin 512) (p : Fin 512), y = (ix3 (0 : Fin 1) j p : S1x512x512.Idx) :=
    ⟨⟨(y 1).val, by idx_bounds y; omega⟩, ⟨(y 2).val, by idx_bounds y; omega⟩, by blk_ext⟩
  have e : (((View.whole main_v56_3).slice (win0_15.rect t)).emb (ix3 (0 : Fin 1) j p : S1x512x512.Idx)) = (ix3 (batOf t) j (posOf t p) : S8x512x2048.Idx) := by
    unfold batOf posOf
    blk_ext [idx t]
  rw [e]
  refine Eq.trans ?_ (kv_at (A0 m c) (A1 m c) (A2 m c) (A3 m c) (A4 m c) (batOf t) j (posOf t p)).symm
  canon_tiles x h
  case piece0 =>
    obtain ⟨k, p', rfl⟩ : ∃ (k : Fin 128) (p' : Fin 512), x = (ix3 (0 : Fin 1) k p' : S1x128x512.Idx) :=
      ⟨⟨(x 1).val, by idx_bounds x; omega⟩, ⟨(x 2).val, by idx_bounds x; omega⟩, by blk_ext⟩
    obtain rfl : p = p' := Fin.ext h2
    have hj : j.val = 384 + k.val := h1
    rw [if_neg (by omega)]
    refine (kv3_blk (A0 m c) (A1 m c) (A2 m c) (A3 m c) (A4 m c) (batOf t) (posOf t) _ (normed m c t) _ p k ⟨1536 + (384 + k.val), by omega⟩ fun x => ?_).trans ?_
    · exact ld_wt m c t x ⟨384 + k.val, by omega⟩
    · exact congrArg _ (by show 1536 + (384 + k.val) = _; omega)
  case piece1 =>
    obtain ⟨k, p', rfl⟩ : ∃ (k : Fin 128) (p' : Fin 512), x = (ix3 (0 : Fin 1) k p' : S1x128x512.Idx) :=
      ⟨⟨(x 1).val, by idx_bounds x; omega⟩, ⟨(x 2).val, by idx_bounds x; omega⟩, by blk_ext⟩
    obtain rfl : p = p' := Fin.ext h2
    have hj : j.val = 256 + k.val := h1
    rw [if_pos (by omega)]
    refine (kv2_blk (A0 m c) (A1 m c) (A2 m c) (A3 m c) (A4 m c) (batOf t) (posOf t) _ (normed m c t) _ _ _ (tCT_at m c t) (tLT_at m c t) (tRT_at m c t) _
      (fun k' => ⟨1536 + (256 + k'.val), by omega⟩) (1536 + (256 + k.val / 64 * 64)) p k ?_ fun x k' => ?_).trans ?_
    · intro k' hk'
      dsimp only
      omega
    · exact ld_wt m c t x ⟨256 + k'.val, by omega⟩
    · refine rot_congr _ _ _ _ _ (fun d => ?_) ?_
      · exact congrArg _ (by omega)
      · omega
  case piece2 =>
    obtain ⟨k, p', rfl⟩ : ∃ (k : Fin 128) (p' : Fin 512), x = (ix3 (0 : Fin 1) k p' : S1x128x512.Idx) :=
      ⟨⟨(x 1).val, by idx_bounds x; omega⟩, ⟨(x 2).val, by idx_bounds x; omega⟩, by blk_ext⟩
    obtain rfl : p = p' := Fin.ext h2
    have hj : j.val = 128 + k.val := h1
    rw [if_neg (by omega)]
    refine (kv1_blk (A0 m c) (A1 m c) (A2 m c) (A3 m c) (A4 m c) (batOf t) (posOf t) _ (normed m c t) _ p k ⟨1536 + (128 + k.val), by omega⟩ fun x => ?_).trans ?_
    · exact ld_wt m c t x ⟨128 + k.val, by omega⟩
    · exact congrArg _ (by show 1536 + (128 + k.val) = _; omega)
  case piece3 =>
    obtain ⟨k, p', rfl⟩ : ∃ (k : Fin 128) (p' : Fin 512), x = (ix3 (0 : Fin 1) k p' : S1x128x512.Idx) :=
      ⟨⟨(x 1).val, by idx_bounds x; omega⟩, ⟨(x 2).val, by idx_bounds x; omega⟩, by blk_ext⟩
    obtain rfl : p = p' := Fin.ext h2
    have hj : j.val = k.val := h1
    rw [if_neg (by omega)]
    refine (kv0_blk (A0 m c) (A1 m c) (A2 m c) (A3 m c) (A4 m c) (batOf t) (posOf t) _ (normed m c t) _ p k ⟨1536 + (k.val), by omega⟩ fun x => ?_).trans ?_
    · exact ld_wt m c t x ⟨k.val, by omega⟩
    · exact congrArg _ (by show 1536 + (k.val) = _; omega)

set_option maxHeartbeats 1000000 in
theorem final_win (c : Dev nD) : (dats m 0 c).arrAt 16 (cfgs 0).N = val_main_v170 (F := Ideal) (A0 m c) (A1 m c) (A2 m c) (A3 m c) (A4 m c) := by
  refine (dats m 0 c).arrAt_eq_of_covers 16 _ (by decide +kernel) fun t _ y => ?_
  blk_simp
  rw [after0_16]
  frame_out
  have hN : t.val < 32 := t.isLt
  obtain ⟨j, p, rfl⟩ : ∃ (j : Fin 256) (p : Fin 512), y = (ix3 (0 : Fin 1) j p : S1x256x512.Idx) :=
    ⟨⟨(y 1).val, by idx_bounds y; omega⟩, ⟨(y 2).val, by idx_bounds y; omega⟩, by blk_ext⟩
  have e : (((View.whole main_v56_4).slice (win0_16.rect t)).emb (ix3 (0 : Fin 1) j p : S1x256x512.Idx)) = (ix3 (batOf t) j (posOf t p) : S8x256x2048.Idx) := by
    unfold batOf posOf
    blk_ext [idx t]
  rw [e]
  refine Eq.trans ?_ (win_at (A0 m c) (A1 m c) (A2 m c) (A3 m c) (A4 m c) (batOf t) j (posOf t p)).symm
  canon_tiles x h
  case piece0 =>
    obtain ⟨k, p', rfl⟩ : ∃ (k : Fin 128) (p' : Fin 512), x = (ix3 (0 : Fin 1) k p' : S1x128x512.Idx) :=
      ⟨⟨(x 1).val, by idx_bounds x; omega⟩, ⟨(x 2).val, by idx_bounds x; omega⟩, by blk_ext⟩
    obtain rfl : p = p' := Fin.ext h2
    have hj : j.val = 128 + k.val := h1
    rw [if_neg (by omega)]
    refine (win1_blk (A0 m c) (A1 m c) (A2 m c) (A3 m c) (A4 m c) (batOf t) (posOf t) _ (normed m c t) _ p k ⟨1536 + (640 + k.val), by omega⟩ fun x => ?_).trans ?_
    · exact ld_wt m c t x ⟨640 + k.val, by omega⟩
    · exact congrArg _ (by show 1536 + (640 + k.val) = _; omega)
  case piece1 =>
    obtain ⟨k, p', rfl⟩ : ∃ (k : Fin 128) (p' : Fin 512), x = (ix3 (0 : Fin 1) k p' : S1x128x512.Idx) :=
      ⟨⟨(x 1).val, by idx_bounds x; omega⟩, ⟨(x 2).val, by idx_bounds x; omega⟩, by blk_ext⟩
    obtain rfl : p = p' := Fin.ext h2
    have hj : j.val = k.val := h1
    rw [if_pos (by omega)]
    refine (win0_blk (A0 m c) (A1 m c) (A2 m c) (A3 m c) (A4 m c) (batOf t) (posOf t) _ (normed m c t) _ _ _ (tCT_at m c t) (tLT_at m c t) (tRT_at m c t) _
      (fun k' => ⟨1536 + (512 + k'.val), by omega⟩) (1536 + (512 + k.val / 64 * 64)) p k ?_ fun x k' => ?_).trans ?_
    · intro k' hk'
      dsimp only
      omega
    · exact ld_wt m c t x ⟨512 + k'.val, by omega⟩
    · refine rot_congr _ _ _ _ _ (fun d => ?_) ?_
      · exact congrArg _ (by omega)
      · omega
end Cert.Inproj
-- ==== Proof.Inproj.Claims.lean ====
module

public import proofs.«01_k».proof.Defs
public import proofs.«01_k».proof.Proof.Inproj.Value
public import proofs.«01_k».proof.Proof.Inproj.Value2
public import proofs.«01_k».proof.Proof.Gen.Reference2Ideal.Run
public import Idealize.ShloMosaic.Lib.Quiescent
public import Idealize.ShloMosaic.Adequacy
public import Idealize.ShloMosaic.Init

@[expose] public section

noncomputable section

/-! The two claims about the input projections: their reference's run, and that the kernel's nine results are the
reference's. -/

namespace Cert.Inproj

open Idealize.ShloMosaic Idealize.ShloMosaic.TcCoe Idealize.SL.Sem

theorem reference_frame : Cert.quiescent_Reference2Ideal := fun m ρ _ =>
  (θ_run Cert.Reference2Ideal.defs _ _).mono
    (fun r h => ⟨fun c => (h c).2.2.2.2.2.2.2.2.2, Idealize.ShloMosaic.sem_eq_zero_of_no_sems (by decide) r.2⟩)
    (Cert.Reference2Ideal.Value.run (F := Ideal) m ρ)

set_option maxHeartbeats 2000000 in
theorem value_claim : Cert.algebraic_Kernel2Ideal_Reference2Ideal := by
  intro m ρ m' ρ' _ hagree
  refine ⟨_, _, _, _, _, _, _, _, _, Cert.Kernel2Ideal.Value.run_blocks m ρ, ?_⟩
  refine (θ_run Cert.Reference2Ideal.defs _ _).mono (fun _ h c => ?_)
    (Cert.Reference2Ideal.Value.run (F := Ideal) m' ρ')
  obtain ⟨g0, g1, g2, g3, g4⟩ := hagree c
  have h0 : StableHlo.launchContents m' c (Proc.devRef .tc Cert.Reference2Ideal.main_arg0) = A0 m c := g0
  have h1 : StableHlo.launchContents m' c (Proc.devRef .tc Cert.Reference2Ideal.main_arg1) = A1 m c := g1
  have h2 : StableHlo.launchContents m' c (Proc.devRef .tc Cert.Reference2Ideal.main_arg2) = A2 m c := g2
  have h3 : StableHlo.launchContents m' c (Proc.devRef .tc Cert.Reference2Ideal.main_arg3) = A3 m c := g3
  have h4 : StableHlo.launchContents m' c (Proc.devRef .tc Cert.Reference2Ideal.main_arg4) = A4 m c := g4
  obtain ⟨r0, r1, r2, r3, r4, r5, r6, r7, r8, rest⟩ := h c
  refine ⟨r0.trans ?_, r1.trans ?_, r2.trans ?_, r3.trans ?_, r4.trans ?_, r5.trans ?_, r6.trans ?_, r7.trans ?_,
    r8.trans ?_, rest⟩
  · rw [Cert.Reference2Ideal.Read.val_main_v160_eq, h0, h1, h2, h3, h4]
    exact (final_u m c).symm
  · rw [Cert.Reference2Ideal.Read.val_main_v162_eq, h0, h1, h2, h3, h4]
    exact (final_zs5 m c).symm
  · rw [Cert.Reference2Ideal.Read.val_main_v166_eq, h0, h1, h2, h3, h4]
    exact (final_q m c).symm
  · rw [Cert.Reference2Ideal.Read.val_main_v168_eq, h0, h1, h2, h3, h4]
    exact (final_kv m c).symm
  · rw [Cert.Reference2Ideal.Read.val_main_v170_eq, h0, h1, h2, h3, h4]
    exact (final_win m c).symm
  · rw [Cert.Reference2Ideal.Read.val_main_v172_eq, h0, h1, h2, h3, h4]
    exact (final_cmp m c).symm
  · rw [Cert.Reference2Ideal.Read.val_main_v176_eq, h0, h1, h2, h3, h4]
    exact (final_znsa m c).symm
  · rw [Cert.Reference2Ideal.Read.val_main_v178_eq, h0, h1, h2, h3, h4]
    exact (final_merge m c).symm
  · rw [Cert.Reference2Ideal.Read.val_main_v180_eq, h0, h1, h2, h3, h4]
    exact (final_gate m c).symm

end Cert.Inproj
end
-- ==== Proof.Post.Value.lean ====
module

public import proofs.«01_k».proof.Proof.Post.Stages
public import proofs.«01_k».proof.Proof.Gen.Kernel3Ideal.Value
public import Idealize.ShloMosaic.Lib.Pipeline.ValueKit
public import Idealize.ShloMosaic.Lib.Routing.Ops

@[expose] public section

set_option maxRecDepth 16384

noncomputable section

/-! What the output stage's call leaves in its result: the reference's array. -/

namespace Cert.Post

open Idealize.ShloMosaic Idealize.ShloMosaic.TcCoe Idealize.SL.Sem
open Idealize.ShloMosaic.Pipeline (Dat)
open Cert.Kernel3Ideal Cert.Kernel3Ideal.Gen
open Cert.Reference3Ideal.Read

/-- The table of the weights' rows, in closed form. -/
theorem lit_eq : ∀ k : Fin 512, lit0 k = BitVec.ofNat 32 (lane k).val := by decide +kernel

variable (m : (ℓ : Loc nD τ sig) → Buf (Elt Ideal) ℓ)

/-- The rows of the weights the kernel is given, in the order of its lanes. -/
theorem rows_at (c : Dev nD) (k : Fin 512) (j : Fin 1024) :
    V m c main_v7 (ix2 k j) = m ((c : Thread nD τ).loc main_arg12) (ix2 (lane k) j) := by
  entry_read
  refine (Routing.gather_row gather_S512x1024_S512x1_S512x1024_1_0_n_n_0_1_11024 rfl rfl rfl rfl rfl _ _ k j (lane k) ?_ (by decide)).trans ?_
  · pointwise
    exact (congrArg lit0 (Fin.ext (Shape.rowMajor_val_one _))).trans (lit_eq k)
  · rfl

theorem idx : ∀ t : Fin cfg0.N, win0_0.index t = ![t.val, 0] ∧ win0_1.index t = ![t.val / 4, 0, 0] ∧ win0_2.index t = ![0, t.val, 0]
    ∧ win0_3.index t = ![0, t.val, 0] ∧ win0_4.index t = ![t.val, 0] ∧ win0_5.index t = ![t.val, 0] ∧ win0_6.index t = ![t.val, 0]
    ∧ win0_7.index t = ![t.val, 0] ∧ win0_8.index t = ![0, 0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val, 0] :=
  (by decide +kernel : ∀ t : Fin grid0.N, _)

/-- The row of the array that row `p` of point `t`'s block is. -/
def rowOf (t : Fin cfg0.N) (p : Fin 512) : Fin 16384 :=
  ⟨t.val * 512 + p.val, by have h : t.val < 32 := t.isLt; omega⟩

theorem final (c : Dev nD) : (dats m 0 c).arrAt 15 (cfgs 0).N
    = val_main_v74 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13))
      (m ((c : Thread nD τ).loc main_arg14)) := by
  refine (dats m 0 c).arrAt_eq_of_covers 15 _ (by decide +kernel) fun t _ y => ?_
  blk_simp
  rw [after0_15]
  frame_out
  have hN : t.val < 32 := t.isLt
  have e : (((View.whole main_v9).slice (win0_15.rect t)).emb y)
      = (ix2 (rowOf t ⟨(y 0).val, by idx_bounds y; omega⟩) ⟨(y 1).val, by idx_bounds y; omega⟩ : S16384x1024.Idx) := by
    unfold rowOf
    blk_ext [idx t]
  have e2 : y = (ix2 ⟨(y 0).val, by idx_bounds y; omega⟩ ⟨(y 1).val, by idx_bounds y; omega⟩ : S512x1024.Idx) := by
    blk_ext
  rw [e]
  refine (congrArg _ e2).trans ?_
  refine out_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (rowOf t) ⟨t.val / 4, by omega⟩ (fun p => by show (t.val * 512 + p.val) / 2048 = t.val / 4; omega) _ _ _ _ _ _ _ _ _ ?_ ?_ ?_ ?_ ?_ ?_ ?_ ?_ ?_ _ _
  · refine gated_at _ _ _ _ _ _ _ (rowOf t) _ _ _ _ _ _ _ _ _ _ ?_ ?_ ?_ ?_ ?_ ?_ ?_ ?_ ?_ ?_
    · intro p q; unfold rowOf; pointwise [k0_pay2]; blk_point [iblk, V, idx t]
    · intro p q; unfold rowOf; pointwise [k0_pay3]; blk_point [iblk, V, idx t]
    · intro p q; unfold rowOf; pointwise [k0_pay4]; blk_point [iblk, V, idx t]
    · intro p q; unfold rowOf; pointwise [k0_pay5]; blk_point [iblk, V, idx t]
    · intro q; blk_point [iblk, V, idx t]
    · intro p q; unfold rowOf; blk_point [iblk, V, idx t]
    · intro p q; blk_point [iblk, V, idx t]
    · intro p; blk_point [iblk, V, idx t]
    · intro p q; unfold rowOf; blk_point [iblk, V, idx t]
    · intro p q; blk_point [iblk, V, idx t]
  · intro p q; unfold rowOf; blk_point [iblk, V, idx t]
  · intro p q; unfold rowOf; blk_point [iblk, V, idx t]
  · intro p q
    refine Eq.trans ?_ (rows_at m c p q)
    blk_point [iblk, idx t]
  · intro p q; unfold rowOf; blk_point [iblk, V, idx t]
  · intro p q; unfold rowOf; blk_point [iblk, V, idx t]
  · intro q; blk_point [iblk, V, idx t]
  · intro p q; blk_point [iblk, V, idx t]
  · intro q; blk_point [iblk, V, idx t]

end Cert.Post
end
-- ==== Proof.Post.Claims.lean ====
module

public import proofs.«01_k».proof.Defs
public import proofs.«01_k».proof.Proof.Post.Value
public import proofs.«01_k».proof.Proof.Gen.Reference3Ideal.Run
public import Idealize.ShloMosaic.Lib.Quiescent
public import Idealize.ShloMosaic.Adequacy
public import Idealize.ShloMosaic.Init

@[expose] public section

noncomputable section

/-! The two claims about the output stage: its reference's run, and that the kernel's run ends with the reference's
result. -/

namespace Cert.Post

open Idealize.ShloMosaic Idealize.ShloMosaic.TcCoe Idealize.SL.Sem

theorem reference_frame : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem value_claim : Cert.algebraic_Kernel3Ideal_Reference3Ideal := by
  intro m ρ m' ρ' _ hagree
  refine ⟨_, Cert.Kernel3Ideal.Value.run_blocks m ρ, ?_⟩
  refine (θ_run Cert.Reference3Ideal.defs _ _).mono (fun _ h c => ⟨(h c).1.trans ?_, (h c).2⟩)
    (Cert.Reference3Ideal.Value.run (F := Ideal) m' ρ')
  obtain ⟨h0, h1, h2, h3, h4, h5, h6, h7, h8, h9, h10, h11, h12, h13, h14⟩ := hagree c
  rw [Cert.Reference3Ideal.Read.val_main_v74_eq, h0, h1, h2, h3, h4, h5, h6, h7, h8, h9, h10, h11, h12, h13, h14]
  exact (final m c).symm

end Cert.Post
end
-- ==== Proof.InprojS.Entry.lean ====
module

public import proofs.«01_k».proof.Proof.Gen.Kernel5Ideal.Frame
public import proofs.«01_k».proof.Proof.Inproj.Value2
public import Idealize.ShloMosaic.Lib.Pointwise
public import Idealize.ShloMosaic.Lib.StableHlo.RunRead
public import Idealize.ShloMosaic.Lib.Routing.Ops
public import Idealize.ShloMosaic.Lib.Pipeline.ValueKit

@[expose] public section

set_option maxRecDepth 16384

noncomputable section

/-! The arrays the host hands to the sample group's input projection, read at an index: the weight with its columns
    reordered, the rotation tables at the positions after the past, and the modulation's rows repeated. -/

namespace Cert.InprojS

open Idealize.ShloMosaic Idealize.ShloMosaic.TcCoe Idealize.SL.Sem
open Cert.Post (lane)
open Cert.Inproj (gather_col ang)

section
open Cert.Kernel5Ideal Cert.Kernel5Ideal.Gen
variable (m : (ℓ : Loc nD τ sig) → Buf (Elt Ideal) ℓ)

theorem lit_lane : ∀ k : Fin 512, lit0 k = BitVec.ofNat 32 (lane k).val := by decide +kernel

theorem cos_tab (c : Dev nD) (k j : Fin 128) :
    (V m c main_v48 (ix2 k j) : EReal) =
      if j.val % 64 < 8 then Ideal.cos (ang (8192 + k.val % 4) (j.val % 64))
      else if j.val % 64 - 8 < 8 then Ideal.cos (ang (8192 + k.val % 4) (j.val % 64 - 8)) else 1 := by
  unfold V
  after_reads_simp
  pointwise
  after_reads_simp
  pointwise
  simp only [ang, BitVec.ofNat_add]
  rfl

theorem sinl_tab (c : Dev nD) (k j : Fin 128) :
    (V m c main_v51 (ix2 k j) : EReal) =
      if j.val % 64 < 8 then -Ideal.sin (ang (8192 + k.val % 4) (j.val % 64))
      else 0 := by
  unfold V
  after_reads_simp
  pointwise
  after_reads_simp
  pointwise
  simp only [ang, BitVec.ofNat_add]
  by_cases h : j.val % 64 < 8
  · rw [dif_pos h, if_pos h]; rfl
  · rw [dif_neg h, if_neg h, dite_eq_ite, ite_self]

theorem sinr_tab (c : Dev nD) (k j : Fin 128) :
    (V m c main_v54 (ix2 k j) : EReal) =
      if j.val % 64 < 8 then 0
      else if j.val % 64 - 8 < 8 then Ideal.sin (ang (8192 + k.val % 4) (j.val % 64 - 8)) else 0 := by
  unfold V
  after_reads_simp
  pointwise
  after_reads_simp
  pointwise
  simp only [ang, BitVec.ofNat_add]
  rfl

theorem shift_at (c : Dev nD) (p : Fin 128) (x : Fin 1024) :
    (V m c main_v56 (ix2 p x) : EReal) = m ((c : Thread nD τ).loc main_arg1) (ix2 (⟨p.val / 4, by omega⟩ : Fin 32) x) := by
  unfold V
  after_reads_simp
  pointwise

theorem scale_at (c : Dev nD) (p : Fin 128) (x : Fin 1024) :
    (V m c main_v58 (ix2 p x) : EReal) = m ((c : Thread nD τ).loc main_arg2) (ix2 (⟨p.val / 4, by omega⟩ : Fin 32) x) := by
  unfold V
  after_reads_simp
  pointwise

theorem weight_at (c : Dev nD) (x : Fin 1024) :
    (V m c main_v59 (ix2 (0 : Fin 1) x) : EReal) = m ((c : Thread nD τ).loc main_arg3) (ix1 x) := by
  unfold V
  after_reads_simp
  pointwise

theorem wp_at (c : Dev nD) (k : Fin 1024) (j : Fin 4992) :
    (V m c main_v18 (ix2 k j) : EReal) =
      if h0 : j.val < 1024 then m ((c : Thread nD τ).loc main_arg4) (ix2 k ⟨j.val, by omega⟩)
      else if h1 : j.val - 1024 < 512 then
        m ((c : Thread nD τ).loc main_arg4) (ix2 k ⟨1024 + (lane ⟨j.val - 1024, h1⟩).val, by omega⟩)
      else if h2 : j.val - 1024 - 512 < 768 then
        m ((c : Thread nD τ).loc main_arg4) (ix2 k ⟨1536 + (j.val - 1024 - 512), by omega⟩)
      else if h3 : j.val - 1024 - 512 - 768 < 512 then
        m ((c : Thread nD τ).loc main_arg4) (ix2 k ⟨2328 + (lane ⟨j.val - 1024 - 512 - 768, h3⟩).val, by omega⟩)
      else if h4 : j.val - 1024 - 512 - 768 - 512 < 2048 then
        m ((c : Thread nD τ).loc main_arg4) (ix2 k ⟨2840 + (j.val - 1024 - 512 - 768 - 512), by omega⟩)
      else if h5 : j.val - 1024 - 512 - 768 - 512 - 2048 < 24 then
        m ((c : Thread nD τ).loc main_arg4) (ix2 k ⟨2304 + (j.val - 1024 - 512 - 768 - 512 - 2048), by omega⟩)
      else FloatOps.sitofp (F := Ideal) FTy.f32 (0#32) := by
  unfold V
  after_reads_simp
  pointwise
  after_reads_simp
  pointwise
  by_cases h0 : j.val < 1024
  · rw [dif_pos h0, dif_pos h0]
  rw [dif_neg h0, dif_neg h0]
  by_cases h1 : j.val - 1024 < 512
  · rw [dif_pos h1, dif_pos h1]
    refine (gather_col gather_S1024x512_S512x1_S1024x512_0_1_n_n_1_1_10241 rfl rfl rfl rfl rfl _ _ k ⟨j.val - 1024, h1⟩
      (lane ⟨j.val - 1024, h1⟩) ?_ (by decide)).trans ?_
    · pointwise
      exact (congrArg lit0 (Fin.ext (Shape.rowMajor_val_one _))).trans (lit_lane _)
    · pointwise
  rw [dif_neg h1, dif_neg h1]
  by_cases h2 : j.val - 1024 - 512 < 768
  · rw [dif_pos h2, dif_pos h2]
  rw [dif_neg h2, dif_neg h2]
  by_cases h3 : j.val - 1024 - 512 - 768 < 512
  · rw [dif_pos h3, dif_pos h3]
    refine (gather_col gather_S1024x512_S512x1_S1024x512_0_1_n_n_1_1_10241 rfl rfl rfl rfl rfl _ _ k
      ⟨j.val - 1024 - 512 - 768, h3⟩ (lane ⟨j.val - 1024 - 512 - 768, h3⟩) ?_ (by decide)).trans ?_
    · pointwise
      exact (congrArg lit0 (Fin.ext (Shape.rowMajor_val_one _))).trans (lit_lane _)
    · pointwise
  rw [dif_neg h3, dif_neg h3]
  by_cases h4 : j.val - 1024 - 512 - 768 - 512 < 2048
  · rw [dif_pos h4, dif_pos h4]
  rw [dif_neg h4, dif_neg h4]
  show pad S1024x128 ![0, 0] ![0, 104] ![0, 0] (extractStridedSlice S1024x24 ![0, 2304] (m (c, Proc.tc.devRef main_arg4))
      slices_S1024x4888_S1024x24_0_2304) (sitofp (F := Ideal) FTy.f32 (constantI S_ 32 0#32)) pads_S1024x24_S1024x128_000_01040 h_S_
      (ix2 k ⟨j.val - 1024 - 512 - 768 - 512 - 2048, by omega⟩) = _
  pointwise
end
end Cert.InprojS
-- ==== Proof.InprojS.Ref.lean ====
module

public import proofs.«01_k».proof.Proof.Gen.Reference5Ideal.Read
public import proofs.«01_k».proof.Proof.Inproj.Value2
public import Idealize.ShloMosaic.Lib.Pointwise

@[expose] public section

set_option maxRecDepth 16384

noncomputable section

/-! The reference's results for the sample group at an index, each in terms of the projected columns `prj` and the
    rotation `rot` at the positions after the past. -/

namespace Cert.InprojS

open Idealize.ShloMosaic Idealize.ShloMosaic.TcCoe Idealize.SL.Sem
open Cert.Reference5Ideal Cert.Reference5Ideal.Gen Cert.Reference5Ideal.Read
open Cert.Post (lane)
open Cert.Inproj (ang rot)

variable (a0 : FVec Ideal S128x1024 .f32) (a1 a2 : FVec Ideal S32x1024 .f32) (a3 : FVec Ideal S1024 .f32)
  (a4 : FVec Ideal S1024x4888 .f32)

/-- The position of step `s`, after the past. -/
def pst (s : Fin 4) : ℕ := 8192 + s.val

/-- Column `n` of the projected row of batch `b`, step `s`. -/
def prj (b : Fin 32) (s : Fin 4) (n : ℕ) : EReal :=
  if h : n < 4888 then val_main_v25 (F := Ideal) a0 a1 a2 a3 a4 (ix3 b s ⟨n, h⟩) else 0

theorem prj_eq (b : Fin 32) (s : Fin 4) (n : ℕ) (h : n < 4888) :
    val_main_v25 (F := Ideal) a0 a1 a2 a3 a4 (ix3 b s ⟨n, h⟩) = prj a0 a1 a2 a3 a4 b s n := by
  unfold prj; rw [dif_pos h]

theorem prj_sum (b : Fin 32) (s : Fin 4) (n : Fin 4888) :
    prj a0 a1 a2 a3 a4 b s n.val = ∑ x : Fin 1024, (val_main_v24 (F := Ideal) a0 a1 a2 a3 (ix3 b s x) : EReal) * a4 (ix2 x n) := by
  rw [← prj_eq a0 a1 a2 a3 a4 b s n.val n.isLt]
  pointwise [val_main_v25]

theorem ang_q (t : Fin 4) (j : Fin 8) : (val_main_v45 (F := Ideal) (ix2 t j) : EReal) = ang (pst t) j.val := by
  pointwise [val_main_v34, val_main_v35, val_main_v36, val_main_v37, val_main_v38, val_main_v39, val_main_v40, val_main_v41, val_main_v42, val_main_v43, val_main_v44, val_main_v45, val_main_v46, val_main_v0, val_main_v1, val_main_v2, val_main_c, val_main_cst_3, val_main_cst_4]
  simp only [ang, pst, BitVec.ofNat_add]
  rfl

theorem cos_q (t : Fin 4) (j : Fin 8) : (val_main_v46 (F := Ideal) (ix2 t j) : EReal) = Ideal.cos (ang (pst t) j.val) := by
  rw [← ang_q]
  pointwise [val_main_v46]

theorem ang_sel (t : Fin 4) (j : Fin 8) : (val_main_v85 (F := Ideal) (ix2 t j) : EReal) = ang (pst t) j.val := by
  pointwise [val_main_v74, val_main_v75, val_main_v76, val_main_v77, val_main_v78, val_main_v79, val_main_v80, val_main_v81, val_main_v82, val_main_v83, val_main_v84, val_main_v85, val_main_v86, val_main_v0, val_main_v1, val_main_v2, val_main_c, val_main_cst_6, val_main_cst_7]
  simp only [ang, pst, BitVec.ofNat_add]
  rfl

theorem cos_sel (t : Fin 4) (j : Fin 8) : (val_main_v86 (F := Ideal) (ix2 t j) : EReal) = Ideal.cos (ang (pst t) j.val) := by
  rw [← ang_sel]
  pointwise [val_main_v86]

theorem ang_win (t : Fin 4) (j : Fin 8) : (val_main_v122 (F := Ideal) (ix2 t j) : EReal) = ang (pst t) j.val := by
  pointwise [val_main_v111, val_main_v112, val_main_v113, val_main_v114, val_main_v115, val_main_v116, val_main_v117, val_main_v118, val_main_v119, val_main_v120, val_main_v121, val_main_v122, val_main_v123, val_main_v0, val_main_v1, val_main_v2, val_main_c, val_main_cst_8, val_main_cst_9]
  simp only [ang, pst, BitVec.ofNat_add]
  rfl

theorem cos_win (t : Fin 4) (j : Fin 8) : (val_main_v123 (F := Ideal) (ix2 t j) : EReal) = Ideal.cos (ang (pst t) j.val) := by
  rw [← ang_win]
  pointwise [val_main_v123]

theorem rot_q (b : Fin 32) (s : Fin 4) (h : Fin 8) (j : Fin 64) :
    (val_main_v68 (F := Ideal) a0 a1 a2 a3 a4 (ix4 b s h j) : EReal) = rot (fun d => prj a0 a1 a2 a3 a4 b s (1024 + (h.val * 64 + d))) (pst s) j.val := by
  pointwise [val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v33, val_main_v28]
  simp only [ang_q, cos_q, prj_eq]
  rfl

theorem rot_sel (b : Fin 32) (s : Fin 4) (h : Fin 2) (j : Fin 64) :
    (val_main_v108 (F := Ideal) a0 a1 a2 a3 a4 (ix4 b s h j) : EReal) = rot (fun d => prj a0 a1 a2 a3 a4 b s (1536 + (256 + h.val * 64 + d))) (pst s) j.val := by
  pointwise [val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v73, val_main_v72, val_main_v71, val_main_v29]
  simp only [ang_sel, cos_sel, prj_eq]
  rfl

theorem rot_win (b : Fin 32) (s : Fin 4) (h : Fin 2) (j : Fin 64) :
    (val_main_v145 (F := Ideal) a0 a1 a2 a3 a4 (ix4 b s h j) : EReal) = rot (fun d => prj a0 a1 a2 a3 a4 b s (1536 + (512 + h.val * 64 + d))) (pst s) j.val := by
  pointwise [val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v110, val_main_v109, val_main_v71, val_main_v29]
  simp only [ang_win, cos_win, prj_eq]
  rfl

theorem u_at (r : Fin 128) (j : Fin 512) :
    (val_main_v162 (F := Ideal) a0 a1 a2 a3 a4 (ix2 r j) : EReal) = prj a0 a1 a2 a3 a4 ⟨r.val / 4, by omega⟩ ⟨r.val % 4, by omega⟩ (j.val) := by
  pointwise [val_main_v162, val_main_v26]
  simp only [prj_eq]

theorem zs5_at (r : Fin 128) (j : Fin 512) :
    (val_main_v164 (F := Ideal) a0 a1 a2 a3 a4 (ix2 r j) : EReal) = prj a0 a1 a2 a3 a4 ⟨r.val / 4, by omega⟩ ⟨r.val % 4, by omega⟩ (512 + j.val) := by
  pointwise [val_main_v164, val_main_v163, val_main_v27]
  simp only [prj_eq]

theorem znsa_at (r : Fin 128) (j : Fin 512) :
    (val_main_v174 (F := Ideal) a0 a1 a2 a3 a4 (ix2 r j) : EReal) = prj a0 a1 a2 a3 a4 ⟨r.val / 4, by omega⟩ ⟨r.val % 4, by omega⟩ (2328 + (lane j).val) := by
  pointwise [val_main_v174, val_main_v173, val_main_v172, val_main_v171, val_main_v31]
  simp only [prj_eq]
  exact congrArg _ (by unfold lane; dsimp only)

theorem merge_at (r : Fin 128) (j : Fin 2048) :
    (val_main_v176 (F := Ideal) a0 a1 a2 a3 a4 (ix2 r j) : EReal) = prj a0 a1 a2 a3 a4 ⟨r.val / 4, by omega⟩ ⟨r.val % 4, by omega⟩ (2840 + j.val) := by
  pointwise [val_main_v176, val_main_v175, val_main_v32]
  simp only [prj_eq]

theorem gate_at (r j : Fin 128) :
    (val_main_v178 (F := Ideal) a0 a1 a2 a3 a4 (ix2 r j) : EReal)
      = if j.val < 24 then prj a0 a1 a2 a3 a4 ⟨r.val / 4, by omega⟩ ⟨r.val % 4, by omega⟩ (2304 + j.val) else FloatOps.sitofp (F := Ideal) FTy.f32 (0#32) := by
  pointwise [val_main_v178, val_main_v177, val_main_v30, val_main_call0_v0, val_main_c_10]
  simp only [prj_eq]
  rfl

theorem q_at (r : Fin 128) (j : Fin 512) :
    (val_main_v168 (F := Ideal) a0 a1 a2 a3 a4 (ix2 r j) : EReal)
      = rot (fun d => prj a0 a1 a2 a3 a4 ⟨r.val / 4, by omega⟩ ⟨r.val % 4, by omega⟩ (1024 + ((j.val / 64 % 2 * 4 + j.val / 128) * 64 + d))) (pst ⟨r.val % 4, by omega⟩) (j.val % 64)
        * Ideal.ofBits FTy.f32 1040187392#32 := by
  pointwise [val_main_v168, val_main_v167, val_main_v166, val_main_v165, val_main_v70, val_main_v69, val_main_cst_5]
  simp only [rot_q]

/-- The four groups of lanes of the first cache, in turn. -/
theorem kv_split (b : Fin 32) (s : Fin 4) (g : Fin 4) (h : Fin 2) (d : Fin 64) :
    (val_main_v156 (F := Ideal) a0 a1 a2 a3 a4 (ix5 b s g h d) : EReal)
      = if g.val = 2 then rot (fun d => prj a0 a1 a2 a3 a4 b s (1536 + (256 + h.val * 64 + d))) (pst s) d.val
        else prj a0 a1 a2 a3 a4 b s (1536 + (g.val * 128 + h.val * 64 + d.val)) := by
  pointwise [val_main_v146, val_main_v147, val_main_v148, val_main_v149, val_main_v150, val_main_v151, val_main_v152, val_main_v153, val_main_v154, val_main_v155, val_main_v156, val_main_v71, val_main_v29]
  simp only [rot_sel, prj_eq]
  generalize pst s = t
  by_cases h0 : g.val < 1
  · rw [dif_pos h0, if_neg (by omega)]; exact congrArg _ (by omega)
  rw [dif_neg h0]
  by_cases h1 : g.val - 1 < 1
  · rw [dif_pos h1, if_neg (by omega)]; exact congrArg _ (by omega)
  rw [dif_neg h1]
  by_cases h2 : g.val - 1 - 1 < 1
  · rw [dif_pos h2, if_pos (by omega)]
  rw [dif_neg h2, if_neg (by omega)]; exact congrArg _ (by omega)

theorem kv_at (r : Fin 128) (j : Fin 512) :
    (val_main_v169 (F := Ideal) a0 a1 a2 a3 a4 (ix2 r j) : EReal)
      = if j.val / 128 = 2 then rot (fun d => prj a0 a1 a2 a3 a4 ⟨r.val / 4, by omega⟩ ⟨r.val % 4, by omega⟩ (1536 + (256 + j.val / 64 % 2 * 64 + d))) (pst ⟨r.val % 4, by omega⟩) (j.val % 64)
        else prj a0 a1 a2 a3 a4 ⟨r.val / 4, by omega⟩ ⟨r.val % 4, by omega⟩ (1536 + (j.val / 128 * 128 + j.val / 64 % 2 * 64 + j.val % 64)) := by
  pointwise [val_main_v169]
  simp only [kv_split]

/-- The two groups of lanes of the second cache, in turn. -/
theorem win_split (b : Fin 32) (s : Fin 4) (g : Fin 2) (h : Fin 2) (d : Fin 64) :
    (val_main_v161 (F := Ideal) a0 a1 a2 a3 a4 (ix5 b s g h d) : EReal)
      = if g.val = 0 then rot (fun d => prj a0 a1 a2 a3 a4 b s (1536 + (512 + h.val * 64 + d))) (pst s) d.val
        else prj a0 a1 a2 a3 a4 b s (1536 + (512 + g.val * 128 + h.val * 64 + d.val)) := by
  pointwise [val_main_v157, val_main_v158, val_main_v159, val_main_v160, val_main_v161, val_main_v71, val_main_v29]
  simp only [rot_win, prj_eq]
  generalize pst s = t
  by_cases h0 : g.val < 1
  · rw [dif_pos h0, if_pos (by omega)]
  rw [dif_neg h0, if_neg (by omega)]; exact congrArg _ (by omega)

theorem win_at (r : Fin 128) (j : Fin 256) :
    (val_main_v170 (F := Ideal) a0 a1 a2 a3 a4 (ix2 r j) : EReal)
      = if j.val / 128 = 0 then rot (fun d => prj a0 a1 a2 a3 a4 ⟨r.val / 4, by omega⟩ ⟨r.val % 4, by omega⟩ (1536 + (512 + j.val / 64 % 2 * 64 + d))) (pst ⟨r.val % 4, by omega⟩) (j.val % 64)
        else prj a0 a1 a2 a3 a4 ⟨r.val / 4, by omega⟩ ⟨r.val % 4, by omega⟩ (1536 + (512 + j.val / 128 * 128 + j.val / 64 % 2 * 64 + j.val % 64)) := by
  pointwise [val_main_v170]
  simp only [win_split]

end Cert.InprojS
-- ==== Proof.InprojS.Kern.lean ====
module

public import proofs.«01_k».proof.Proof.InprojS.Ref
public import proofs.«01_k».proof.Proof.Gen.Kernel5Ideal.Value
public import Idealize.ShloMosaic.Lib.Pointwise

@[expose] public section

set_option maxRecDepth 16384

noncomputable section

/-! The sample group's stores at an index, from the normalized rows `H`, a slice of the weights and the rotation tables,
    each given by what it holds at an index. -/

namespace Cert.InprojS

open Idealize.ShloMosaic Idealize.ShloMosaic.TcCoe Idealize.SL.Sem
open Cert.Kernel5Ideal Cert.Kernel5Ideal.Gen
open Cert.Reference5Ideal.Read
open Cert.Inproj (rot rot_rolled tabC tabL tabR)

/-- The batch and the step that a row is. -/
def bat (p : Fin 128) : Fin 32 := ⟨p.val / 4, by omega⟩
@[inherit_doc bat] def stp (p : Fin 128) : Fin 4 := ⟨p.val % 4, by omega⟩

variable (a0 : FVec Ideal S128x1024 .f32) (a1 a2 : FVec Ideal S32x1024 .f32) (a3 : FVec Ideal S1024 .f32)
  (a4 : FVec Ideal S1024x4888 .f32)

/-- The normalized, modulated rows. -/
theorem rows_norm (v0 : Vec Ideal S128x1024 .f32) (v11 : Vec Ideal S1x1024 .f32) (v15 v20 : Vec Ideal S128x1024 .f32)
    (h0 : ∀ p x, v0 (ix2 p x) = a0 (ix2 p x)) (h11 : ∀ x, v11 (ix2 (0 : Fin 1) x) = a3 (ix1 x))
    (h15 : ∀ p x, v15 (ix2 p x) = a2 (ix2 (bat p) x)) (h20 : ∀ p x, v20 (ix2 p x) = a1 (ix2 (bat p) x)) (p : Fin 128) (x : Fin 1024) :
    (k0_pay3 (F := Ideal) v0 v11 v15 v20 (ix2 p x) : EReal) = val_main_v24 (F := Ideal) a0 a1 a2 a3 (ix3 (bat p) (stp p) x) := by
  have hp : ∀ x, v0 (ix2 p x) = a0 (ix2 ⟨(bat p).val * 4 + (stp p).val, by omega⟩ x) := fun x =>
    (h0 p x).trans (congrArg (fun q => a0 (ix2 q x)) (Fin.ext (by unfold bat stp; dsimp only; omega)))
  pointwise [k0_pay3, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2]
  simp only [hp, h11, h15, h20]

variable (H : FVec Ideal S128x1024 .bf16)
  (hH : ∀ p x, (H (ix2 p x) : EReal) = val_main_v24 (F := Ideal) a0 a1 a2 a3 (ix3 (bat p) (stp p) x))
include hH

/-- A row of the block against a column of the weights. -/
theorem dot_col (w : Fin 1024 → EReal) (n : Fin 4888) (hw : ∀ x, w x = a4 (ix2 x n)) (p : Fin 128) :
    (∑ x : Fin 1024, (H (ix2 p x) : EReal) * w x) = prj a0 a1 a2 a3 a4 (bat p) (stp p) n.val := by
  rw [prj_sum]
  exact Finset.sum_congr rfl fun x _ => by rw [hH, hw]

/-- A pair of heads against its columns, rotated by the tables. -/
theorem rot_col (C L R : FVec Ideal S128x128 .f32) (hC : ∀ p k, (C (ix2 p k) : EReal) = tabC (pst (stp p)) k.val)
    (hL : ∀ p k, (L (ix2 p k) : EReal) = tabL (pst (stp p)) k.val) (hR : ∀ p k, (R (ix2 p k) : EReal) = tabR (pst (stp p)) k.val)
    (w : Vec Ideal S1024x128 .bf16) (n : Fin 128 → Fin 4888) (base : ℕ) (p k : Fin 128)
    (hn : ∀ k' : Fin 128, k'.val / 64 = k.val / 64 → (n k').val = base + k'.val % 64)
    (hw : ∀ x (k' : Fin 128), (w (ix2 x k') : EReal) = a4 (ix2 x (n k'))) :
    (∑ x : Fin 1024, (H (ix2 p x) : EReal) * w (ix2 x k)) * C (ix2 p k)
      + (∑ x : Fin 1024, (H (ix2 p x) : EReal) * w (ix2 x (⟨(k.val + 128 - 120) % 128, by omega⟩ : Fin 128))) * L (ix2 p k)
      + (∑ x : Fin 1024, (H (ix2 p x) : EReal) * w (ix2 x (⟨(k.val + 128 - 8) % 128, by omega⟩ : Fin 128))) * R (ix2 p k)
      = rot (fun d => prj a0 a1 a2 a3 a4 (bat p) (stp p) (base + d)) (pst (stp p)) (k.val % 64) := by
  have hg : ∀ k' : Fin 128, (∑ x : Fin 1024, (H (ix2 p x) : EReal) * w (ix2 x k')) = prj a0 a1 a2 a3 a4 (bat p) (stp p) (n k').val :=
    fun k' => dot_col a0 a1 a2 a3 a4 H hH _ (n k') (fun x => hw x k') p
  rw [← rot_rolled (fun d => prj a0 a1 a2 a3 a4 (bat p) (stp p) (base + d)) (pst (stp p)) k (fun k' => prj a0 a1 a2 a3 a4 (bat p) (stp p) (n k').val)
    (fun k' h => congrArg _ (hn k' h)), hg, hg, hg, hC, hL, hR]

theorem zs5_blk (w : Vec Ideal S1024x512 .bf16) (p : Fin 128) (k : Fin 512) (n : Fin 4888) (hw : ∀ x, (w (ix2 x k) : EReal) = a4 (ix2 x n)) :
    (k0_pay8 (F := Ideal) H w (ix2 p k) : EReal) = prj a0 a1 a2 a3 a4 (bat p) (stp p) n.val := by
  rw [← dot_col a0 a1 a2 a3 a4 H hH _ n hw p]; pointwise [k0_pay8]

theorem cmp_blk (w : Vec Ideal S1024x256 .bf16) (p : Fin 128) (k : Fin 256) (n : Fin 4888) (hw : ∀ x, (w (ix2 x k) : EReal) = a4 (ix2 x n)) :
    (k0_pay14 (F := Ideal) H w (ix2 p k) : EReal) = prj a0 a1 a2 a3 a4 (bat p) (stp p) n.val := by
  rw [← dot_col a0 a1 a2 a3 a4 H hH _ n hw p]; pointwise [k0_pay14]

theorem kv3_blk (w : Vec Ideal S1024x128 .bf16) (p : Fin 128) (k : Fin 128) (n : Fin 4888) (hw : ∀ x, (w (ix2 x k) : EReal) = a4 (ix2 x n)) :
    (k0_pay18 (F := Ideal) H w (ix2 p k) : EReal) = prj a0 a1 a2 a3 a4 (bat p) (stp p) n.val := by
  rw [← dot_col a0 a1 a2 a3 a4 H hH _ n hw p]; pointwise [k0_pay18]

theorem win1_blk (w : Vec Ideal S1024x128 .bf16) (p : Fin 128) (k : Fin 128) (n : Fin 4888) (hw : ∀ x, (w (ix2 x k) : EReal) = a4 (ix2 x n)) :
    (k0_pay20 (F := Ideal) H w (ix2 p k) : EReal) = prj a0 a1 a2 a3 a4 (bat p) (stp p) n.val := by
  rw [← dot_col a0 a1 a2 a3 a4 H hH _ n hw p]; pointwise [k0_pay20]

theorem znsa_blk (w : Vec Ideal S1024x512 .bf16) (p : Fin 128) (k : Fin 512) (n : Fin 4888) (hw : ∀ x, (w (ix2 x k) : EReal) = a4 (ix2 x n)) :
    (k0_pay21 (F := Ideal) H w (ix2 p k) : EReal) = prj a0 a1 a2 a3 a4 (bat p) (stp p) n.val := by
  rw [← dot_col a0 a1 a2 a3 a4 H hH _ n hw p]; pointwise [k0_pay21]

theorem merge_blk (w : Vec Ideal S1024x2048 .bf16) (p : Fin 128) (k : Fin 2048) (n : Fin 4888) (hw : ∀ x, (w (ix2 x k) : EReal) = a4 (ix2 x n)) :
    (k0_pay1 (F := Ideal) H w (ix2 p k) : EReal) = prj a0 a1 a2 a3 a4 (bat p) (stp p) n.val := by
  rw [← dot_col a0 a1 a2 a3 a4 H hH _ n hw p]; pointwise [k0_pay1]

theorem gate_blk (w : Vec Ideal S1024x128 .bf16) (p : Fin 128) (k : Fin 128) (n : Fin 4888) (hw : ∀ x, (w (ix2 x k) : EReal) = a4 (ix2 x n)) :
    (k0_pay2 (F := Ideal) H w (ix2 p k) : EReal) = prj a0 a1 a2 a3 a4 (bat p) (stp p) n.val := by
  rw [← dot_col a0 a1 a2 a3 a4 H hH _ n hw p]; pointwise [k0_pay2]

theorem q0_blk (C L R : FVec Ideal S128x128 .f32) (hC : ∀ p k, (C (ix2 p k) : EReal) = tabC (pst (stp p)) k.val)
    (hL : ∀ p k, (L (ix2 p k) : EReal) = tabL (pst (stp p)) k.val) (hR : ∀ p k, (R (ix2 p k) : EReal) = tabR (pst (stp p)) k.val)
    (w : Vec Ideal S1024x128 .bf16) (n : Fin 128 → Fin 4888) (base : ℕ) (p k : Fin 128)
    (hn : ∀ k' : Fin 128, k'.val / 64 = k.val / 64 → (n k').val = base + k'.val % 64)
    (hw : ∀ x (k' : Fin 128), (w (ix2 x k') : EReal) = a4 (ix2 x (n k'))) :
    (k0_pay9 (F := Ideal) H C L R w (ix2 p k) : EReal) = rot (fun d => prj a0 a1 a2 a3 a4 (bat p) (stp p) (base + d)) (pst (stp p)) (k.val % 64) * Ideal.ofBits FTy.f32 1040187392#32 := by
  rw [← rot_col a0 a1 a2 a3 a4 H hH C L R hC hL hR w n base p k hn hw]
  pointwise [k0_pay9]

theorem q1_blk (C L R : FVec Ideal S128x128 .f32) (hC : ∀ p k, (C (ix2 p k) : EReal) = tabC (pst (stp p)) k.val)
    (hL : ∀ p k, (L (ix2 p k) : EReal) = tabL (pst (stp p)) k.val) (hR : ∀ p k, (R (ix2 p k) : EReal) = tabR (pst (stp p)) k.val)
    (w : Vec Ideal S1024x128 .bf16) (n : Fin 128 → Fin 4888) (base : ℕ) (p k : Fin 128)
    (hn : ∀ k' : Fin 128, k'.val / 64 = k.val / 64 → (n k').val = base + k'.val % 64)
    (hw : ∀ x (k' : Fin 128), (w (ix2 x k') : EReal) = a4 (ix2 x (n k'))) :
    (k0_pay10 (F := Ideal) H C L R w (ix2 p k) : EReal) = rot (fun d => prj a0 a1 a2 a3 a4 (bat p) (stp p) (base + d)) (pst (stp p)) (k.val % 64) * Ideal.ofBits FTy.f32 1040187392#32 := by
  rw [← rot_col a0 a1 a2 a3 a4 H hH C L R hC hL hR w n base p k hn hw]
  pointwise [k0_pay10]

theorem q2_blk (C L R : FVec Ideal S128x128 .f32) (hC : ∀ p k, (C (ix2 p k) : EReal) = tabC (pst (stp p)) k.val)
    (hL : ∀ p k, (L (ix2 p k) : EReal) = tabL (pst (stp p)) k.val) (hR : ∀ p k, (R (ix2 p k) : EReal) = tabR (pst (stp p)) k.val)
    (w : Vec Ideal S1024x128 .bf16) (n : Fin 128 → Fin 4888) (base : ℕ) (p k : Fin 128)
    (hn : ∀ k' : Fin 128, k'.val / 64 = k.val / 64 → (n k').val = base + k'.val % 64)
    (hw : ∀ x (k' : Fin 128), (w (ix2 x k') : EReal) = a4 (ix2 x (n k'))) :
    (k0_pay12 (F := Ideal) H C L R (k0_pay11 (F := Ideal) w) (ix2 p k) : EReal) = rot (fun d => prj a0 a1 a2 a3 a4 (bat p) (stp p) (base + d)) (pst (stp p)) (k.val % 64) * Ideal.ofBits FTy.f32 1040187392#32 := by
  rw [← rot_col a0 a1 a2 a3 a4 H hH C L R hC hL hR w n base p k hn hw]
  pointwise [k0_pay12, k0_pay11]

theorem q3_blk (C L R : FVec Ideal S128x128 .f32) (hC : ∀ p k, (C (ix2 p k) : EReal) = tabC (pst (stp p)) k.val)
    (hL : ∀ p k, (L (ix2 p k) : EReal) = tabL (pst (stp p)) k.val) (hR : ∀ p k, (R (ix2 p k) : EReal) = tabR (pst (stp p)) k.val)
    (w : Vec Ideal S1024x128 .bf16) (n : Fin 128 → Fin 4888) (base : ℕ) (p k : Fin 128)
    (hn : ∀ k' : Fin 128, k'.val / 64 = k.val / 64 → (n k').val = base + k'.val % 64)
    (hw : ∀ x (k' : Fin 128), (w (ix2 x k') : EReal) = a4 (ix2 x (n k'))) :
    (k0_pay13 (F := Ideal) H C L R w (ix2 p k) : EReal) = rot (fun d => prj a0 a1 a2 a3 a4 (bat p) (stp p) (base + d)) (pst (stp p)) (k.val % 64) * Ideal.ofBits FTy.f32 1040187392#32 := by
  rw [← rot_col a0 a1 a2 a3 a4 H hH C L R hC hL hR w n base p k hn hw]
  pointwise [k0_pay13]

theorem kv2_blk (C L R : FVec Ideal S128x128 .f32) (hC : ∀ p k, (C (ix2 p k) : EReal) = tabC (pst (stp p)) k.val)
    (hL : ∀ p k, (L (ix2 p k) : EReal) = tabL (pst (stp p)) k.val) (hR : ∀ p k, (R (ix2 p k) : EReal) = tabR (pst (stp p)) k.val)
    (w : Vec Ideal S1024x128 .bf16) (n : Fin 128 → Fin 4888) (base : ℕ) (p k : Fin 128)
    (hn : ∀ k' : Fin 128, k'.val / 64 = k.val / 64 → (n k').val = base + k'.val % 64)
    (hw : ∀ x (k' : Fin 128), (w (ix2 x k') : EReal) = a4 (ix2 x (n k'))) :
    (k0_pay17 (F := Ideal) L R (k0_pay15 (F := Ideal) H w) (k0_pay16 (F := Ideal) H C w) 120#32 (ix2 p k) : EReal) = rot (fun d => prj a0 a1 a2 a3 a4 (bat p) (stp p) (base + d)) (pst (stp p)) (k.val % 64) := by
  rw [← rot_col a0 a1 a2 a3 a4 H hH C L R hC hL hR w n base p k hn hw]
  pointwise [k0_pay17, k0_pay15, k0_pay16]

theorem win0_blk (C L R : FVec Ideal S128x128 .f32) (hC : ∀ p k, (C (ix2 p k) : EReal) = tabC (pst (stp p)) k.val)
    (hL : ∀ p k, (L (ix2 p k) : EReal) = tabL (pst (stp p)) k.val) (hR : ∀ p k, (R (ix2 p k) : EReal) = tabR (pst (stp p)) k.val)
    (w : Vec Ideal S1024x128 .bf16) (n : Fin 128 → Fin 4888) (base : ℕ) (p k : Fin 128)
    (hn : ∀ k' : Fin 128, k'.val / 64 = k.val / 64 → (n k').val = base + k'.val % 64)
    (hw : ∀ x (k' : Fin 128), (w (ix2 x k') : EReal) = a4 (ix2 x (n k'))) :
    (k0_pay19 (F := Ideal) H C L R w (ix2 p k) : EReal) = rot (fun d => prj a0 a1 a2 a3 a4 (bat p) (stp p) (base + d)) (pst (stp p)) (k.val % 64) := by
  rw [← rot_col a0 a1 a2 a3 a4 H hH C L R hC hL hR w n base p k hn hw]
  pointwise [k0_pay19]

omit hH in
theorem u_blk (v0 : Vec Ideal S128x1024 .f32) (v11 : Vec Ideal S1x1024 .f32) (v15 v20 : Vec Ideal S128x1024 .f32)
    (hH : ∀ p x, (k0_pay3 (F := Ideal) v0 v11 v15 v20 (ix2 p x) : EReal) = val_main_v24 (F := Ideal) a0 a1 a2 a3 (ix3 (bat p) (stp p) x))
    (w : Vec Ideal S1024x512 .bf16) (p : Fin 128) (k : Fin 512) (n : Fin 4888) (hw : ∀ x, (w (ix2 x k) : EReal) = a4 (ix2 x n)) :
    (k0_pay7 (F := Ideal) v0 v11 v15 v20 w (ix2 p k) : EReal) = prj a0 a1 a2 a3 a4 (bat p) (stp p) n.val := by
  rw [← dot_col a0 a1 a2 a3 a4 _ hH _ n hw p]
  unfold k0_pay7
  pointwise

end Cert.InprojS
-- ==== Proof.InprojS.Base.lean ====
module

public import proofs.«01_k».proof.Proof.InprojS.Entry
public import proofs.«01_k».proof.Proof.InprojS.Kern
public import Idealize.ShloMosaic.Lib.Pipeline.ValueKit

@[expose] public section

set_option maxRecDepth 16384

noncomputable section

/-! What the sample group's input projection is given, block by block: the normalized rows, the rotation tables and the
    slices of the reordered weight. -/

namespace Cert.InprojS

open Idealize.ShloMosaic Idealize.ShloMosaic.TcCoe Idealize.SL.Sem
open Idealize.ShloMosaic.Pipeline (Dat)
open Cert.Kernel5Ideal Cert.Kernel5Ideal.Gen
open Cert.Reference5Ideal.Read
open Cert.Post (lane)
open Cert.Inproj (tabC tabL tabR)

variable (m : (ℓ : Loc nD τ sig) → Buf (Elt Ideal) ℓ)

abbrev A0 (c : Dev nD) : FVec Ideal S128x1024 .f32 := m ((c : Thread nD τ).loc main_arg0)
abbrev A1 (c : Dev nD) : FVec Ideal S32x1024 .f32 := m ((c : Thread nD τ).loc main_arg1)
abbrev A2 (c : Dev nD) : FVec Ideal S32x1024 .f32 := m ((c : Thread nD τ).loc main_arg2)
abbrev A3 (c : Dev nD) : FVec Ideal S1024 .f32 := m ((c : Thread nD τ).loc main_arg3)
abbrev A4 (c : Dev nD) : FVec Ideal S1024x4888 .f32 := m ((c : Thread nD τ).loc main_arg4)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] :=
  (by decide +kernel : ∀ t : Fin grid0.N, _)

/-- The reordered weight's columns, group by group. -/
theorem wp_same (c : Dev nD) (x : Fin 1024) (j : Fin 4992) (n : Fin 4888) (hn : n.val = j.val)
    (hj : j.val < 1024 ∨ 1536 ≤ j.val ∧ j.val < 2304) : (V m c main_v18 (ix2 x j) : EReal) = A4 m c (ix2 x n) := by
  rw [wp_at]
  rcases hj with h | ⟨h, h'⟩
  · rw [dif_pos h]; exact congrArg (fun n => A4 m c (ix2 x n)) (Fin.ext hn.symm)
  · rw [dif_neg (by omega), dif_neg (by omega), dif_pos (by omega)]
    exact congrArg (fun n => A4 m c (ix2 x n)) (Fin.ext (by show 1536 + (j.val - 1024 - 512) = n.val; omega))
theorem wp_query (c : Dev nD) (x : Fin 1024) (j : Fin 4992) (i : Fin 512) (n : Fin 4888) (hj : j.val = 1024 + i.val)
    (hn : n.val = 1024 + (lane i).val) : (V m c main_v18 (ix2 x j) : EReal) = A4 m c (ix2 x n) := by
  rw [wp_at, dif_neg (by omega), dif_pos (by omega)]
  refine congrArg (fun n => A4 m c (ix2 x n)) (Fin.ext ?_)
  show 1024 + (lane ⟨j.val - 1024, _⟩).val = n.val
  rw [hn]
  exact congrArg (fun i => 1024 + (lane i).val) (Fin.ext (by show j.val - 1024 = i.val; omega))
theorem wp_gatez (c : Dev nD) (x : Fin 1024) (j : Fin 4992) (i : Fin 512) (n : Fin 4888) (hj : j.val = 2304 + i.val)
    (hn : n.val = 2328 + (lane i).val) : (V m c main_v18 (ix2 x j) : EReal) = A4 m c (ix2 x n) := by
  rw [wp_at, dif_neg (by omega), dif_neg (by omega), dif_neg (by omega), dif_pos (by omega)]
  refine congrArg (fun n => A4 m c (ix2 x n)) (Fin.ext ?_)
  show 2328 + (lane ⟨j.val - 1024 - 512 - 768, _⟩).val = n.val
  rw [hn]
  exact congrArg (fun i => 2328 + (lane i).val) (Fin.ext (by show j.val - 1024 - 512 - 768 = i.val; omega))
theorem wp_merge (c : Dev nD) (x : Fin 1024) (j : Fin 4992) (n : Fin 4888) (hj : 2816 ≤ j.val) (hj' : j.val < 4864)
    (hn : n.val = j.val + 24) : (V m c main_v18 (ix2 x j) : EReal) = A4 m c (ix2 x n) := by
  rw [wp_at, dif_neg (by omega), dif_neg (by omega), dif_neg (by omega), dif_neg (by omega), dif_pos (by omega)]
  exact congrArg (fun n => A4 m c (ix2 x n)) (Fin.ext (by show 2840 + (j.val - 1024 - 512 - 768 - 512) = n.val; omega))
theorem wp_gates (c : Dev nD) (x : Fin 1024) (j : Fin 4992) (n : Fin 4888) (hj : 4864 ≤ j.val) (hj' : j.val < 4888)
    (hn : n.val + 2560 = j.val) : (V m c main_v18 (ix2 x j) : EReal) = A4 m c (ix2 x n) := by
  rw [wp_at, dif_neg (by omega), dif_neg (by omega), dif_neg (by omega), dif_neg (by omega), dif_neg (by omega), dif_pos (by omega)]
  exact congrArg (fun n => A4 m c (ix2 x n)) (Fin.ext (by show 2304 + (j.val - 1024 - 512 - 768 - 512 - 2048) = n.val; omega))
theorem wp_padded (c : Dev nD) (x : Fin 1024) (j : Fin 4992) (hj : 4888 ≤ j.val) :
    (V m c main_v18 (ix2 x j) : EReal) = FloatOps.sitofp (F := Ideal) FTy.f32 (0#32) := by
  rw [wp_at, dif_neg (by omega), dif_neg (by omega), dif_neg (by omega), dif_neg (by omega), dif_neg (by omega), dif_neg (by omega)]

/-- The value the host pads with is zero. -/
theorem pad_zero : (FloatOps.sitofp (F := Ideal) FTy.f32 (0#32) : EReal) = 0 := by
  show (((0#32 : BitVec 32).toInt : ℝ) : EReal) = 0
  simp

theorem gate_zero (H : FVec Ideal S128x1024 .bf16) (w : Vec Ideal S1024x128 .bf16) (p k : Fin 128)
    (hw : ∀ x : Fin 1024, (w (ix2 x k) : EReal) = 0) : (k0_pay2 (F := Ideal) H w (ix2 p k) : EReal) = 0 := by
  pointwise [k0_pay2]
  exact Finset.sum_eq_zero fun x _ => by rw [hw, mul_zero]

theorem rows_at (c : Dev nD) (t : Fin cfg0.N) (p : Fin 128) (x : Fin 1024) :
    ((show FVec Ideal S128x1024 .f32 from iblk m c 0 t) (ix2 p x) : EReal) = A0 m c (ix2 p x) := by
  skip
  blk_point [iblk, V, idx t]

theorem gain_at (c : Dev nD) (t : Fin cfg0.N) (x : Fin 1024) :
    ((show FVec Ideal S1x1024 .f32 from iblk m c 3 t) (ix2 (0 : Fin 1) x) : EReal) = A3 m c (ix1 x) := by
  refine Eq.trans ?_ (weight_at m c x)
  skip
  blk_point [iblk, idx t]

theorem scales_at (c : Dev nD) (t : Fin cfg0.N) (p : Fin 128) (x : Fin 1024) :
    ((show FVec Ideal S128x1024 .f32 from iblk m c 2 t) (ix2 p x) : EReal) = A2 m c (ix2 (bat p) x) := by
  refine Eq.trans ?_ (scale_at m c p x)
  skip
  blk_point [iblk, idx t]

theorem shifts_at (c : Dev nD) (t : Fin cfg0.N) (p : Fin 128) (x : Fin 1024) :
    ((show FVec Ideal S128x1024 .f32 from iblk m c 1 t) (ix2 p x) : EReal) = A1 m c (ix2 (bat p) x) := by
  refine Eq.trans ?_ (shift_at m c p x)
  skip
  blk_point [iblk, idx t]

/-- The block's normalized rows. -/
theorem normed (c : Dev nD) (t : Fin cfg0.N) (p : Fin 128) (x : Fin 1024) :
    (k0_pay3 (F := Ideal) (iblk m c 0 t) (iblk m c 3 t) (iblk m c 2 t) (iblk m c 1 t) (ix2 p x) : EReal)
      = val_main_v24 (F := Ideal) (A0 m c) (A1 m c) (A2 m c) (A3 m c) (ix3 (bat p) (stp p) x) :=
  rows_norm (A0 m c) (A1 m c) (A2 m c) (A3 m c) _ _ _ _ (rows_at m c t) (gain_at m c t) (scales_at m c t) (shifts_at m c t) p x

theorem tC_at (c : Dev nD) (t : Fin cfg0.N) (p k : Fin 128) :
    (k0_pay4 (F := Ideal) (iblk m c 5 t) (ix2 p k) : EReal) = tabC (pst (stp p)) k.val := by
  refine Eq.trans ?_ (cos_tab m c p k)
  pointwise [k0_pay4]
  blk_point [iblk, idx t]

theorem tL_at (c : Dev nD) (t : Fin cfg0.N) (p k : Fin 128) :
    (k0_pay5 (F := Ideal) (iblk m c 6 t) (ix2 p k) : EReal) = tabL (pst (stp p)) k.val := by
  refine Eq.trans ?_ (sinl_tab m c p k)
  pointwise [k0_pay5]
  blk_point [iblk, idx t]

theorem tR_at (c : Dev nD) (t : Fin cfg0.N) (p k : Fin 128) :
    (k0_pay6 (F := Ideal) (iblk m c 7 t) (ix2 p k) : EReal) = tabR (pst (stp p)) k.val := by
  refine Eq.trans ?_ (sinr_tab m c p k)
  pointwise [k0_pay6]
  blk_point [iblk, idx t]

/-! A load of some of the weight's columns. -/

theorem ld_128 (c : Dev nD) (t : Fin cfg0.N) (o : ℕ) (hb : ∀ a, (![0, o] : Fin 2 → Nat) a + S1024x128.size a ≤ S1024x4992.size a)
    (x : Fin 1024) (k : Fin 128) (j : Fin 4992) (hj : j.val = o + k.val) :
    (View.ld (iblk m c 4 t) (Rect.unit (s := S1024x4992) ![0, o] S1024x128.size hb) (ix2 x k : S1024x128.Idx) : EReal)
      = V m c main_v18 (ix2 x j) := by
  unfold iblk
  generalize V m c = Z
  show (View.ld (View.read (Elt Ideal) ((cfg0.win 4).blk t).view (Z main_v18)) (Rect.unit (s := S1024x4992) ![0, o] S1024x128.size hb)
    (ix2 x k : S1024x128.Idx) : EReal) = _
  generalize Z main_v18 = w
  unfold View.ld View.read
  blk_ext [idx t]
  · show 0 + 1 * x.val = x.val; omega
  · show o + 1 * k.val = j.val; omega

theorem ld_256 (c : Dev nD) (t : Fin cfg0.N) (o : ℕ) (hb : ∀ a, (![0, o] : Fin 2 → Nat) a + S1024x256.size a ≤ S1024x4992.size a)
    (x : Fin 1024) (k : Fin 256) (j : Fin 4992) (hj : j.val = o + k.val) :
    (View.ld (iblk m c 4 t) (Rect.unit (s := S1024x4992) ![0, o] S1024x256.size hb) (ix2 x k : S1024x256.Idx) : EReal)
      = V m c main_v18 (ix2 x j) := by
  unfold iblk
  generalize V m c = Z
  show (View.ld (View.read (Elt Ideal) ((cfg0.win 4).blk t).view (Z main_v18)) (Rect.unit (s := S1024x4992) ![0, o] S1024x256.size hb)
    (ix2 x k : S1024x256.Idx) : EReal) = _
  generalize Z main_v18 = w
  unfold View.ld View.read
  blk_ext [idx t]
  · show 0 + 1 * x.val = x.val; omega
  · show o + 1 * k.val = j.val; omega

theorem ld_512 (c : Dev nD) (t : Fin cfg0.N) (o : ℕ) (hb : ∀ a, (![0, o] : Fin 2 → Nat) a + S1024x512.size a ≤ S1024x4992.size a)
    (x : Fin 1024) (k : Fin 512) (j : Fin 4992) (hj : j.val = o + k.val) :
    (View.ld (iblk m c 4 t) (Rect.unit (s := S1024x4992) ![0, o] S1024x512.size hb) (ix2 x k : S1024x512.Idx) : EReal)
      = V m c main_v18 (ix2 x j) := by
  unfold iblk
  generalize V m c = Z
  show (View.ld (View.read (Elt Ideal) ((cfg0.win 4).blk t).view (Z main_v18)) (Rect.unit (s := S1024x4992) ![0, o] S1024x512.size hb)
    (ix2 x k : S1024x512.Idx) : EReal) = _
  generalize Z main_v18 = w
  unfold View.ld View.read
  blk_ext [idx t]
  · show 0 + 1 * x.val = x.val; omega
  · show o + 1 * k.val = j.val; omega

theorem ld_2048 (c : Dev nD) (t : Fin cfg0.N) (o : ℕ) (hb : ∀ a, (![0, o] : Fin 2 → Nat) a + S1024x2048.size a ≤ S1024x4992.size a)
    (x : Fin 1024) (k : Fin 2048) (j : Fin 4992) (hj : j.val = o + k.val) :
    (View.ld (iblk m c 4 t) (Rect.unit (s := S1024x4992) ![0, o] S1024x2048.size hb) (ix2 x k : S1024x2048.Idx) : EReal)
      = V m c main_v18 (ix2 x j) := by
  unfold iblk
  generalize V m c = Z
  show (View.ld (View.read (Elt Ideal) ((cfg0.win 4).blk t).view (Z main_v18)) (Rect.unit (s := S1024x4992) ![0, o] S1024x2048.size hb)
    (ix2 x k : S1024x2048.Idx) : EReal) = _
  generalize Z main_v18 = w
  unfold View.ld View.read
  blk_ext [idx t]
  · show 0 + 1 * x.val = x.val; omega
  · show o + 1 * k.val = j.val; omega

end Cert.InprojS
-- ==== Proof.InprojS.Value.lean ====
module

public import proofs.«01_k».proof.Proof.InprojS.Base
public import Idealize.ShloMosaic.Lib.Pipeline.ValueKit

@[expose] public section

set_option maxRecDepth 16384

noncomputable section

/-! What the sample group's input projection leaves in its results: the reference's arrays. -/

namespace Cert.InprojS

open Idealize.ShloMosaic Idealize.ShloMosaic.TcCoe Idealize.SL.Sem
open Idealize.ShloMosaic.Pipeline (Dat)
open Cert.Kernel5Ideal Cert.Kernel5Ideal.Gen
open Cert.Reference5Ideal.Read
open Cert.Post (lane)
open Cert.Inproj (tabC tabL tabR rot rot_congr)

variable (m : (ℓ : Loc nD τ sig) → Buf (Elt Ideal) ℓ)

section Rows

variable (a0 : FVec Ideal S128x1024 .f32) (a1 a2 : FVec Ideal S32x1024 .f32) (a3 : FVec Ideal S1024 .f32) (a4 : FVec Ideal S1024x4888 .f32)

/-! The reference's results at row `p`, which is step `stp p` of request `bat p`. -/

theorem gate_row (p j : Fin 128) : (val_main_v178 (F := Ideal) a0 a1 a2 a3 a4 (ix2 p j) : EReal)
    = if j.val < 24 then prj a0 a1 a2 a3 a4 (bat p) (stp p) (2304 + j.val) else FloatOps.sitofp (F := Ideal) FTy.f32 (0#32) :=
  gate_at a0 a1 a2 a3 a4 p j

theorem q_row (p : Fin 128) (j : Fin 512) : (val_main_v168 (F := Ideal) a0 a1 a2 a3 a4 (ix2 p j) : EReal)
    = rot (fun d => prj a0 a1 a2 a3 a4 (bat p) (stp p) (1024 + ((j.val / 64 % 2 * 4 + j.val / 128) * 64 + d))) (pst (stp p)) (j.val % 64)
      * Ideal.ofBits FTy.f32 1040187392#32 :=
  q_at a0 a1 a2 a3 a4 p j

theorem kv_row (p : Fin 128) (j : Fin 512) : (val_main_v169 (F := Ideal) a0 a1 a2 a3 a4 (ix2 p j) : EReal)
    = if j.val / 128 = 2 then
        rot (fun d => prj a0 a1 a2 a3 a4 (bat p) (stp p) (1536 + (256 + j.val / 64 % 2 * 64 + d))) (pst (stp p)) (j.val % 64)
      else prj a0 a1 a2 a3 a4 (bat p) (stp p) (1536 + (j.val / 128 * 128 + j.val / 64 % 2 * 64 + j.val % 64)) :=
  kv_at a0 a1 a2 a3 a4 p j

theorem win_row (p : Fin 128) (j : Fin 256) : (val_main_v170 (F := Ideal) a0 a1 a2 a3 a4 (ix2 p j) : EReal)
    = if j.val / 128 = 0 then
        rot (fun d => prj a0 a1 a2 a3 a4 (bat p) (stp p) (1536 + (512 + j.val / 64 % 2 * 64 + d))) (pst (stp p)) (j.val % 64)
      else prj a0 a1 a2 a3 a4 (bat p) (stp p) (1536 + (512 + j.val / 128 * 128 + j.val / 64 % 2 * 64 + j.val % 64)) :=
  win_at a0 a1 a2 a3 a4 p j

end Rows

set_option maxHeartbeats 1000000 in
theorem final_gate (c : Dev nD) : (dats m 0 c).arrAt 15 (cfgs 0).N = val_main_v178 (F := Ideal) (A0 m c) (A1 m c) (A2 m c) (A3 m c) (A4 m c) := by
  refine (dats m 0 c).arrAt_eq_of_covers 15 _ (by decide +kernel) fun t _ y => ?_
  blk_simp
  rw [after0_15]
  frame_out
  obtain ⟨p, j, rfl⟩ : ∃ (p : Fin 128) (j : Fin 128), y = (ix2 p j : S128x128.Idx) :=
    ⟨⟨(y 0).val, by idx_bounds y; omega⟩, ⟨(y 1).val, by idx_bounds y; omega⟩, by blk_ext⟩
  have e : (((View.whole main_v60_7).slice (win0_15.rect t)).emb (ix2 p j : S128x128.Idx)) = (ix2 p j : S128x128.Idx) := by
    blk_ext [idx t]
  rw [e]
  refine Eq.trans ?_ (gate_row (A0 m c) (A1 m c) (A2 m c) (A3 m c) (A4 m c) p j).symm
  by_cases h : j.val < 24
  · rw [if_pos h]
    refine (gate_blk (A0 m c) (A1 m c) (A2 m c) (A3 m c) (A4 m c) _ (normed m c t) _ p j ⟨2304 + j.val, by omega⟩ fun x => ?_)
    exact (ld_128 m c t 4864 _ x j ⟨4864 + j.val, by omega⟩ rfl).trans (wp_gates m c x _ _ (by show 4864 ≤ 4864 + j.val; omega)
      (by show 4864 + j.val < 4888; omega) (by show 2304 + j.val + 2560 = 4864 + j.val; omega))
  · rw [if_neg h, pad_zero]
    refine gate_zero _ _ p j fun x => ?_
    exact (ld_128 m c t 4864 _ x j ⟨4864 + j.val, by omega⟩ rfl).trans ((wp_padded m c x _ (by show 4888 ≤ 4864 + j.val; omega)).trans pad_zero)

set_option maxHeartbeats 1000000 in
theorem final_u (c : Dev nD) : (dats m 0 c).arrAt 8 (cfgs 0).N = val_main_v162 (F := Ideal) (A0 m c) (A1 m c) (A2 m c) (A3 m c) (A4 m c) := by
  refine (dats m 0 c).arrAt_eq_of_covers 8 _ (by decide +kernel) fun t _ y => ?_
  blk_simp
  rw [after0_8]
  unfold outsAt0 out0_A_8
  dsimp only
  frame_out
  obtain ⟨p, j, rfl⟩ : ∃ (p : Fin 128) (j : Fin 512), y = (ix2 p j : S128x512.Idx) :=
    ⟨⟨(y 0).val, by idx_bounds y; omega⟩, ⟨(y 1).val, by idx_bounds y; omega⟩, by blk_ext⟩
  have e : (((View.whole main_v60_0).slice (win0_8.rect t)).emb (ix2 p j : S128x512.Idx)) = (ix2 p j : S128x512.Idx) := by
    blk_ext [idx t]
  rw [e]
  refine Eq.trans ?_ (u_at (A0 m c) (A1 m c) (A2 m c) (A3 m c) (A4 m c) p j).symm
  refine (u_blk (A0 m c) (A1 m c) (A2 m c) (A3 m c) (A4 m c) _ _ _ _ (normed m c t) _ p j ⟨j.val, by omega⟩ fun x => ?_)
  exact (ld_512 m c t 0 _ x j ⟨j.val, by omega⟩ (by show j.val = 0 + j.val; omega)).trans (wp_same m c x _ _ rfl (by left; show j.val < 1024; omega))

set_option maxHeartbeats 1000000 in
theorem final_zs5 (c : Dev nD) : (dats m 0 c).arrAt 9 (cfgs 0).N = val_main_v164 (F := Ideal) (A0 m c) (A1 m c) (A2 m c) (A3 m c) (A4 m c) := by
  refine (dats m 0 c).arrAt_eq_of_covers 9 _ (by decide +kernel) fun t _ y => ?_
  blk_simp
  rw [after0_9]
  frame_out
  obtain ⟨p, j, rfl⟩ : ∃ (p : Fin 128) (j : Fin 512), y = (ix2 p j : S128x512.Idx) :=
    ⟨⟨(y 0).val, by idx_bounds y; omega⟩, ⟨(y 1).val, by idx_bounds y; omega⟩, by blk_ext⟩
  have e : (((View.whole main_v60_1).slice (win0_9.rect t)).emb (ix2 p j : S128x512.Idx)) = (ix2 p j : S128x512.Idx) := by
    blk_ext [idx t]
  rw [e]
  refine Eq.trans ?_ (zs5_at (A0 m c) (A1 m c) (A2 m c) (A3 m c) (A4 m c) p j).symm
  refine (zs5_blk (A0 m c) (A1 m c) (A2 m c) (A3 m c) (A4 m c) _ (normed m c t) _ p j ⟨512 + j.val, by omega⟩ fun x => ?_)
  exact (ld_512 m c t 512 _ x j ⟨512 + j.val, by omega⟩ rfl).trans (wp_same m c x _ _ rfl (by left; show 512 + j.val < 1024; omega))

set_option maxHeartbeats 1000000 in
theorem final_znsa (c : Dev nD) : (dats m 0 c).arrAt 13 (cfgs 0).N = val_main_v174 (F := Ideal) (A0 m c) (A1 m c) (A2 m c) (A3 m c) (A4 m c) := by
  refine (dats m 0 c).arrAt_eq_of_covers 13 _ (by decide +kernel) fun t _ y => ?_
  blk_simp
  rw [after0_13]
  frame_out
  obtain ⟨p, j, rfl⟩ : ∃ (p : Fin 128) (j : Fin 512), y = (ix2 p j : S128x512.Idx) :=
    ⟨⟨(y 0).val, by idx_bounds y; omega⟩, ⟨(y 1).val, by idx_bounds y; omega⟩, by blk_ext⟩
  have e : (((View.whole main_v60_5).slice (win0_13.rect t)).emb (ix2 p j : S128x512.Idx)) = (ix2 p j : S128x512.Idx) := by
    blk_ext [idx t]
  rw [e]
  refine Eq.trans ?_ (znsa_at (A0 m c) (A1 m c) (A2 m c) (A3 m c) (A4 m c) p j).symm
  refine (znsa_blk (A0 m c) (A1 m c) (A2 m c) (A3 m c) (A4 m c) _ (normed m c t) _ p j ⟨2328 + (lane j).val, by have := (lane j).isLt; omega⟩ fun x => ?_)
  exact (ld_512 m c t 2304 _ x j ⟨2304 + j.val, by omega⟩ rfl).trans (wp_gatez m c x _ j _ rfl rfl)

set_option maxHeartbeats 1000000 in
theorem final_merge (c : Dev nD) : (dats m 0 c).arrAt 14 (cfgs 0).N = val_main_v176 (F := Ideal) (A0 m c) (A1 m c) (A2 m c) (A3 m c) (A4 m c) := by
  refine (dats m 0 c).arrAt_eq_of_covers 14 _ (by decide +kernel) fun t _ y => ?_
  blk_simp
  rw [after0_14]
  frame_out
  obtain ⟨p, j, rfl⟩ : ∃ (p : Fin 128) (j : Fin 2048), y = (ix2 p j : S128x2048.Idx) :=
    ⟨⟨(y 0).val, by idx_bounds y; omega⟩, ⟨(y 1).val, by idx_bounds y; omega⟩, by blk_ext⟩
  have e : (((View.whole main_v60_6).slice (win0_14.rect t)).emb (ix2 p j : S128x2048.Idx)) = (ix2 p j : S128x2048.Idx) := by
    blk_ext [idx t]
  rw [e]
  refine Eq.trans ?_ (merge_at (A0 m c) (A1 m c) (A2 m c) (A3 m c) (A4 m c) p j).symm
  refine (merge_blk (A0 m c) (A1 m c) (A2 m c) (A3 m c) (A4 m c) _ (normed m c t) _ p j ⟨2840 + j.val, by omega⟩ fun x => ?_)
  exact (ld_2048 m c t 2816 _ x j ⟨2816 + j.val, by omega⟩ rfl).trans (wp_merge m c x _ _ (by show 2816 ≤ 2816 + j.val; omega)
    (by show 2816 + j.val < 4864; omega) (by show 2840 + j.val = 2816 + j.val + 24; omega))

set_option maxHeartbeats 1000000 in
theorem final_q (c : Dev nD) : (dats m 0 c).arrAt 10 (cfgs 0).N = val_main_v168 (F := Ideal) (A0 m c) (A1 m c) (A2 m c) (A3 m c) (A4 m c) := by
  refine (dats m 0 c).arrAt_eq_of_covers 10 _ (by decide +kernel) fun t _ y => ?_
  blk_simp
  rw [after0_10]
  frame_out
  obtain ⟨p, j, rfl⟩ : ∃ (p : Fin 128) (j : Fin 512), y = (ix2 p j : S128x512.Idx) :=
    ⟨⟨(y 0).val, by idx_bounds y; omega⟩, ⟨(y 1).val, by idx_bounds y; omega⟩, by blk_ext⟩
  have e : (((View.whole main_v60_2).slice (win0_10.rect t)).emb (ix2 p j : S128x512.Idx)) = (ix2 p j : S128x512.Idx) := by
    blk_ext [idx t]
  rw [e]
  refine Eq.trans ?_ (q_row (A0 m c) (A1 m c) (A2 m c) (A3 m c) (A4 m c) p j).symm
  canon_tiles x h
  case piece0 =>
    obtain ⟨p', k, rfl⟩ : ∃ (p' : Fin 128) (k : Fin 128), x = (ix2 p' k : S128x128.Idx) :=
      ⟨⟨(x 0).val, by idx_bounds x; omega⟩, ⟨(x 1).val, by idx_bounds x; omega⟩, by blk_ext⟩
    obtain rfl : p = p' := Fin.ext h0
    have hj : j.val = 384 + k.val := h1
    refine (q3_blk (A0 m c) (A1 m c) (A2 m c) (A3 m c) (A4 m c) _ (normed m c t) _ _ _ (tC_at m c t) (tL_at m c t) (tR_at m c t) _
      (fun k' => ⟨1024 + (lane ⟨384 + k'.val, by omega⟩).val, by have := (lane ⟨384 + k'.val, by omega⟩).isLt; omega⟩) (1024 + (k.val / 64 * 4 + 3) * 64) p k ?_ fun x k' => ?_).trans ?_
    · intro k' hk'
      unfold lane
      dsimp only
      omega
    · exact (ld_128 m c t 1408 _ x k' ⟨1408 + k'.val, by omega⟩ rfl).trans (wp_query m c x _ ⟨384 + k'.val, by omega⟩ _
        (by show 1408 + k'.val = 1024 + (384 + k'.val); omega) rfl)
    · refine congrArg (fun z : EReal => z * Ideal.ofBits FTy.f32 1040187392#32) (rot_congr _ _ _ _ _ (fun d => ?_) ?_)
      · exact congrArg _ (by omega)
      · omega
  case piece1 =>
    obtain ⟨p', k, rfl⟩ : ∃ (p' : Fin 128) (k : Fin 128), x = (ix2 p' k : S128x128.Idx) :=
      ⟨⟨(x 0).val, by idx_bounds x; omega⟩, ⟨(x 1).val, by idx_bounds x; omega⟩, by blk_ext⟩
    obtain rfl : p = p' := Fin.ext h0
    have hj : j.val = 256 + k.val := h1
    refine (q2_blk (A0 m c) (A1 m c) (A2 m c) (A3 m c) (A4 m c) _ (normed m c t) _ _ _ (tC_at m c t) (tL_at m c t) (tR_at m c t) _
      (fun k' => ⟨1024 + (lane ⟨256 + k'.val, by omega⟩).val, by have := (lane ⟨256 + k'.val, by omega⟩).isLt; omega⟩) (1024 + (k.val / 64 * 4 + 2) * 64) p k ?_ fun x k' => ?_).trans ?_
    · intro k' hk'
      unfold lane
      dsimp only
      omega
    · exact (ld_128 m c t 1280 _ x k' ⟨1280 + k'.val, by omega⟩ rfl).trans (wp_query m c x _ ⟨256 + k'.val, by omega⟩ _
        (by show 1280 + k'.val = 1024 + (256 + k'.val); omega) rfl)
    · refine congrArg (fun z : EReal => z * Ideal.ofBits FTy.f32 1040187392#32) (rot_congr _ _ _ _ _ (fun d => ?_) ?_)
      · exact congrArg _ (by omega)
      · omega
  case piece2 =>
    obtain ⟨p', k, rfl⟩ : ∃ (p' : Fin 128) (k : Fin 128), x = (ix2 p' k : S128x128.Idx) :=
      ⟨⟨(x 0).val, by idx_bounds x; omega⟩, ⟨(x 1).val, by idx_bounds x; omega⟩, by blk_ext⟩
    obtain rfl : p = p' := Fin.ext h0
    have hj : j.val = 128 + k.val := h1
    refine (q1_blk (A0 m c) (A1 m c) (A2 m c) (A3 m c) (A4 m c) _ (normed m c t) _ _ _ (tC_at m c t) (tL_at m c t) (tR_at m c t) _
      (fun k' => ⟨1024 + (lane ⟨128 + k'.val, by omega⟩).val, by have := (lane ⟨128 + k'.val, by omega⟩).isLt; omega⟩) (1024 + (k.val / 64 * 4 + 1) * 64) p k ?_ fun x k' => ?_).trans ?_
    · intro k' hk'
      unfold lane
      dsimp only
      omega
    · exact (ld_128 m c t 1152 _ x k' ⟨1152 + k'.val, by omega⟩ rfl).trans (wp_query m c x _ ⟨128 + k'.val, by omega⟩ _
        (by show 1152 + k'.val = 1024 + (128 + k'.val); omega) rfl)
    · refine congrArg (fun z : EReal => z * Ideal.ofBits FTy.f32 1040187392#32) (rot_congr _ _ _ _ _ (fun d => ?_) ?_)
      · exact congrArg _ (by omega)
      · omega
  case piece3 =>
    obtain ⟨p', k, rfl⟩ : ∃ (p' : Fin 128) (k : Fin 128), x = (ix2 p' k : S128x128.Idx) :=
      ⟨⟨(x 0).val, by idx_bounds x; omega⟩, ⟨(x 1).val, by idx_bounds x; omega⟩, by blk_ext⟩
    obtain rfl : p = p' := Fin.ext h0
    have hj : j.val = k.val := h1
    refine (q0_blk (A0 m c) (A1 m c) (A2 m c) (A3 m c) (A4 m c) _ (normed m c t) _ _ _ (tC_at m c t) (tL_at m c t) (tR_at m c t) _
      (fun k' => ⟨1024 + (lane ⟨0 + k'.val, by omega⟩).val, by have := (lane ⟨0 + k'.val, by omega⟩).isLt; omega⟩) (1024 + (k.val / 64 * 4 + 0) * 64) p k ?_ fun x k' => ?_).trans ?_
    · intro k' hk'
      unfold lane
      dsimp only
      omega
    · exact (ld_128 m c t 1024 _ x k' ⟨1024 + k'.val, by omega⟩ rfl).trans (wp_query m c x _ ⟨0 + k'.val, by omega⟩ _
        (by show 1024 + k'.val = 1024 + (0 + k'.val); omega) rfl)
    · refine congrArg (fun z : EReal => z * Ideal.ofBits FTy.f32 1040187392#32) (rot_congr _ _ _ _ _ (fun d => ?_) ?_)
      · exact congrArg _ (by omega)
      · omega

set_option maxHeartbeats 1000000 in
theorem final_kv (c : Dev nD) : (dats m 0 c).arrAt 11 (cfgs 0).N = val_main_v169 (F := Ideal) (A0 m c) (A1 m c) (A2 m c) (A3 m c) (A4 m c) := by
  refine (dats m 0 c).arrAt_eq_of_covers 11 _ (by decide +kernel) fun t _ y => ?_
  blk_simp
  rw [after0_11]
  frame_out
  obtain ⟨p, j, rfl⟩ : ∃ (p : Fin 128) (j : Fin 512), y = (ix2 p j : S128x512.Idx) :=
    ⟨⟨(y 0).val, by idx_bounds y; omega⟩, ⟨(y 1).val, by idx_bounds y; omega⟩, by blk_ext⟩
  have e : (((View.whole main_v60_3).slice (win0_11.rect t)).emb (ix2 p j : S128x512.Idx)) = (ix2 p j : S128x512.Idx) := by
    blk_ext [idx t]
  rw [e]
  refine Eq.trans ?_ (kv_row (A0 m c) (A1 m c) (A2 m c) (A3 m c) (A4 m c) p j).symm
  canon_tiles x h using (View.cover_of_tiledBy _ ![128, 128] (by sl_kernel_rfl) _)
  case piece0 =>
    obtain ⟨p', k, rfl⟩ : ∃ (p' : Fin 128) (k : Fin 128), x = (ix2 p' k : S128x128.Idx) :=
      ⟨⟨(x 0).val, by idx_bounds x; omega⟩, ⟨(x 1).val, by idx_bounds x; omega⟩, by blk_ext⟩
    obtain rfl : p = p' := Fin.ext h0
    have hj : j.val = 384 + k.val := h1
    rw [if_neg (by omega)]
    refine (kv3_blk (A0 m c) (A1 m c) (A2 m c) (A3 m c) (A4 m c) _ (normed m c t) _ p k ⟨1920 + k.val, by omega⟩ fun x => ?_).trans ?_
    · exact (ld_128 m c t 1920 _ x k ⟨1920 + k.val, by omega⟩ rfl).trans (wp_same m c x _ _ rfl
        (by right; show 1536 ≤ 1920 + k.val ∧ 1920 + k.val < 2304; omega))
    · exact congrArg _ (by show 1920 + k.val = _; omega)
  case piece1 =>
    obtain ⟨p', k, rfl⟩ : ∃ (p' : Fin 128) (k : Fin 128), x = (ix2 p' k : S128x128.Idx) :=
      ⟨⟨(x 0).val, by idx_bounds x; omega⟩, ⟨(x 1).val, by idx_bounds x; omega⟩, by blk_ext⟩
    obtain rfl : p = p' := Fin.ext h0
    have hj : j.val = 256 + k.val := h1
    rw [if_pos (by omega)]
    refine (kv2_blk (A0 m c) (A1 m c) (A2 m c) (A3 m c) (A4 m c) _ (normed m c t) _ _ _ (tC_at m c t) (tL_at m c t) (tR_at m c t) _ (fun k' => ⟨1792 + k'.val, by omega⟩) (1792 + k.val / 64 * 64) p k ?_ fun x k' => ?_).trans ?_
    · intro k' hk'
      show 1792 + k'.val = _
      omega
    · exact (ld_128 m c t 1792 _ x k' ⟨1792 + k'.val, by omega⟩ rfl).trans (wp_same m c x _ _ rfl
        (by right; show 1536 ≤ 1792 + k'.val ∧ 1792 + k'.val < 2304; omega))
    · refine rot_congr _ _ _ _ _ (fun d => ?_) ?_
      · exact congrArg _ (by omega)
      · omega
  case piece2 =>
    obtain ⟨p', k, rfl⟩ : ∃ (p' : Fin 128) (k : Fin 256), x = (ix2 p' k : S128x256.Idx) :=
      ⟨⟨(x 0).val, by idx_bounds x; omega⟩, ⟨(x 1).val, by idx_bounds x; omega⟩, by blk_ext⟩
    obtain rfl : p = p' := Fin.ext h0
    have hj : j.val = k.val := h1
    rw [if_neg (by omega)]
    refine (cmp_blk (A0 m c) (A1 m c) (A2 m c) (A3 m c) (A4 m c) _ (normed m c t) _ p k ⟨1536 + k.val, by omega⟩ fun x => ?_).trans ?_
    · exact (ld_256 m c t 1536 _ x k ⟨1536 + k.val, by omega⟩ rfl).trans (wp_same m c x _ _ rfl
        (by right; show 1536 ≤ 1536 + k.val ∧ 1536 + k.val < 2304; omega))
    · exact congrArg _ (by show 1536 + k.val = _; omega)

set_option maxHeartbeats 1000000 in
theorem final_win (c : Dev nD) : (dats m 0 c).arrAt 12 (cfgs 0).N = val_main_v170 (F := Ideal) (A0 m c) (A1 m c) (A2 m c) (A3 m c) (A4 m c) := by
  refine (dats m 0 c).arrAt_eq_of_covers 12 _ (by decide +kernel) fun t _ y => ?_
  blk_simp
  rw [after0_12]
  frame_out
  obtain ⟨p, j, rfl⟩ : ∃ (p : Fin 128) (j : Fin 256), y = (ix2 p j : S128x256.Idx) :=
    ⟨⟨(y 0).val, by idx_bounds y; omega⟩, ⟨(y 1).val, by idx_bounds y; omega⟩, by blk_ext⟩
  have e : (((View.whole main_v60_4).slice (win0_12.rect t)).emb (ix2 p j : S128x256.Idx)) = (ix2 p j : S128x256.Idx) := by
    blk_ext [idx t]
  rw [e]
  refine Eq.trans ?_ (win_row (A0 m c) (A1 m c) (A2 m c) (A3 m c) (A4 m c) p j).symm
  canon_tiles x h
  case piece0 =>
    obtain ⟨p', k, rfl⟩ : ∃ (p' : Fin 128) (k : Fin 128), x = (ix2 p' k : S128x128.Idx) :=
      ⟨⟨(x 0).val, by idx_bounds x; omega⟩, ⟨(x 1).val, by idx_bounds x; omega⟩, by blk_ext⟩
    obtain rfl : p = p' := Fin.ext h0
    have hj : j.val = 128 + k.val := h1
    rw [if_neg (by omega)]
    refine (win1_blk (A0 m c) (A1 m c) (A2 m c) (A3 m c) (A4 m c) _ (normed m c t) _ p k ⟨2176 + k.val, by omega⟩ fun x => ?_).trans ?_
    · exact (ld_128 m c t 2176 _ x k ⟨2176 + k.val, by omega⟩ rfl).trans (wp_same m c x _ _ rfl
        (by right; show 1536 ≤ 2176 + k.val ∧ 2176 + k.val < 2304; omega))
    · exact congrArg _ (by show 2176 + k.val = _; omega)
  case piece1 =>
    obtain ⟨p', k, rfl⟩ : ∃ (p' : Fin 128) (k : Fin 128), x = (ix2 p' k : S128x128.Idx) :=
      ⟨⟨(x 0).val, by idx_bounds x; omega⟩, ⟨(x 1).val, by idx_bounds x; omega⟩, by blk_ext⟩
    obtain rfl : p = p' := Fin.ext h0
    have hj : j.val = k.val := h1
    rw [if_pos (by omega)]
    refine (win0_blk (A0 m c) (A1 m c) (A2 m c) (A3 m c) (A4 m c) _ (normed m c t) _ _ _ (tC_at m c t) (tL_at m c t) (tR_at m c t) _ (fun k' => ⟨2048 + k'.val, by omega⟩) (2048 + k.val / 64 * 64) p k ?_ fun x k' => ?_).trans ?_
    · intro k' hk'
      show 2048 + k'.val = _
      omega
    · exact (ld_128 m c t 2048 _ x k' ⟨2048 + k'.val, by omega⟩ rfl).trans (wp_same m c x _ _ rfl
        (by right; show 1536 ≤ 2048 + k'.val ∧ 2048 + k'.val < 2304; omega))
    · refine rot_congr _ _ _ _ _ (fun d => ?_) ?_
      · exact congrArg _ (by omega)
      · omega

end Cert.InprojS
-- ==== Proof.InprojS.Claims.lean ====
module

public import proofs.«01_k».proof.Defs
public import proofs.«01_k».proof.Proof.InprojS.Value
public import proofs.«01_k».proof.Proof.Gen.Reference5Ideal.Run
public import Idealize.ShloMosaic.Lib.Quiescent
public import Idealize.ShloMosaic.Adequacy
public import Idealize.ShloMosaic.Init

@[expose] public section

noncomputable section

/-! The two claims about the sample group's input projection: its reference's run, and that the kernel's eight results are the
reference's. -/

namespace Cert.InprojS

open Idealize.ShloMosaic Idealize.ShloMosaic.TcCoe Idealize.SL.Sem

theorem reference_frame : Cert.quiescent_Reference5Ideal := fun m ρ _ =>
  (θ_run Cert.Reference5Ideal.defs _ _).mono
    (fun r h => ⟨fun c => (h c).2.2.2.2.2.2.2.2, Idealize.ShloMosaic.sem_eq_zero_of_no_sems (by decide) r.2⟩)
    (Cert.Reference5Ideal.Value.run (F := Ideal) m ρ)

set_option maxHeartbeats 2000000 in
theorem value_claim : Cert.algebraic_Kernel5Ideal_Reference5Ideal := by
  intro m ρ m' ρ' _ hagree
  refine ⟨_, _, _, _, _, _, _, _, Cert.Kernel5Ideal.Value.run_blocks m ρ, ?_⟩
  refine (θ_run Cert.Reference5Ideal.defs _ _).mono (fun _ h c => ?_)
    (Cert.Reference5Ideal.Value.run (F := Ideal) m' ρ')
  obtain ⟨g0, g1, g2, g3, g4⟩ := hagree c
  have h0 : StableHlo.launchContents m' c (Proc.devRef .tc Cert.Reference5Ideal.main_arg0) = A0 m c := g0
  have h1 : StableHlo.launchContents m' c (Proc.devRef .tc Cert.Reference5Ideal.main_arg1) = A1 m c := g1
  have h2 : StableHlo.launchContents m' c (Proc.devRef .tc Cert.Reference5Ideal.main_arg2) = A2 m c := g2
  have h3 : StableHlo.launchContents m' c (Proc.devRef .tc Cert.Reference5Ideal.main_arg3) = A3 m c := g3
  have h4 : StableHlo.launchContents m' c (Proc.devRef .tc Cert.Reference5Ideal.main_arg4) = A4 m c := g4
  obtain ⟨r0, r1, r2, r3, r4, r5, r6, r7, rest⟩ := h c
  refine ⟨r0.trans ?_, r1.trans ?_, r2.trans ?_, r3.trans ?_, r4.trans ?_, r5.trans ?_, r6.trans ?_, r7.trans ?_,
    rest⟩
  · rw [Cert.Reference5Ideal.Read.val_main_v162_eq, h0, h1, h2, h3, h4]
    exact (final_u m c).symm
  · rw [Cert.Reference5Ideal.Read.val_main_v164_eq, h0, h1, h2, h3, h4]
    exact (final_zs5 m c).symm
  · rw [Cert.Reference5Ideal.Read.val_main_v168_eq, h0, h1, h2, h3, h4]
    exact (final_q m c).symm
  · rw [Cert.Reference5Ideal.Read.val_main_v169_eq, h0, h1, h2, h3, h4]
    exact (final_kv m c).symm
  · rw [Cert.Reference5Ideal.Read.val_main_v170_eq, h0, h1, h2, h3, h4]
    exact (final_win m c).symm
  · rw [Cert.Reference5Ideal.Read.val_main_v174_eq, h0, h1, h2, h3, h4]
    exact (final_znsa m c).symm
  · rw [Cert.Reference5Ideal.Read.val_main_v176_eq, h0, h1, h2, h3, h4]
    exact (final_merge m c).symm
  · rw [Cert.Reference5Ideal.Read.val_main_v178_eq, h0, h1, h2, h3, h4]
    exact (final_gate m c).symm

end Cert.InprojS
end
-- ==== Proof.PostS.Stages.lean ====
module

public import proofs.«01_k».proof.Proof.Gen.Kernel4Ideal.Skeleton
public import proofs.«01_k».proof.Proof.Gen.Reference4Ideal.Read
public import proofs.«01_k».proof.Proof.Post.Stages
public import Idealize.ShloMosaic.Lib.Pointwise

@[expose] public section

set_option maxRecDepth 16384

noncomputable section

/-! The output stage of the layer, stage by stage: each payload of the kernel's body, over vectors whose entries are
entries of the layer's arrays, is the reference's stage at the row of the array the block's row lies at. -/

namespace Cert.PostS

open Idealize.ShloMosaic Idealize.ShloMosaic.TcCoe Idealize.SL.Sem
open Cert.Kernel4Ideal Cert.Kernel4Ideal.Gen
open Cert.Reference4Ideal.Read
open Cert.Post (lane unlane laneEquiv)

variable (x0 : FVec Ideal S128x1024 .f32) (x1 : FVec Ideal S32x1024 .f32) (x2 x3 : FVec Ideal S128x512 .f32)
  (x4 : FVec Ideal S128x512 .bf16) (x5 : FVec Ideal S128x512 .f32) (x6 : FVec Ideal S128x512 .bf16)
  (x7 : FVec Ideal S128x2048 .bf16) (x8 : FVec Ideal S512 .f32) (x9 : FVec Ideal S512x512 .f32)
  (x10 : FVec Ideal S512 .f32) (x11 x12 : FVec Ideal S512x1024 .f32) (x13 : FVec Ideal S1024x1024 .f32)
  (x14 : FVec Ideal S1024 .f32)

/-- The input of the gated unit: the scan's output plus the skip term. -/
theorem skip_at (r : Fin 128) (k : Fin 512) : val_main_v3 (F := Ideal) x2 x3 x8 (ix2 r k)
    = x2 (ix2 r k) + x8 (ix1 k) * x3 (ix2 r k) := by
  pointwise [val_main_v3, val_main_v2, val_main_v1, val_main_v0]

/-- The same at lane `q` of chunk `c`, the place in the row named. -/
theorem skip_of (r : Fin 128) (k k' : Fin 512) (h : k.val = k'.val) :
    val_main_v3 (F := Ideal) x2 x3 x8 (ix2 r k) = x2 (ix2 r k') + x8 (ix1 k') * x3 (ix2 r k') := by
  obtain rfl : k = k' := Fin.ext h
  exact skip_at x2 x3 x8 r k

/-- Lane `q` of chunk `c` of a row. -/
def at128 (c : Fin 4) (q : Fin 128) : Fin 512 := ⟨c.val * 128 + q.val, by omega⟩

/-- The gated unit's product with its output weights. -/
theorem gated_at
    (v8 v17 v26 v28 : FVec Ideal S128x128 .f32) (v29 : Vec Ideal S1x1x128 .f32) (v31 : Vec Ideal S1x128x128 .f32)
    (v51 : Vec Ideal S512x512 .bf16) (v54 : Vec Ideal S1x512 .f32) (v59 : Vec Ideal S128x512 .bf16)
    (v65 : Vec Ideal S512x1024 .bf16)
    (h8 : ∀ (p : Fin 128) (q : Fin 128), v8 (ix2 p q) = x2 (ix2 p (at128 0 q))
      + x8 (ix1 (at128 0 q)) * x3 (ix2 p (at128 0 q)))
    (h17 : ∀ (p : Fin 128) (q : Fin 128), v17 (ix2 p q) = x2 (ix2 p (at128 1 q))
      + x8 (ix1 (at128 1 q)) * x3 (ix2 p (at128 1 q)))
    (h26 : ∀ (p : Fin 128) (q : Fin 128), v26 (ix2 p q) = x2 (ix2 p (at128 2 q))
      + x8 (ix1 (at128 2 q)) * x3 (ix2 p (at128 2 q)))
    (h28 : ∀ (p : Fin 128) (q : Fin 128), v28 (ix2 p q) = x2 (ix2 p (at128 3 q)))
    (h29 : ∀ (q : Fin 128), v29 (ix3 (0 : Fin 1) (0 : Fin 1) q) = x8 (ix1 (at128 3 q)))
    (h31 : ∀ (p : Fin 128) (q : Fin 128), v31 (ix3 (0 : Fin 1) p q) = x3 (ix2 p (at128 3 q)))
    (h51 : ∀ (k j : Fin 512), v51 (ix2 k j) = x9 (ix2 k j))
    (h54 : ∀ (j : Fin 512), v54 (ix2 (0 : Fin 1) j) = x10 (ix1 j))
    (h59 : ∀ (p : Fin 128) (j : Fin 512), v59 (ix2 p j) = x4 (ix2 p j))
    (h65 : ∀ (k : Fin 512) (j : Fin 1024), v65 (ix2 k j) = x11 (ix2 k j))
    (p : Fin 128) (j : Fin 1024) :
    k0_pay6 (F := Ideal) v8 v17 v26 v28 v29 v31 v51 v54 v59 v65 (ix2 p j)
      = val_main_v31 (F := Ideal) x2 x3 x4 x8 x9 x10 x11 (ix2 p j) := by
  have hY : ∀ (p : Fin 128) (k : Fin 512), concatenate S128x512 1 [⟨S128x128, v8⟩, ⟨S128x128, v17⟩, ⟨S128x128, v26⟩, ⟨S128x128, addf v28 (mulf (broadcastTo S128x128 (shapeCast S1x128 v29 shapeCasts_S1x1x128_S1x128) broadcasts_S1x128_S128x128) (shapeCast S128x128 v31 shapeCasts_S1x128x128_S128x128))⟩] concatenates_S128x128_S128x128_S128x128_S128x128_S128x512_d1 (ix2 p k)
      = val_main_v3 (F := Ideal) x2 x3 x8 (ix2 p k) := by
    intro p k
    pointwise
    by_cases c1 : k.val < 128
    · rw [dif_pos c1, h8]; exact (skip_of x2 x3 x8 p k (at128 0 _) (by show k.val = 0 * 128 + k.val; omega)).symm
    rw [dif_neg c1]
    by_cases c2 : k.val - 128 < 128
    · rw [dif_pos c2, h17]; exact (skip_of x2 x3 x8 p k (at128 1 _) (by show k.val = 1 * 128 + (k.val - 128); omega)).symm
    rw [dif_neg c2]
    by_cases c3 : k.val - 128 - 128 < 128
    · rw [dif_pos c3, h26]; exact (skip_of x2 x3 x8 p k (at128 2 _) (by show k.val = 2 * 128 + (k.val - 128 - 128); omega)).symm
    · rw [dif_neg c3, h28, h29, h31]
      exact (skip_of x2 x3 x8 p k (at128 3 _) (by show k.val = 3 * 128 + (k.val - 128 - 128 - 128); omega)).symm
  unfold k0_pay6
  generalize concatenate S128x512 1 _ _ = Y at hY ⊢
  pointwise [val_main_v17, val_main_v16, val_main_v15, val_main_cst_2, val_main_v14, val_main_v13, val_main_cst_1, val_main_v12, val_main_v11, val_main_v10, val_main_cst_0, val_main_v9, val_main_v8, val_main_v7, val_main_cst, val_main_v6, val_main_v5, val_main_v4, val_main_v31, val_main_v30, val_main_v29, val_main_v28, val_main_v27, val_main_v26, val_main_v25, val_main_v24, val_main_v23, val_main_v22, val_main_v21, val_main_v20, val_main_v19, val_main_v18, val_main_cst_3, val_main_cst_4, val_main_call0_v5, val_main_call0_v4, val_main_call0_cst_0, val_main_call0_v3, val_main_call0_v2, val_main_call0_cst, val_main_call0_v1, val_main_call0_v0]
  have hh : ∀ a b c : EReal, a * b * c = b * (a * c) := fun a b c => by rw [mul_comm a b, mul_assoc]
  simp only [hY, h51, h54, h59, h65, Ideal.logistic, hh (Ideal.ofBits FTy.f32 1056964608#32)]

/-- The attention's columns, gated, times their output weights: the kernel's lanes are the array's heads in another
order, and its weights' rows are in that order too. -/
theorem heads_at (v68 : Vec Ideal S128x512 .f32) (v69 : Vec Ideal S128x512 .bf16)
    (v75 : Vec Ideal S512x1024 .bf16)
    (h68 : ∀ (p : Fin 128) (k : Fin 512), v68 (ix2 p k) = x5 (ix2 p k))
    (h69 : ∀ (p : Fin 128) (k : Fin 512), v69 (ix2 p k) = x6 (ix2 p k))
    (h75 : ∀ (k : Fin 512) (j : Fin 1024), v75 (ix2 k j) = x12 (ix2 (lane k) j))
    (p : Fin 128) (j : Fin 1024) :
    (∑ k : Fin 512, (v68 (ix2 p k) : EReal) * ((v69 (ix2 p k) : EReal) * Ideal.logistic (v69 (ix2 p k) : EReal)) * (v75 (ix2 k j) : EReal))
      = val_main_v41 (F := Ideal) x5 x6 x12 (ix2 p j) := by
  pointwise [val_main_v41, val_main_v40, val_main_v39, val_main_v38, val_main_v37, val_main_v36, val_main_v35, val_main_v34, val_main_v33, val_main_v32, val_main_call1_v5, val_main_call1_v4, val_main_call1_cst_0, val_main_call1_v3, val_main_call1_v2, val_main_call1_cst, val_main_call1_v1, val_main_call1_v0]
  refine Fintype.sum_equiv laneEquiv _ _ fun k => ?_
  have e : unlane (lane k) = k := laneEquiv.left_inv k
  have hk : (⟨(laneEquiv k).val / 64 % 4 * 128 + (laneEquiv k).val / 256 * 64 + (laneEquiv k).val % 64, by omega⟩ : Fin 512) = k := e
  rw [h68, h69, h75, hk]
  rfl

/-- The block's result, normalised and scaled. -/
theorem out_at
    (v67 : FVec Ideal S128x1024 .f32) (v68 : Vec Ideal S128x512 .f32) (v69 : Vec Ideal S128x512 .bf16)
    (v75 : Vec Ideal S512x1024 .bf16) (v78 : Vec Ideal S128x2048 .bf16) (v86 : Vec Ideal S128x1024 .f32)
    (v87 : Vec Ideal S128x1024 .f32) (v90 : Vec Ideal S1024x1024 .bf16) (v106 : Vec Ideal S1x1024 .f32)
    (h67 : ∀ (p : Fin 128) (j : Fin 1024), v67 (ix2 p j) = val_main_v31 (F := Ideal) x2 x3 x4 x8 x9 x10 x11 (ix2 p j))
    (h68 : ∀ (p : Fin 128) (k : Fin 512), v68 (ix2 p k) = x5 (ix2 p k))
    (h69 : ∀ (p : Fin 128) (k : Fin 512), v69 (ix2 p k) = x6 (ix2 p k))
    (h75 : ∀ (k : Fin 512) (j : Fin 1024), v75 (ix2 k j) = x12 (ix2 (lane k) j))
    (h78 : ∀ (p : Fin 128) (k : Fin 2048), v78 (ix2 p k) = x7 (ix2 p k))
    (h86 : ∀ (p : Fin 128) (k : Fin 1024), v86 (ix2 p k) = x0 (ix2 p k))
    (h87 : ∀ (p : Fin 128) (k : Fin 1024), v87 (ix2 p k) = x1 (ix2 (⟨p.val / 4, by omega⟩ : Fin 32) k))
    (h90 : ∀ (k j : Fin 1024), v90 (ix2 k j) = x13 (ix2 k j))
    (h106 : ∀ (k : Fin 1024), v106 (ix2 (0 : Fin 1) k) = x14 (ix1 k))
    (p : Fin 128) (j : Fin 1024) :
    k0_pay1 (k0_pay7 (F := Ideal) v67 v68 v69 v75 v78 v86 v87 v90) (k0_pay8 (F := Ideal) v106) (ix2 p j)
      = val_main_v74 (F := Ideal) x0 x1 x2 x3 x4 x5 x6 x7 x8 x9 x10 x11 x12 x13 x14 (ix2 p j) := by
  pointwise [k0_pay1, k0_pay7, k0_pay8, val_main_v74, val_main_v73, val_main_v72, val_main_v71, val_main_v70, val_main_v69, val_main_v68, val_main_v67, val_main_v66, val_main_v65, val_main_v64, val_main_v63, val_main_v62, val_main_v61, val_main_v60, val_main_cst_7, val_main_cst_8, val_main_cst_9, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_cst_5, val_main_cst_6]
  simp only [heads_at x5 x6 x12 v68 v69 v75 h68 h69 h75]
  simp only [h67, h78, h86, h87, h90, h106, Ideal.logistic]

end Cert.PostS
end
-- ==== Proof.PostS.Value.lean ====
module

public import proofs.«01_k».proof.Proof.PostS.Stages
public import proofs.«01_k».proof.Proof.Gen.Kernel4Ideal.Value
public import Idealize.ShloMosaic.Lib.Pipeline.ValueKit
public import Idealize.ShloMosaic.Lib.Routing.Ops

@[expose] public section

set_option maxRecDepth 16384

noncomputable section

/-! What the output stage's call leaves in its result: the reference's array. -/

namespace Cert.PostS

open Idealize.ShloMosaic Idealize.ShloMosaic.TcCoe Idealize.SL.Sem
open Idealize.ShloMosaic.Pipeline (Dat)
open Cert.Kernel4Ideal Cert.Kernel4Ideal.Gen
open Cert.Reference4Ideal.Read
open Cert.Post (lane)

/-- The table of the weights' rows, in closed form. -/
theorem lit_eq : ∀ k : Fin 512, lit0 k = BitVec.ofNat 32 (lane k).val := by decide +kernel

variable (m : (ℓ : Loc nD τ sig) → Buf (Elt Ideal) ℓ)

/-- The rows of the weights the kernel is given, in the order of its lanes. -/
theorem rows_at (c : Dev nD) (k : Fin 512) (j : Fin 1024) :
    V m c main_v15 (ix2 k j) = m ((c : Thread nD τ).loc main_arg12) (ix2 (lane k) j) := by
  entry_read
  refine (Routing.gather_row gather_S512x1024_S512x1_S512x1024_1_0_n_n_0_1_11024 rfl rfl rfl rfl rfl _ _ k j (lane k) ?_ (by decide)).trans ?_
  · pointwise
    exact (congrArg lit0 (Fin.ext (Shape.rowMajor_val_one _))).trans (lit_eq k)
  · rfl

theorem skip_weight_at (c : Dev nD) (a : Fin 4) (q : Fin 128) :
    (V m c main_v6 (ix3 a (0 : Fin 1) q) : EReal) = m ((c : Thread nD τ).loc main_arg8) (ix1 (at128 a q)) := by
  entry_read
  pointwise
  rfl

theorem skip_row_at (c : Dev nD) (a : Fin 4) (p : Fin 128) (q : Fin 128) :
    (V m c main_v5 (ix3 a p q) : EReal) = m ((c : Thread nD τ).loc main_arg3) (ix2 p (at128 a q)) := by
  entry_read
  pointwise
  rfl

theorem idx : ∀ t : Fin cfg0.N, win0_0.index t = ![0, 0]
    ∧ win0_1.index t = ![0, 0]
    ∧ win0_2.index t = ![0, 0, 0]
    ∧ win0_3.index t = ![0, 0, 0]
    ∧ win0_4.index t = ![0, 0]
    ∧ win0_5.index t = ![0, 0]
    ∧ win0_6.index t = ![0, 0]
    ∧ win0_7.index t = ![0, 0]
    ∧ win0_8.index t = ![0, 0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0] :=
  (by decide +kernel : ∀ t : Fin grid0.N, _)

/-- The skip's last chunk of weights and of rows, as the body loads them. -/
theorem ld_skip_weight (c : Dev nD) (t : Fin cfg0.N) (q : Fin 128) :
    (View.ld (iblk m c 8 t) r0_7 (ix3 (0 : Fin 1) (0 : Fin 1) q : S1x1x128.Idx) : EReal) = m ((c : Thread nD τ).loc main_arg8) (ix1 (at128 3 q)) := by
  refine Eq.trans ?_ (skip_weight_at m c 3 q)
  unfold iblk
  generalize V m c = Z
  show (View.ld (View.read (Elt Ideal) ((cfg0.win 8).blk t).view (Z main_v6)) r0_7 (ix3 (0 : Fin 1) (0 : Fin 1) q : S1x1x128.Idx) : EReal) = _
  generalize Z main_v6 = w
  unfold View.ld View.read
  blk_ext [idx t]
  · rfl
  · show 0 + 1 * q.val = q.val; omega

@[inherit_doc ld_skip_weight]
theorem ld_skip_row (c : Dev nD) (t : Fin cfg0.N) (p q : Fin 128) :
    (View.ld (iblk m c 3 t) r0_6 (ix3 (0 : Fin 1) p q : S1x128x128.Idx) : EReal) = m ((c : Thread nD τ).loc main_arg3) (ix2 p (at128 3 q)) := by
  refine Eq.trans ?_ (skip_row_at m c 3 p q)
  unfold iblk
  generalize V m c = Z
  show (View.ld (View.read (Elt Ideal) ((cfg0.win 3).blk t).view (Z main_v5)) r0_6 (ix3 (0 : Fin 1) p q : S1x128x128.Idx) : EReal) = _
  generalize Z main_v5 = w
  unfold View.ld View.read
  blk_ext [idx t]
  · rfl
  · show 0 + 1 * p.val = p.val; omega
  · show 0 + 1 * q.val = q.val; omega

theorem final (c : Dev nD) : (dats m 0 c).arrAt 15 (cfgs 0).N
    = val_main_v74 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13))
      (m ((c : Thread nD τ).loc main_arg14)) := by
  refine (dats m 0 c).arrAt_eq_of_covers 15 _ (by decide +kernel) fun t _ y => ?_
  blk_simp
  rw [after0_15]
  frame_out
  obtain ⟨p, j, rfl⟩ : ∃ (p : Fin 128) (j : Fin 1024), y = (ix2 p j : S128x1024.Idx) :=
    ⟨⟨(y 0).val, by idx_bounds y; omega⟩, ⟨(y 1).val, by idx_bounds y; omega⟩, by blk_ext⟩
  have e : (((View.whole main_v18).slice (win0_15.rect t)).emb (ix2 p j : S128x1024.Idx)) = (ix2 p j : S128x1024.Idx) := by
    blk_ext [idx t]
  rw [e]
  refine out_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) _ _ _ _ _ _ _ _ _ ?_ ?_ ?_ ?_ ?_ ?_ ?_ ?_ ?_ _ _
  · refine gated_at _ _ _ _ _ _ _ _ _ _ _ _ _ _ _ _ _ ?_ ?_ ?_ ?_ ?_ ?_ ?_ ?_ ?_ ?_
    · intro p q; pointwise [k0_pay2]; blk_point [iblk, V, idx t] <;> rfl
    · intro p q; pointwise [k0_pay3]; blk_point [iblk, V, idx t] <;> rfl
    · intro p q; pointwise [k0_pay4]; blk_point [iblk, V, idx t] <;> rfl
    · intro p q; pointwise [k0_pay5]; blk_point [iblk, V, idx t] <;> rfl
    · intro q; exact ld_skip_weight m c t q
    · intro p q; exact ld_skip_row m c t p q
    · intro p q; blk_point [iblk, V, idx t]
    · intro p; blk_point [iblk, V, idx t]
    · intro p q; blk_point [iblk, V, idx t]
    · intro p q; blk_point [iblk, V, idx t]
  · intro p q; blk_point [iblk, V, idx t]
  · intro p q; blk_point [iblk, V, idx t]
  · intro p q
    refine Eq.trans ?_ (rows_at m c p q)
    blk_point [iblk, idx t]
  · intro p q; blk_point [iblk, V, idx t]
  · intro p q; blk_point [iblk, V, idx t]
  · intro p q; blk_point [iblk, V, idx t]
  · intro p q; blk_point [iblk, V, idx t]
  · intro q; blk_point [iblk, V, idx t]

end Cert.PostS
end
-- ==== Proof.PostS.Claims.lean ====
module

public import proofs.«01_k».proof.Defs
public import proofs.«01_k».proof.Proof.PostS.Value
public import proofs.«01_k».proof.Proof.Gen.Reference4Ideal.Run
public import Idealize.ShloMosaic.Lib.Quiescent
public import Idealize.ShloMosaic.Adequacy
public import Idealize.ShloMosaic.Init

@[expose] public section

noncomputable section

/-! The two claims about the sample group's output stage: its reference's run, and that the kernel's run ends with the reference's
result. -/

namespace Cert.PostS

open Idealize.ShloMosaic Idealize.ShloMosaic.TcCoe Idealize.SL.Sem

theorem reference_frame : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem value_claim : Cert.algebraic_Kernel4Ideal_Reference4Ideal := by
  intro m ρ m' ρ' _ hagree
  refine ⟨_, Cert.Kernel4Ideal.Value.run_blocks m ρ, ?_⟩
  refine (θ_run Cert.Reference4Ideal.defs _ _).mono (fun _ h c => ⟨(h c).1.trans ?_, (h c).2⟩)
    (Cert.Reference4Ideal.Value.run (F := Ideal) m' ρ')
  obtain ⟨h0, h1, h2, h3, h4, h5, h6, h7, h8, h9, h10, h11, h12, h13, h14⟩ := hagree c
  rw [Cert.Reference4Ideal.Read.val_main_v74_eq, h0, h1, h2, h3, h4, h5, h6, h7, h8, h9, h10, h11, h12, h13, h14]
  exact (final m c).symm

end Cert.PostS
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read
public import proofs.«01_k».proof.Proof.Kernel.Run
public import proofs.«01_k».proof.Proof.KernelIdeal.Run
public import proofs.«01_k».proof.Proof.Inproj.Claims
public import proofs.«01_k».proof.Proof.Post.Claims
public import proofs.«01_k».proof.Proof.InprojS.Claims
public import proofs.«01_k».proof.Proof.PostS.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts,
  ⟨fun m ρ _ => Cert.Kernel.Hand.frame_claim m ρ, fun m ρ _ => Cert.KernelIdeal.Hand.frame_claim m ρ,
    fun m ρ _ => Cert.Kernel2.Gen.frame m ρ, fun m ρ _ => Cert.Kernel2Ideal.Gen.frame m ρ, Cert.Inproj.reference_frame,
    fun m ρ _ => Cert.Kernel3.Gen.frame m ρ, fun m ρ _ => Cert.Kernel3Ideal.Gen.frame m ρ, Cert.Post.reference_frame,
    fun m ρ _ => Cert.Kernel4.Gen.frame m ρ, fun m ρ _ => Cert.Kernel4Ideal.Gen.frame m ρ, Cert.PostS.reference_frame,
    fun m ρ _ => Cert.Kernel5.Gen.frame m ρ, fun m ρ _ => Cert.Kernel5Ideal.Gen.frame m ρ, Cert.InprojS.reference_frame,
    ⟨IdealRules.named_const.statement Cert.KernelIdeal.κ "mask" .f32 0xF149F2CA#32 ⊥ rfl,
      IdealRules.named_const.statement Cert.KernelIdeal.κ "keep" .f32 0x7149F2CA#32 ⊤ rfl⟩,
    trivial, Cert.Inproj.value_claim, trivial, Cert.Post.value_claim, trivial, Cert.PostS.value_claim, trivial,
    Cert.InprojS.value_claim⟩⟩

end Cert.Proof

end
